-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnReferenceIdeal (m : (ℓ : Loc Cert.OutFfnReferenceIdeal.nD Cert.OutFfnReferenceIdeal.τ Cert.OutFfnReferenceIdeal.sig) → Buf (Elt Ideal) ℓ) : Prop :=
  True

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInReferenceIdeal (m : (ℓ : Loc Cert.MixerInReferenceIdeal.nD Cert.MixerInReferenceIdeal.τ Cert.MixerInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10)
      ∧ r.2.mem ((c.tc : Thread Cert.OutFfn.nD Cert.OutFfn.τ).loc Cert.OutFfn.main_arg11) = m ((c.tc : Thread Cert.OutFfn.nD Cert.OutFfn.τ).loc Cert.OutFfn.main_arg11)
      ∧ r.2.mem ((c.tc : Thread Cert.OutFfn.nD Cert.OutFfn.τ).loc Cert.OutFfn.main_arg12) = m ((c.tc : Thread Cert.OutFfn.nD Cert.OutFfn.τ).loc Cert.OutFfn.main_arg12)
      ∧ r.2.mem ((c.tc : Thread Cert.OutFfn.nD Cert.OutFfn.τ).loc Cert.OutFfn.main_arg13) = m ((c.tc : Thread Cert.OutFfn.nD Cert.OutFfn.τ).loc Cert.OutFfn.main_arg13)
      ∧ r.2.mem ((c.tc : Thread Cert.OutFfn.nD Cert.OutFfn.τ).loc Cert.OutFfn.main_arg14) = m ((c.tc : Thread Cert.OutFfn.nD Cert.OutFfn.τ).loc Cert.OutFfn.main_arg14))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
      ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
      ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
      ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13)
      ∧ r.2.mem ((c.tc : Thread Cert.OutFfnIdeal.nD Cert.OutFfnIdeal.τ).loc Cert.OutFfnIdeal.main_arg14) = m ((c.tc : Thread Cert.OutFfnIdeal.nD Cert.OutFfnIdeal.τ).loc Cert.OutFfnIdeal.main_arg14))
      ∧ r.2.sem = fun _ => 0)

def quiescent_OutFfnReferenceIdeal [hOutFfnReferenceIdeal : Cert.OutFfnReferenceIdeal.Facts] : Prop :=
  ∀ (m : (ℓ : Loc Cert.OutFfnReferenceIdeal.nD Cert.OutFfnReferenceIdeal.τ Cert.OutFfnReferenceIdeal.sig) → Buf (Elt Ideal) ℓ) (g : Dev Cert.OutFfnReferenceIdeal.nD → PrngReg), Pre_OutFfnReferenceIdeal m →
    θ_run (Cert.OutFfnReferenceIdeal.defs (F := Ideal)) (onTc (τ := Cert.OutFfnReferenceIdeal.τ) (Cert.OutFfnReferenceIdeal.main (F := Ideal))) ⟨m, fun _ => 0, g⟩ (fun r => (∀ c : Dev Cert.OutFfnReferenceIdeal.nD,
      r.2.mem ((c.tc : Thread Cert.OutFfnReferenceIdeal.nD Cert.OutFfnReferenceIdeal.τ).loc Cert.OutFfnReferenceIdeal.main_arg0) = m ((c.tc : Thread Cert.OutFfnReferenceIdeal.nD Cert.OutFfnReferenceIdeal.τ).loc Cert.OutFfnReferenceIdeal.main_arg0)
      ∧ r.2.mem ((c.tc : Thread Cert.OutFfnReferenceIdeal.nD Cert.OutFfnReferenceIdeal.τ).loc Cert.OutFfnReferenceIdeal.main_arg1) = m ((c.tc : Thread Cert.OutFfnReferenceIdeal.nD Cert.OutFfnReferenceIdeal.τ).loc Cert.OutFfnReferenceIdeal.main_arg1)
      ∧ r.2.mem ((c.tc : Thread Cert.OutFfnReferenceIdeal.nD Cert.OutFfnReferenceIdeal.τ).loc Cert.OutFfnReferenceIdeal.main_arg2) = m ((c.tc : Thread Cert.OutFfnReferenceIdeal.nD Cert.OutFfnReferenceIdeal.τ).loc Cert.OutFfnReferenceIdeal.main_arg2)
      ∧ r.2.mem ((c.tc : Thread Cert.OutFfnReferenceIdeal.nD Cert.OutFfnReferenceIdeal.τ).loc Cert.OutFfnReferenceIdeal.main_arg3) = m ((c.tc : Thread Cert.OutFfnReferenceIdeal.nD Cert.OutFfnReferenceIdeal.τ).loc Cert.OutFfnReferenceIdeal.main_arg3)
      ∧ r.2.mem ((c.tc : Thread Cert.OutFfnReferenceIdeal.nD Cert.OutFfnReferenceIdeal.τ).loc Cert.OutFfnReferenceIdeal.main_arg4) = m ((c.tc : Thread Cert.OutFfnReferenceIdeal.nD Cert.OutFfnReferenceIdeal.τ).loc Cert.OutFfnReferenceIdeal.main_arg4)
      ∧ r.2.mem ((c.tc : Thread Cert.OutFfnReferenceIdeal.nD Cert.OutFfnReferenceIdeal.τ).loc Cert.OutFfnReferenceIdeal.main_arg5) = m ((c.tc : Thread Cert.OutFfnReferenceIdeal.nD Cert.OutFfnReferenceIdeal.τ).loc Cert.OutFfnReferenceIdeal.main_arg5)
      ∧ r.2.mem ((c.tc : Thread Cert.OutFfnReferenceIdeal.nD Cert.OutFfnReferenceIdeal.τ).loc Cert.OutFfnReferenceIdeal.main_arg6) = m ((c.tc : Thread Cert.OutFfnReferenceIdeal.nD Cert.OutFfnReferenceIdeal.τ).loc Cert.OutFfnReferenceIdeal.main_arg6)
      ∧ r.2.mem ((c.tc : Thread Cert.OutFfnReferenceIdeal.nD Cert.OutFfnReferenceIdeal.τ).loc Cert.OutFfnReferenceIdeal.main_arg7) = m ((c.tc : Thread Cert.OutFfnReferenceIdeal.nD Cert.OutFfnReferenceIdeal.τ).loc Cert.OutFfnReferenceIdeal.main_arg7)
      ∧ r.2.mem ((c.tc : Thread Cert.OutFfnReferenceIdeal.nD Cert.OutFfnReferenceIdeal.τ).loc Cert.OutFfnReferenceIdeal.main_arg8) = m ((c.tc : Thread Cert.OutFfnReferenceIdeal.nD Cert.OutFfnReferenceIdeal.τ).loc Cert.OutFfnReferenceIdeal.main_arg8)
      ∧ r.2.mem ((c.tc : Thread Cert.OutFfnReferenceIdeal.nD Cert.OutFfnReferenceIdeal.τ).loc Cert.OutFfnReferenceIdeal.main_arg9) = m ((c.tc : Thread Cert.OutFfnReferenceIdeal.nD Cert.OutFfnReferenceIdeal.τ).loc Cert.OutFfnReferenceIdeal.main_arg9)
      ∧ r.2.mem ((c.tc : Thread Cert.OutFfnReferenceIdeal.nD Cert.OutFfnReferenceIdeal.τ).loc Cert.OutFfnReferenceIdeal.main_arg10) = m ((c.tc : Thread Cert.OutFfnReferenceIdeal.nD Cert.OutFfnReferenceIdeal.τ).loc Cert.OutFfnReferenceIdeal.main_arg10)
      ∧ r.2.mem ((c.tc : Thread Cert.OutFfnReferenceIdeal.nD Cert.OutFfnReferenceIdeal.τ).loc Cert.OutFfnReferenceIdeal.main_arg11) = m ((c.tc : Thread Cert.OutFfnReferenceIdeal.nD Cert.OutFfnReferenceIdeal.τ).loc Cert.OutFfnReferenceIdeal.main_arg11)
      ∧ r.2.mem ((c.tc : Thread Cert.OutFfnReferenceIdeal.nD Cert.OutFfnReferenceIdeal.τ).loc Cert.OutFfnReferenceIdeal.main_arg12) = m ((c.tc : Thread Cert.OutFfnReferenceIdeal.nD Cert.OutFfnReferenceIdeal.τ).loc Cert.OutFfnReferenceIdeal.main_arg12)
      ∧ r.2.mem ((c.tc : Thread Cert.OutFfnReferenceIdeal.nD Cert.OutFfnReferenceIdeal.τ).loc Cert.OutFfnReferenceIdeal.main_arg13) = m ((c.tc : Thread Cert.OutFfnReferenceIdeal.nD Cert.OutFfnReferenceIdeal.τ).loc Cert.OutFfnReferenceIdeal.main_arg13)
      ∧ r.2.mem ((c.tc : Thread Cert.OutFfnReferenceIdeal.nD Cert.OutFfnReferenceIdeal.τ).loc Cert.OutFfnReferenceIdeal.main_arg14) = m ((c.tc : Thread Cert.OutFfnReferenceIdeal.nD Cert.OutFfnReferenceIdeal.τ).loc Cert.OutFfnReferenceIdeal.main_arg14))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2)
      ∧ r.2.mem ((c.tc : Thread Cert.MixerIn.nD Cert.MixerIn.τ).loc Cert.MixerIn.main_arg3) = m ((c.tc : Thread Cert.MixerIn.nD Cert.MixerIn.τ).loc Cert.MixerIn.main_arg3)
      ∧ r.2.mem ((c.tc : Thread Cert.MixerIn.nD Cert.MixerIn.τ).loc Cert.MixerIn.main_arg4) = m ((c.tc : Thread Cert.MixerIn.nD Cert.MixerIn.τ).loc Cert.MixerIn.main_arg4)
      ∧ r.2.mem ((c.tc : Thread Cert.MixerIn.nD Cert.MixerIn.τ).loc Cert.MixerIn.main_arg5) = m ((c.tc : Thread Cert.MixerIn.nD Cert.MixerIn.τ).loc Cert.MixerIn.main_arg5)
      ∧ r.2.mem ((c.tc : Thread Cert.MixerIn.nD Cert.MixerIn.τ).loc Cert.MixerIn.main_arg6) = m ((c.tc : Thread Cert.MixerIn.nD Cert.MixerIn.τ).loc Cert.MixerIn.main_arg6)
      ∧ r.2.mem ((c.tc : Thread Cert.MixerIn.nD Cert.MixerIn.τ).loc Cert.MixerIn.main_arg7) = m ((c.tc : Thread Cert.MixerIn.nD Cert.MixerIn.τ).loc Cert.MixerIn.main_arg7)
      ∧ r.2.mem ((c.tc : Thread Cert.MixerIn.nD Cert.MixerIn.τ).loc Cert.MixerIn.main_arg8) = m ((c.tc : Thread Cert.MixerIn.nD Cert.MixerIn.τ).loc Cert.MixerIn.main_arg8)
      ∧ r.2.mem ((c.tc : Thread Cert.MixerIn.nD Cert.MixerIn.τ).loc Cert.MixerIn.main_arg9) = m ((c.tc : Thread Cert.MixerIn.nD Cert.MixerIn.τ).loc Cert.MixerIn.main_arg9)
      ∧ r.2.mem ((c.tc : Thread Cert.MixerIn.nD Cert.MixerIn.τ).loc Cert.MixerIn.main_arg10) = m ((c.tc : Thread Cert.MixerIn.nD Cert.MixerIn.τ).loc Cert.MixerIn.main_arg10)
      ∧ r.2.mem ((c.tc : Thread Cert.MixerIn.nD Cert.MixerIn.τ).loc Cert.MixerIn.main_arg11) = m ((c.tc : Thread Cert.MixerIn.nD Cert.MixerIn.τ).loc Cert.MixerIn.main_arg11)
      ∧ r.2.mem ((c.tc : Thread Cert.MixerIn.nD Cert.MixerIn.τ).loc Cert.MixerIn.main_arg12) = m ((c.tc : Thread Cert.MixerIn.nD Cert.MixerIn.τ).loc Cert.MixerIn.main_arg12)
      ∧ r.2.mem ((c.tc : Thread Cert.MixerIn.nD Cert.MixerIn.τ).loc Cert.MixerIn.main_arg13) = m ((c.tc : Thread Cert.MixerIn.nD Cert.MixerIn.τ).loc Cert.MixerIn.main_arg13)
      ∧ r.2.mem ((c.tc : Thread Cert.MixerIn.nD Cert.MixerIn.τ).loc Cert.MixerIn.main_arg14) = m ((c.tc : Thread Cert.MixerIn.nD Cert.MixerIn.τ).loc Cert.MixerIn.main_arg14)
      ∧ r.2.mem ((c.tc : Thread Cert.MixerIn.nD Cert.MixerIn.τ).loc Cert.MixerIn.main_arg15) = m ((c.tc : Thread Cert.MixerIn.nD Cert.MixerIn.τ).loc Cert.MixerIn.main_arg15)
      ∧ r.2.mem ((c.tc : Thread Cert.MixerIn.nD Cert.MixerIn.τ).loc Cert.MixerIn.main_arg16) = m ((c.tc : Thread Cert.MixerIn.nD Cert.MixerIn.τ).loc Cert.MixerIn.main_arg16)
      ∧ r.2.mem ((c.tc : Thread Cert.MixerIn.nD Cert.MixerIn.τ).loc Cert.MixerIn.main_arg17) = m ((c.tc : Thread Cert.MixerIn.nD Cert.MixerIn.τ).loc Cert.MixerIn.main_arg17))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
      ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
      ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
      ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
      ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
      ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
      ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
      ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9)
      ∧ r.2.mem ((c.tc : Thread Cert.MixerInIdeal.nD Cert.MixerInIdeal.τ).loc Cert.MixerInIdeal.main_arg10) = m ((c.tc : Thread Cert.MixerInIdeal.nD Cert.MixerInIdeal.τ).loc Cert.MixerInIdeal.main_arg10)
      ∧ r.2.mem ((c.tc : Thread Cert.MixerInIdeal.nD Cert.MixerInIdeal.τ).loc Cert.MixerInIdeal.main_arg11) = m ((c.tc : Thread Cert.MixerInIdeal.nD Cert.MixerInIdeal.τ).loc Cert.MixerInIdeal.main_arg11)
      ∧ r.2.mem ((c.tc : Thread Cert.MixerInIdeal.nD Cert.MixerInIdeal.τ).loc Cert.MixerInIdeal.main_arg12) = m ((c.tc : Thread Cert.MixerInIdeal.nD Cert.MixerInIdeal.τ).loc Cert.MixerInIdeal.main_arg12)
      ∧ r.2.mem ((c.tc : Thread Cert.MixerInIdeal.nD Cert.MixerInIdeal.τ).loc Cert.MixerInIdeal.main_arg13) = m ((c.tc : Thread Cert.MixerInIdeal.nD Cert.MixerInIdeal.τ).loc Cert.MixerInIdeal.main_arg13)
      ∧ r.2.mem ((c.tc : Thread Cert.MixerInIdeal.nD Cert.MixerInIdeal.τ).loc Cert.MixerInIdeal.main_arg14) = m ((c.tc : Thread Cert.MixerInIdeal.nD Cert.MixerInIdeal.τ).loc Cert.MixerInIdeal.main_arg14)
      ∧ r.2.mem ((c.tc : Thread Cert.MixerInIdeal.nD Cert.MixerInIdeal.τ).loc Cert.MixerInIdeal.main_arg15) = m ((c.tc : Thread Cert.MixerInIdeal.nD Cert.MixerInIdeal.τ).loc Cert.MixerInIdeal.main_arg15)
      ∧ r.2.mem ((c.tc : Thread Cert.MixerInIdeal.nD Cert.MixerInIdeal.τ).loc Cert.MixerInIdeal.main_arg16) = m ((c.tc : Thread Cert.MixerInIdeal.nD Cert.MixerInIdeal.τ).loc Cert.MixerInIdeal.main_arg16)
      ∧ r.2.mem ((c.tc : Thread Cert.MixerInIdeal.nD Cert.MixerInIdeal.τ).loc Cert.MixerInIdeal.main_arg17) = m ((c.tc : Thread Cert.MixerInIdeal.nD Cert.MixerInIdeal.τ).loc Cert.MixerInIdeal.main_arg17))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1)
      ∧ r.2.mem ((c.tc : Thread Cert.MixerInReferenceIdeal.nD Cert.MixerInReferenceIdeal.τ).loc Cert.MixerInReferenceIdeal.main_arg2) = m ((c.tc : Thread Cert.MixerInReferenceIdeal.nD Cert.MixerInReferenceIdeal.τ).loc Cert.MixerInReferenceIdeal.main_arg2)
      ∧ r.2.mem ((c.tc : Thread Cert.MixerInReferenceIdeal.nD Cert.MixerInReferenceIdeal.τ).loc Cert.MixerInReferenceIdeal.main_arg3) = m ((c.tc : Thread Cert.MixerInReferenceIdeal.nD Cert.MixerInReferenceIdeal.τ).loc Cert.MixerInReferenceIdeal.main_arg3)
      ∧ r.2.mem ((c.tc : Thread Cert.MixerInReferenceIdeal.nD Cert.MixerInReferenceIdeal.τ).loc Cert.MixerInReferenceIdeal.main_arg4) = m ((c.tc : Thread Cert.MixerInReferenceIdeal.nD Cert.MixerInReferenceIdeal.τ).loc Cert.MixerInReferenceIdeal.main_arg4)
      ∧ r.2.mem ((c.tc : Thread Cert.MixerInReferenceIdeal.nD Cert.MixerInReferenceIdeal.τ).loc Cert.MixerInReferenceIdeal.main_arg5) = m ((c.tc : Thread Cert.MixerInReferenceIdeal.nD Cert.MixerInReferenceIdeal.τ).loc Cert.MixerInReferenceIdeal.main_arg5)
      ∧ r.2.mem ((c.tc : Thread Cert.MixerInReferenceIdeal.nD Cert.MixerInReferenceIdeal.τ).loc Cert.MixerInReferenceIdeal.main_arg6) = m ((c.tc : Thread Cert.MixerInReferenceIdeal.nD Cert.MixerInReferenceIdeal.τ).loc Cert.MixerInReferenceIdeal.main_arg6)
      ∧ r.2.mem ((c.tc : Thread Cert.MixerInReferenceIdeal.nD Cert.MixerInReferenceIdeal.τ).loc Cert.MixerInReferenceIdeal.main_arg7) = m ((c.tc : Thread Cert.MixerInReferenceIdeal.nD Cert.MixerInReferenceIdeal.τ).loc Cert.MixerInReferenceIdeal.main_arg7)
      ∧ r.2.mem ((c.tc : Thread Cert.MixerInReferenceIdeal.nD Cert.MixerInReferenceIdeal.τ).loc Cert.MixerInReferenceIdeal.main_arg8) = m ((c.tc : Thread Cert.MixerInReferenceIdeal.nD Cert.MixerInReferenceIdeal.τ).loc Cert.MixerInReferenceIdeal.main_arg8)
      ∧ r.2.mem ((c.tc : Thread Cert.MixerInReferenceIdeal.nD Cert.MixerInReferenceIdeal.τ).loc Cert.MixerInReferenceIdeal.main_arg9) = m ((c.tc : Thread Cert.MixerInReferenceIdeal.nD Cert.MixerInReferenceIdeal.τ).loc Cert.MixerInReferenceIdeal.main_arg9)
      ∧ r.2.mem ((c.tc : Thread Cert.MixerInReferenceIdeal.nD Cert.MixerInReferenceIdeal.τ).loc Cert.MixerInReferenceIdeal.main_arg10) = m ((c.tc : Thread Cert.MixerInReferenceIdeal.nD Cert.MixerInReferenceIdeal.τ).loc Cert.MixerInReferenceIdeal.main_arg10)
      ∧ r.2.mem ((c.tc : Thread Cert.MixerInReferenceIdeal.nD Cert.MixerInReferenceIdeal.τ).loc Cert.MixerInReferenceIdeal.main_arg11) = m ((c.tc : Thread Cert.MixerInReferenceIdeal.nD Cert.MixerInReferenceIdeal.τ).loc Cert.MixerInReferenceIdeal.main_arg11)
      ∧ r.2.mem ((c.tc : Thread Cert.MixerInReferenceIdeal.nD Cert.MixerInReferenceIdeal.τ).loc Cert.MixerInReferenceIdeal.main_arg12) = m ((c.tc : Thread Cert.MixerInReferenceIdeal.nD Cert.MixerInReferenceIdeal.τ).loc Cert.MixerInReferenceIdeal.main_arg12)
      ∧ r.2.mem ((c.tc : Thread Cert.MixerInReferenceIdeal.nD Cert.MixerInReferenceIdeal.τ).loc Cert.MixerInReferenceIdeal.main_arg13) = m ((c.tc : Thread Cert.MixerInReferenceIdeal.nD Cert.MixerInReferenceIdeal.τ).loc Cert.MixerInReferenceIdeal.main_arg13)
      ∧ r.2.mem ((c.tc : Thread Cert.MixerInReferenceIdeal.nD Cert.MixerInReferenceIdeal.τ).loc Cert.MixerInReferenceIdeal.main_arg14) = m ((c.tc : Thread Cert.MixerInReferenceIdeal.nD Cert.MixerInReferenceIdeal.τ).loc Cert.MixerInReferenceIdeal.main_arg14)
      ∧ r.2.mem ((c.tc : Thread Cert.MixerInReferenceIdeal.nD Cert.MixerInReferenceIdeal.τ).loc Cert.MixerInReferenceIdeal.main_arg15) = m ((c.tc : Thread Cert.MixerInReferenceIdeal.nD Cert.MixerInReferenceIdeal.τ).loc Cert.MixerInReferenceIdeal.main_arg15)
      ∧ r.2.mem ((c.tc : Thread Cert.MixerInReferenceIdeal.nD Cert.MixerInReferenceIdeal.τ).loc Cert.MixerInReferenceIdeal.main_arg16) = m ((c.tc : Thread Cert.MixerInReferenceIdeal.nD Cert.MixerInReferenceIdeal.τ).loc Cert.MixerInReferenceIdeal.main_arg16)
      ∧ r.2.mem ((c.tc : Thread Cert.MixerInReferenceIdeal.nD Cert.MixerInReferenceIdeal.τ).loc Cert.MixerInReferenceIdeal.main_arg17) = m ((c.tc : Thread Cert.MixerInReferenceIdeal.nD Cert.MixerInReferenceIdeal.τ).loc Cert.MixerInReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OutFfn_OutFfnIdeal : Prop :=
  True

def algebraic_OutFfnIdeal_OutFfnReferenceIdeal [hOutFfnIdeal : Cert.OutFfnIdeal.Facts] [hOutFfnReferenceIdeal : Cert.OutFfnReferenceIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnReferenceIdeal.nD Cert.OutFfnReferenceIdeal.τ Cert.OutFfnReferenceIdeal.sig) → Buf (Elt Ideal) ℓ) (g' : Dev Cert.OutFfnReferenceIdeal.nD → PrngReg), Pre_OutFfnIdeal m →
    (∀ c : Dev Cert.OutFfnIdeal.nD,
      m' ((c.tc : Thread Cert.OutFfnReferenceIdeal.nD Cert.OutFfnReferenceIdeal.τ).loc Cert.OutFfnReferenceIdeal.main_arg0) = m ((c.tc : Thread Cert.OutFfnIdeal.nD Cert.OutFfnIdeal.τ).loc Cert.OutFfnIdeal.main_arg0)
      ∧ m' ((c.tc : Thread Cert.OutFfnReferenceIdeal.nD Cert.OutFfnReferenceIdeal.τ).loc Cert.OutFfnReferenceIdeal.main_arg1) = m ((c.tc : Thread Cert.OutFfnIdeal.nD Cert.OutFfnIdeal.τ).loc Cert.OutFfnIdeal.main_arg1)
      ∧ m' ((c.tc : Thread Cert.OutFfnReferenceIdeal.nD Cert.OutFfnReferenceIdeal.τ).loc Cert.OutFfnReferenceIdeal.main_arg2) = m ((c.tc : Thread Cert.OutFfnIdeal.nD Cert.OutFfnIdeal.τ).loc Cert.OutFfnIdeal.main_arg2)
      ∧ m' ((c.tc : Thread Cert.OutFfnReferenceIdeal.nD Cert.OutFfnReferenceIdeal.τ).loc Cert.OutFfnReferenceIdeal.main_arg3) = m ((c.tc : Thread Cert.OutFfnIdeal.nD Cert.OutFfnIdeal.τ).loc Cert.OutFfnIdeal.main_arg3)
      ∧ m' ((c.tc : Thread Cert.OutFfnReferenceIdeal.nD Cert.OutFfnReferenceIdeal.τ).loc Cert.OutFfnReferenceIdeal.main_arg4) = m ((c.tc : Thread Cert.OutFfnIdeal.nD Cert.OutFfnIdeal.τ).loc Cert.OutFfnIdeal.main_arg4)
      ∧ m' ((c.tc : Thread Cert.OutFfnReferenceIdeal.nD Cert.OutFfnReferenceIdeal.τ).loc Cert.OutFfnReferenceIdeal.main_arg5) = m ((c.tc : Thread Cert.OutFfnIdeal.nD Cert.OutFfnIdeal.τ).loc Cert.OutFfnIdeal.main_arg5)
      ∧ m' ((c.tc : Thread Cert.OutFfnReferenceIdeal.nD Cert.OutFfnReferenceIdeal.τ).loc Cert.OutFfnReferenceIdeal.main_arg6) = m ((c.tc : Thread Cert.OutFfnIdeal.nD Cert.OutFfnIdeal.τ).loc Cert.OutFfnIdeal.main_arg6)
      ∧ m' ((c.tc : Thread Cert.OutFfnReferenceIdeal.nD Cert.OutFfnReferenceIdeal.τ).loc Cert.OutFfnReferenceIdeal.main_arg7) = m ((c.tc : Thread Cert.OutFfnIdeal.nD Cert.OutFfnIdeal.τ).loc Cert.OutFfnIdeal.main_arg7)
      ∧ m' ((c.tc : Thread Cert.OutFfnReferenceIdeal.nD Cert.OutFfnReferenceIdeal.τ).loc Cert.OutFfnReferenceIdeal.main_arg8) = m ((c.tc : Thread Cert.OutFfnIdeal.nD Cert.OutFfnIdeal.τ).loc Cert.OutFfnIdeal.main_arg8)
      ∧ m' ((c.tc : Thread Cert.OutFfnReferenceIdeal.nD Cert.OutFfnReferenceIdeal.τ).loc Cert.OutFfnReferenceIdeal.main_arg9) = m ((c.tc : Thread Cert.OutFfnIdeal.nD Cert.OutFfnIdeal.τ).loc Cert.OutFfnIdeal.main_arg9)
      ∧ m' ((c.tc : Thread Cert.OutFfnReferenceIdeal.nD Cert.OutFfnReferenceIdeal.τ).loc Cert.OutFfnReferenceIdeal.main_arg10) = m ((c.tc : Thread Cert.OutFfnIdeal.nD Cert.OutFfnIdeal.τ).loc Cert.OutFfnIdeal.main_arg10)
      ∧ m' ((c.tc : Thread Cert.OutFfnReferenceIdeal.nD Cert.OutFfnReferenceIdeal.τ).loc Cert.OutFfnReferenceIdeal.main_arg11) = m ((c.tc : Thread Cert.OutFfnIdeal.nD Cert.OutFfnIdeal.τ).loc Cert.OutFfnIdeal.main_arg11)
      ∧ m' ((c.tc : Thread Cert.OutFfnReferenceIdeal.nD Cert.OutFfnReferenceIdeal.τ).loc Cert.OutFfnReferenceIdeal.main_arg12) = m ((c.tc : Thread Cert.OutFfnIdeal.nD Cert.OutFfnIdeal.τ).loc Cert.OutFfnIdeal.main_arg12)
      ∧ m' ((c.tc : Thread Cert.OutFfnReferenceIdeal.nD Cert.OutFfnReferenceIdeal.τ).loc Cert.OutFfnReferenceIdeal.main_arg13) = m ((c.tc : Thread Cert.OutFfnIdeal.nD Cert.OutFfnIdeal.τ).loc Cert.OutFfnIdeal.main_arg13)
      ∧ m' ((c.tc : Thread Cert.OutFfnReferenceIdeal.nD Cert.OutFfnReferenceIdeal.τ).loc Cert.OutFfnReferenceIdeal.main_arg14) = m ((c.tc : Thread Cert.OutFfnIdeal.nD Cert.OutFfnIdeal.τ).loc Cert.OutFfnIdeal.main_arg14)) →
    ∃ (v0 : (c : Dev Cert.OutFfnIdeal.nD) → Buf (Elt Ideal) ((c.tc : Thread Cert.OutFfnIdeal.nD Cert.OutFfnIdeal.τ).loc Cert.OutFfnIdeal.main_v9)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v9) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
          ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
          ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
          ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13)
          ∧ r.2.mem ((c.tc : Thread Cert.OutFfnIdeal.nD Cert.OutFfnIdeal.τ).loc Cert.OutFfnIdeal.main_arg14) = m ((c.tc : Thread Cert.OutFfnIdeal.nD Cert.OutFfnIdeal.τ).loc Cert.OutFfnIdeal.main_arg14))
      ∧ θ_run (Cert.OutFfnReferenceIdeal.defs (F := Ideal)) (onTc (τ := Cert.OutFfnReferenceIdeal.τ) (Cert.OutFfnReferenceIdeal.main (F := Ideal))) ⟨m', fun _ => 0, g'⟩ (fun r => ∀ c : Dev Cert.OutFfnReferenceIdeal.nD,
          r.2.mem ((c.tc : Thread Cert.OutFfnReferenceIdeal.nD Cert.OutFfnReferenceIdeal.τ).loc Cert.OutFfnReferenceIdeal.main_v69) = v0 c
          ∧ r.2.mem ((c.tc : Thread Cert.OutFfnReferenceIdeal.nD Cert.OutFfnReferenceIdeal.τ).loc Cert.OutFfnReferenceIdeal.main_arg0) = m' ((c.tc : Thread Cert.OutFfnReferenceIdeal.nD Cert.OutFfnReferenceIdeal.τ).loc Cert.OutFfnReferenceIdeal.main_arg0)
          ∧ r.2.mem ((c.tc : Thread Cert.OutFfnReferenceIdeal.nD Cert.OutFfnReferenceIdeal.τ).loc Cert.OutFfnReferenceIdeal.main_arg1) = m' ((c.tc : Thread Cert.OutFfnReferenceIdeal.nD Cert.OutFfnReferenceIdeal.τ).loc Cert.OutFfnReferenceIdeal.main_arg1)
          ∧ r.2.mem ((c.tc : Thread Cert.OutFfnReferenceIdeal.nD Cert.OutFfnReferenceIdeal.τ).loc Cert.OutFfnReferenceIdeal.main_arg2) = m' ((c.tc : Thread Cert.OutFfnReferenceIdeal.nD Cert.OutFfnReferenceIdeal.τ).loc Cert.OutFfnReferenceIdeal.main_arg2)
          ∧ r.2.mem ((c.tc : Thread Cert.OutFfnReferenceIdeal.nD Cert.OutFfnReferenceIdeal.τ).loc Cert.OutFfnReferenceIdeal.main_arg3) = m' ((c.tc : Thread Cert.OutFfnReferenceIdeal.nD Cert.OutFfnReferenceIdeal.τ).loc Cert.OutFfnReferenceIdeal.main_arg3)
          ∧ r.2.mem ((c.tc : Thread Cert.OutFfnReferenceIdeal.nD Cert.OutFfnReferenceIdeal.τ).loc Cert.OutFfnReferenceIdeal.main_arg4) = m' ((c.tc : Thread Cert.OutFfnReferenceIdeal.nD Cert.OutFfnReferenceIdeal.τ).loc Cert.OutFfnReferenceIdeal.main_arg4)
          ∧ r.2.mem ((c.tc : Thread Cert.OutFfnReferenceIdeal.nD Cert.OutFfnReferenceIdeal.τ).loc Cert.OutFfnReferenceIdeal.main_arg5) = m' ((c.tc : Thread Cert.OutFfnReferenceIdeal.nD Cert.OutFfnReferenceIdeal.τ).loc Cert.OutFfnReferenceIdeal.main_arg5)
          ∧ r.2.mem ((c.tc : Thread Cert.OutFfnReferenceIdeal.nD Cert.OutFfnReferenceIdeal.τ).loc Cert.OutFfnReferenceIdeal.main_arg6) = m' ((c.tc : Thread Cert.OutFfnReferenceIdeal.nD Cert.OutFfnReferenceIdeal.τ).loc Cert.OutFfnReferenceIdeal.main_arg6)
          ∧ r.2.mem ((c.tc : Thread Cert.OutFfnReferenceIdeal.nD Cert.OutFfnReferenceIdeal.τ).loc Cert.OutFfnReferenceIdeal.main_arg7) = m' ((c.tc : Thread Cert.OutFfnReferenceIdeal.nD Cert.OutFfnReferenceIdeal.τ).loc Cert.OutFfnReferenceIdeal.main_arg7)
          ∧ r.2.mem ((c.tc : Thread Cert.OutFfnReferenceIdeal.nD Cert.OutFfnReferenceIdeal.τ).loc Cert.OutFfnReferenceIdeal.main_arg8) = m' ((c.tc : Thread Cert.OutFfnReferenceIdeal.nD Cert.OutFfnReferenceIdeal.τ).loc Cert.OutFfnReferenceIdeal.main_arg8)
          ∧ r.2.mem ((c.tc : Thread Cert.OutFfnReferenceIdeal.nD Cert.OutFfnReferenceIdeal.τ).loc Cert.OutFfnReferenceIdeal.main_arg9) = m' ((c.tc : Thread Cert.OutFfnReferenceIdeal.nD Cert.OutFfnReferenceIdeal.τ).loc Cert.OutFfnReferenceIdeal.main_arg9)
          ∧ r.2.mem ((c.tc : Thread Cert.OutFfnReferenceIdeal.nD Cert.OutFfnReferenceIdeal.τ).loc Cert.OutFfnReferenceIdeal.main_arg10) = m' ((c.tc : Thread Cert.OutFfnReferenceIdeal.nD Cert.OutFfnReferenceIdeal.τ).loc Cert.OutFfnReferenceIdeal.main_arg10)
          ∧ r.2.mem ((c.tc : Thread Cert.OutFfnReferenceIdeal.nD Cert.OutFfnReferenceIdeal.τ).loc Cert.OutFfnReferenceIdeal.main_arg11) = m' ((c.tc : Thread Cert.OutFfnReferenceIdeal.nD Cert.OutFfnReferenceIdeal.τ).loc Cert.OutFfnReferenceIdeal.main_arg11)
          ∧ r.2.mem ((c.tc : Thread Cert.OutFfnReferenceIdeal.nD Cert.OutFfnReferenceIdeal.τ).loc Cert.OutFfnReferenceIdeal.main_arg12) = m' ((c.tc : Thread Cert.OutFfnReferenceIdeal.nD Cert.OutFfnReferenceIdeal.τ).loc Cert.OutFfnReferenceIdeal.main_arg12)
          ∧ r.2.mem ((c.tc : Thread Cert.OutFfnReferenceIdeal.nD Cert.OutFfnReferenceIdeal.τ).loc Cert.OutFfnReferenceIdeal.main_arg13) = m' ((c.tc : Thread Cert.OutFfnReferenceIdeal.nD Cert.OutFfnReferenceIdeal.τ).loc Cert.OutFfnReferenceIdeal.main_arg13)
          ∧ r.2.mem ((c.tc : Thread Cert.OutFfnReferenceIdeal.nD Cert.OutFfnReferenceIdeal.τ).loc Cert.OutFfnReferenceIdeal.main_arg14) = m' ((c.tc : Thread Cert.OutFfnReferenceIdeal.nD Cert.OutFfnReferenceIdeal.τ).loc Cert.OutFfnReferenceIdeal.main_arg14))

def preserves_MixerIn_MixerInIdeal : Prop :=
  True

def algebraic_MixerInIdeal_MixerInReferenceIdeal [hMixerInIdeal : Cert.MixerInIdeal.Facts] [hMixerInReferenceIdeal : Cert.MixerInReferenceIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)
      ∧ m' ((c.tc : Thread Cert.MixerInReferenceIdeal.nD Cert.MixerInReferenceIdeal.τ).loc Cert.MixerInReferenceIdeal.main_arg2) = m ((c.tc : Thread Cert.MixerInIdeal.nD Cert.MixerInIdeal.τ).loc Cert.MixerInIdeal.main_arg2)
      ∧ m' ((c.tc : Thread Cert.MixerInReferenceIdeal.nD Cert.MixerInReferenceIdeal.τ).loc Cert.MixerInReferenceIdeal.main_arg3) = m ((c.tc : Thread Cert.MixerInIdeal.nD Cert.MixerInIdeal.τ).loc Cert.MixerInIdeal.main_arg3)
      ∧ m' ((c.tc : Thread Cert.MixerInReferenceIdeal.nD Cert.MixerInReferenceIdeal.τ).loc Cert.MixerInReferenceIdeal.main_arg4) = m ((c.tc : Thread Cert.MixerInIdeal.nD Cert.MixerInIdeal.τ).loc Cert.MixerInIdeal.main_arg4)
      ∧ m' ((c.tc : Thread Cert.MixerInReferenceIdeal.nD Cert.MixerInReferenceIdeal.τ).loc Cert.MixerInReferenceIdeal.main_arg5) = m ((c.tc : Thread Cert.MixerInIdeal.nD Cert.MixerInIdeal.τ).loc Cert.MixerInIdeal.main_arg5)
      ∧ m' ((c.tc : Thread Cert.MixerInReferenceIdeal.nD Cert.MixerInReferenceIdeal.τ).loc Cert.MixerInReferenceIdeal.main_arg6) = m ((c.tc : Thread Cert.MixerInIdeal.nD Cert.MixerInIdeal.τ).loc Cert.MixerInIdeal.main_arg6)
      ∧ m' ((c.tc : Thread Cert.MixerInReferenceIdeal.nD Cert.MixerInReferenceIdeal.τ).loc Cert.MixerInReferenceIdeal.main_arg7) = m ((c.tc : Thread Cert.MixerInIdeal.nD Cert.MixerInIdeal.τ).loc Cert.MixerInIdeal.main_arg7)
      ∧ m' ((c.tc : Thread Cert.MixerInReferenceIdeal.nD Cert.MixerInReferenceIdeal.τ).loc Cert.MixerInReferenceIdeal.main_arg8) = m ((c.tc : Thread Cert.MixerInIdeal.nD Cert.MixerInIdeal.τ).loc Cert.MixerInIdeal.main_arg8)
      ∧ m' ((c.tc : Thread Cert.MixerInReferenceIdeal.nD Cert.MixerInReferenceIdeal.τ).loc Cert.MixerInReferenceIdeal.main_arg9) = m ((c.tc : Thread Cert.MixerInIdeal.nD Cert.MixerInIdeal.τ).loc Cert.MixerInIdeal.main_arg9)
      ∧ m' ((c.tc : Thread Cert.MixerInReferenceIdeal.nD Cert.MixerInReferenceIdeal.τ).loc Cert.MixerInReferenceIdeal.main_arg10) = m ((c.tc : Thread Cert.MixerInIdeal.nD Cert.MixerInIdeal.τ).loc Cert.MixerInIdeal.main_arg10)
      ∧ m' ((c.tc : Thread Cert.MixerInReferenceIdeal.nD Cert.MixerInReferenceIdeal.τ).loc Cert.MixerInReferenceIdeal.main_arg11) = m ((c.tc : Thread Cert.MixerInIdeal.nD Cert.MixerInIdeal.τ).loc Cert.MixerInIdeal.main_arg11)
      ∧ m' ((c.tc : Thread Cert.MixerInReferenceIdeal.nD Cert.MixerInReferenceIdeal.τ).loc Cert.MixerInReferenceIdeal.main_arg12) = m ((c.tc : Thread Cert.MixerInIdeal.nD Cert.MixerInIdeal.τ).loc Cert.MixerInIdeal.main_arg12)
      ∧ m' ((c.tc : Thread Cert.MixerInReferenceIdeal.nD Cert.MixerInReferenceIdeal.τ).loc Cert.MixerInReferenceIdeal.main_arg13) = m ((c.tc : Thread Cert.MixerInIdeal.nD Cert.MixerInIdeal.τ).loc Cert.MixerInIdeal.main_arg13)
      ∧ m' ((c.tc : Thread Cert.MixerInReferenceIdeal.nD Cert.MixerInReferenceIdeal.τ).loc Cert.MixerInReferenceIdeal.main_arg14) = m ((c.tc : Thread Cert.MixerInIdeal.nD Cert.MixerInIdeal.τ).loc Cert.MixerInIdeal.main_arg14)
      ∧ m' ((c.tc : Thread Cert.MixerInReferenceIdeal.nD Cert.MixerInReferenceIdeal.τ).loc Cert.MixerInReferenceIdeal.main_arg15) = m ((c.tc : Thread Cert.MixerInIdeal.nD Cert.MixerInIdeal.τ).loc Cert.MixerInIdeal.main_arg15)
      ∧ m' ((c.tc : Thread Cert.MixerInReferenceIdeal.nD Cert.MixerInReferenceIdeal.τ).loc Cert.MixerInReferenceIdeal.main_arg16) = m ((c.tc : Thread Cert.MixerInIdeal.nD Cert.MixerInIdeal.τ).loc Cert.MixerInIdeal.main_arg16)
      ∧ m' ((c.tc : Thread Cert.MixerInReferenceIdeal.nD Cert.MixerInReferenceIdeal.τ).loc Cert.MixerInReferenceIdeal.main_arg17) = m ((c.tc : Thread Cert.MixerInIdeal.nD Cert.MixerInIdeal.τ).loc Cert.MixerInIdeal.main_arg17)) →
    ∃ (v0 : (c : Dev Cert.MixerInIdeal.nD) → Buf (Elt Ideal) ((c.tc : Thread Cert.MixerInIdeal.nD Cert.MixerInIdeal.τ).loc Cert.MixerInIdeal.main_v72_8)) (v1 : (c : Dev Cert.MixerInIdeal.nD) → Buf (Elt Ideal) ((c.tc : Thread Cert.MixerInIdeal.nD Cert.MixerInIdeal.τ).loc Cert.MixerInIdeal.main_v72_5)) (v2 : (c : Dev Cert.MixerInIdeal.nD) → Buf (Elt Ideal) ((c.tc : Thread Cert.MixerInIdeal.nD Cert.MixerInIdeal.τ).loc Cert.MixerInIdeal.main_v72_9)) (v3 : (c : Dev Cert.MixerInIdeal.nD) → Buf (Elt Ideal) ((c.tc : Thread Cert.MixerInIdeal.nD Cert.MixerInIdeal.τ).loc Cert.MixerInIdeal.main_v72_10)) (v4 : (c : Dev Cert.MixerInIdeal.nD) → Buf (Elt Ideal) ((c.tc : Thread Cert.MixerInIdeal.nD Cert.MixerInIdeal.τ).loc Cert.MixerInIdeal.main_v72_2)) (v5 : (c : Dev Cert.MixerInIdeal.nD) → Buf (Elt Ideal) ((c.tc : Thread Cert.MixerInIdeal.nD Cert.MixerInIdeal.τ).loc Cert.MixerInIdeal.main_v72_3)) (v6 : (c : Dev Cert.MixerInIdeal.nD) → Buf (Elt Ideal) ((c.tc : Thread Cert.MixerInIdeal.nD Cert.MixerInIdeal.τ).loc Cert.MixerInIdeal.main_v72_4)) (v7 : (c : Dev Cert.MixerInIdeal.nD) → Buf (Elt Ideal) ((c.tc : Thread Cert.MixerInIdeal.nD Cert.MixerInIdeal.τ).loc Cert.MixerInIdeal.main_v72_1)) (v8 : (c : Dev Cert.MixerInIdeal.nD) → Buf (Elt Ideal) ((c.tc : Thread Cert.MixerInIdeal.nD Cert.MixerInIdeal.τ).loc Cert.MixerInIdeal.main_v72_0)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v72_8) = v0 c
          ∧ r.2.mem ((c.tc : Thread Cert.MixerInIdeal.nD Cert.MixerInIdeal.τ).loc Cert.MixerInIdeal.main_v72_5) = v1 c
          ∧ r.2.mem ((c.tc : Thread Cert.MixerInIdeal.nD Cert.MixerInIdeal.τ).loc Cert.MixerInIdeal.main_v72_9) = v2 c
          ∧ r.2.mem ((c.tc : Thread Cert.MixerInIdeal.nD Cert.MixerInIdeal.τ).loc Cert.MixerInIdeal.main_v72_10) = v3 c
          ∧ r.2.mem ((c.tc : Thread Cert.MixerInIdeal.nD Cert.MixerInIdeal.τ).loc Cert.MixerInIdeal.main_v72_2) = v4 c
          ∧ r.2.mem ((c.tc : Thread Cert.MixerInIdeal.nD Cert.MixerInIdeal.τ).loc Cert.MixerInIdeal.main_v72_3) = v5 c
          ∧ r.2.mem ((c.tc : Thread Cert.MixerInIdeal.nD Cert.MixerInIdeal.τ).loc Cert.MixerInIdeal.main_v72_4) = v6 c
          ∧ r.2.mem ((c.tc : Thread Cert.MixerInIdeal.nD Cert.MixerInIdeal.τ).loc Cert.MixerInIdeal.main_v72_1) = v7 c
          ∧ r.2.mem ((c.tc : Thread Cert.MixerInIdeal.nD Cert.MixerInIdeal.τ).loc Cert.MixerInIdeal.main_v72_0) = v8 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
          ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
          ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
          ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
          ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
          ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
          ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
          ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
          ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9)
          ∧ r.2.mem ((c.tc : Thread Cert.MixerInIdeal.nD Cert.MixerInIdeal.τ).loc Cert.MixerInIdeal.main_arg10) = m ((c.tc : Thread Cert.MixerInIdeal.nD Cert.MixerInIdeal.τ).loc Cert.MixerInIdeal.main_arg10)
          ∧ r.2.mem ((c.tc : Thread Cert.MixerInIdeal.nD Cert.MixerInIdeal.τ).loc Cert.MixerInIdeal.main_arg11) = m ((c.tc : Thread Cert.MixerInIdeal.nD Cert.MixerInIdeal.τ).loc Cert.MixerInIdeal.main_arg11)
          ∧ r.2.mem ((c.tc : Thread Cert.MixerInIdeal.nD Cert.MixerInIdeal.τ).loc Cert.MixerInIdeal.main_arg12) = m ((c.tc : Thread Cert.MixerInIdeal.nD Cert.MixerInIdeal.τ).loc Cert.MixerInIdeal.main_arg12)
          ∧ r.2.mem ((c.tc : Thread Cert.MixerInIdeal.nD Cert.MixerInIdeal.τ).loc Cert.MixerInIdeal.main_arg13) = m ((c.tc : Thread Cert.MixerInIdeal.nD Cert.MixerInIdeal.τ).loc Cert.MixerInIdeal.main_arg13)
          ∧ r.2.mem ((c.tc : Thread Cert.MixerInIdeal.nD Cert.MixerInIdeal.τ).loc Cert.MixerInIdeal.main_arg14) = m ((c.tc : Thread Cert.MixerInIdeal.nD Cert.MixerInIdeal.τ).loc Cert.MixerInIdeal.main_arg14)
          ∧ r.2.mem ((c.tc : Thread Cert.MixerInIdeal.nD Cert.MixerInIdeal.τ).loc Cert.MixerInIdeal.main_arg15) = m ((c.tc : Thread Cert.MixerInIdeal.nD Cert.MixerInIdeal.τ).loc Cert.MixerInIdeal.main_arg15)
          ∧ r.2.mem ((c.tc : Thread Cert.MixerInIdeal.nD Cert.MixerInIdeal.τ).loc Cert.MixerInIdeal.main_arg16) = m ((c.tc : Thread Cert.MixerInIdeal.nD Cert.MixerInIdeal.τ).loc Cert.MixerInIdeal.main_arg16)
          ∧ r.2.mem ((c.tc : Thread Cert.MixerInIdeal.nD Cert.MixerInIdeal.τ).loc Cert.MixerInIdeal.main_arg17) = m ((c.tc : Thread Cert.MixerInIdeal.nD Cert.MixerInIdeal.τ).loc Cert.MixerInIdeal.main_arg17))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v176) = v0 c
          ∧ r.2.mem ((c.tc : Thread Cert.MixerInReferenceIdeal.nD Cert.MixerInReferenceIdeal.τ).loc Cert.MixerInReferenceIdeal.main_v177) = v1 c
          ∧ r.2.mem ((c.tc : Thread Cert.MixerInReferenceIdeal.nD Cert.MixerInReferenceIdeal.τ).loc Cert.MixerInReferenceIdeal.main_v178) = v2 c
          ∧ r.2.mem ((c.tc : Thread Cert.MixerInReferenceIdeal.nD Cert.MixerInReferenceIdeal.τ).loc Cert.MixerInReferenceIdeal.main_v179) = v3 c
          ∧ r.2.mem ((c.tc : Thread Cert.MixerInReferenceIdeal.nD Cert.MixerInReferenceIdeal.τ).loc Cert.MixerInReferenceIdeal.main_v180) = v4 c
          ∧ r.2.mem ((c.tc : Thread Cert.MixerInReferenceIdeal.nD Cert.MixerInReferenceIdeal.τ).loc Cert.MixerInReferenceIdeal.main_v181) = v5 c
          ∧ r.2.mem ((c.tc : Thread Cert.MixerInReferenceIdeal.nD Cert.MixerInReferenceIdeal.τ).loc Cert.MixerInReferenceIdeal.main_v182) = v6 c
          ∧ r.2.mem ((c.tc : Thread Cert.MixerInReferenceIdeal.nD Cert.MixerInReferenceIdeal.τ).loc Cert.MixerInReferenceIdeal.main_v183) = v7 c
          ∧ r.2.mem ((c.tc : Thread Cert.MixerInReferenceIdeal.nD Cert.MixerInReferenceIdeal.τ).loc Cert.MixerInReferenceIdeal.main_v184) = v8 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1)
          ∧ r.2.mem ((c.tc : Thread Cert.MixerInReferenceIdeal.nD Cert.MixerInReferenceIdeal.τ).loc Cert.MixerInReferenceIdeal.main_arg2) = m' ((c.tc : Thread Cert.MixerInReferenceIdeal.nD Cert.MixerInReferenceIdeal.τ).loc Cert.MixerInReferenceIdeal.main_arg2)
          ∧ r.2.mem ((c.tc : Thread Cert.MixerInReferenceIdeal.nD Cert.MixerInReferenceIdeal.τ).loc Cert.MixerInReferenceIdeal.main_arg3) = m' ((c.tc : Thread Cert.MixerInReferenceIdeal.nD Cert.MixerInReferenceIdeal.τ).loc Cert.MixerInReferenceIdeal.main_arg3)
          ∧ r.2.mem ((c.tc : Thread Cert.MixerInReferenceIdeal.nD Cert.MixerInReferenceIdeal.τ).loc Cert.MixerInReferenceIdeal.main_arg4) = m' ((c.tc : Thread Cert.MixerInReferenceIdeal.nD Cert.MixerInReferenceIdeal.τ).loc Cert.MixerInReferenceIdeal.main_arg4)
          ∧ r.2.mem ((c.tc : Thread Cert.MixerInReferenceIdeal.nD Cert.MixerInReferenceIdeal.τ).loc Cert.MixerInReferenceIdeal.main_arg5) = m' ((c.tc : Thread Cert.MixerInReferenceIdeal.nD Cert.MixerInReferenceIdeal.τ).loc Cert.MixerInReferenceIdeal.main_arg5)
          ∧ r.2.mem ((c.tc : Thread Cert.MixerInReferenceIdeal.nD Cert.MixerInReferenceIdeal.τ).loc Cert.MixerInReferenceIdeal.main_arg6) = m' ((c.tc : Thread Cert.MixerInReferenceIdeal.nD Cert.MixerInReferenceIdeal.τ).loc Cert.MixerInReferenceIdeal.main_arg6)
          ∧ r.2.mem ((c.tc : Thread Cert.MixerInReferenceIdeal.nD Cert.MixerInReferenceIdeal.τ).loc Cert.MixerInReferenceIdeal.main_arg7) = m' ((c.tc : Thread Cert.MixerInReferenceIdeal.nD Cert.MixerInReferenceIdeal.τ).loc Cert.MixerInReferenceIdeal.main_arg7)
          ∧ r.2.mem ((c.tc : Thread Cert.MixerInReferenceIdeal.nD Cert.MixerInReferenceIdeal.τ).loc Cert.MixerInReferenceIdeal.main_arg8) = m' ((c.tc : Thread Cert.MixerInReferenceIdeal.nD Cert.MixerInReferenceIdeal.τ).loc Cert.MixerInReferenceIdeal.main_arg8)
          ∧ r.2.mem ((c.tc : Thread Cert.MixerInReferenceIdeal.nD Cert.MixerInReferenceIdeal.τ).loc Cert.MixerInReferenceIdeal.main_arg9) = m' ((c.tc : Thread Cert.MixerInReferenceIdeal.nD Cert.MixerInReferenceIdeal.τ).loc Cert.MixerInReferenceIdeal.main_arg9)
          ∧ r.2.mem ((c.tc : Thread Cert.MixerInReferenceIdeal.nD Cert.MixerInReferenceIdeal.τ).loc Cert.MixerInReferenceIdeal.main_arg10) = m' ((c.tc : Thread Cert.MixerInReferenceIdeal.nD Cert.MixerInReferenceIdeal.τ).loc Cert.MixerInReferenceIdeal.main_arg10)
          ∧ r.2.mem ((c.tc : Thread Cert.MixerInReferenceIdeal.nD Cert.MixerInReferenceIdeal.τ).loc Cert.MixerInReferenceIdeal.main_arg11) = m' ((c.tc : Thread Cert.MixerInReferenceIdeal.nD Cert.MixerInReferenceIdeal.τ).loc Cert.MixerInReferenceIdeal.main_arg11)
          ∧ r.2.mem ((c.tc : Thread Cert.MixerInReferenceIdeal.nD Cert.MixerInReferenceIdeal.τ).loc Cert.MixerInReferenceIdeal.main_arg12) = m' ((c.tc : Thread Cert.MixerInReferenceIdeal.nD Cert.MixerInReferenceIdeal.τ).loc Cert.MixerInReferenceIdeal.main_arg12)
          ∧ r.2.mem ((c.tc : Thread Cert.MixerInReferenceIdeal.nD Cert.MixerInReferenceIdeal.τ).loc Cert.MixerInReferenceIdeal.main_arg13) = m' ((c.tc : Thread Cert.MixerInReferenceIdeal.nD Cert.MixerInReferenceIdeal.τ).loc Cert.MixerInReferenceIdeal.main_arg13)
          ∧ r.2.mem ((c.tc : Thread Cert.MixerInReferenceIdeal.nD Cert.MixerInReferenceIdeal.τ).loc Cert.MixerInReferenceIdeal.main_arg14) = m' ((c.tc : Thread Cert.MixerInReferenceIdeal.nD Cert.MixerInReferenceIdeal.τ).loc Cert.MixerInReferenceIdeal.main_arg14)
          ∧ r.2.mem ((c.tc : Thread Cert.MixerInReferenceIdeal.nD Cert.MixerInReferenceIdeal.τ).loc Cert.MixerInReferenceIdeal.main_arg15) = m' ((c.tc : Thread Cert.MixerInReferenceIdeal.nD Cert.MixerInReferenceIdeal.τ).loc Cert.MixerInReferenceIdeal.main_arg15)
          ∧ r.2.mem ((c.tc : Thread Cert.MixerInReferenceIdeal.nD Cert.MixerInReferenceIdeal.τ).loc Cert.MixerInReferenceIdeal.main_arg16) = m' ((c.tc : Thread Cert.MixerInReferenceIdeal.nD Cert.MixerInReferenceIdeal.τ).loc Cert.MixerInReferenceIdeal.main_arg16)
          ∧ r.2.mem ((c.tc : Thread Cert.MixerInReferenceIdeal.nD Cert.MixerInReferenceIdeal.τ).loc Cert.MixerInReferenceIdeal.main_arg17) = m' ((c.tc : Thread Cert.MixerInReferenceIdeal.nD Cert.MixerInReferenceIdeal.τ).loc Cert.MixerInReferenceIdeal.main_arg17))

def Claim : Prop :=
  ∃ (hKernel : Cert.Kernel.Facts) (hKernelIdeal : Cert.KernelIdeal.Facts) (hReferenceIdeal : Cert.ReferenceIdeal.Facts) (hOutFfn : Cert.OutFfn.Facts) (hOutFfnIdeal : Cert.OutFfnIdeal.Facts) (hOutFfnReferenceIdeal : Cert.OutFfnReferenceIdeal.Facts) (hMixerIn : Cert.MixerIn.Facts) (hMixerInIdeal : Cert.MixerInIdeal.Facts) (hMixerInReferenceIdeal : Cert.MixerInReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutFfn (hOutFfn := hOutFfn)
    ∧ quiescent_OutFfnIdeal (hOutFfnIdeal := hOutFfnIdeal)
    ∧ quiescent_OutFfnReferenceIdeal (hOutFfnReferenceIdeal := hOutFfnReferenceIdeal)
    ∧ quiescent_MixerIn (hMixerIn := hMixerIn)
    ∧ quiescent_MixerInIdeal (hMixerInIdeal := hMixerInIdeal)
    ∧ quiescent_MixerInReferenceIdeal (hMixerInReferenceIdeal := hMixerInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutFfn_OutFfnIdeal
    ∧ algebraic_OutFfnIdeal_OutFfnReferenceIdeal (hOutFfnIdeal := hOutFfnIdeal) (hOutFfnReferenceIdeal := hOutFfnReferenceIdeal)
    ∧ preserves_MixerIn_MixerInIdeal
    ∧ algebraic_MixerInIdeal_MixerInReferenceIdeal (hMixerInIdeal := hMixerInIdeal) (hMixerInReferenceIdeal := hMixerInReferenceIdeal)
-- ==== Pre_finite.lean ====
abbrev S8x4096x8x64 : Shape := ⟨4, ![8, 4096, 8, 64]⟩
abbrev S8x4096x8x32 : Shape := ⟨4, ![8, 4096, 8, 32]⟩
abbrev S8x256x8x64 : Shape := ⟨4, ![8, 256, 8, 64]⟩
abbrev S8x256x32 : Shape := ⟨3, ![8, 256, 32]⟩
abbrev S8x4096x32 : Shape := ⟨3, ![8, 4096, 32]⟩
abbrev S_ : Shape := ⟨0, ![]⟩

class Facts : Prop where
  bcast_S_S8x4096x8x64 : S_.BroadcastsInDim S8x4096x8x64 (![] : Fin 0 → Fin S8x4096x8x64.rank)
  bcast_S_S8x4096x8x32 : S_.BroadcastsInDim S8x4096x8x32 (![] : Fin 0 → Fin S8x4096x8x32.rank)
  bcast_S_S8x256x8x64 : S_.BroadcastsInDim S8x256x8x64 (![] : Fin 0 → Fin S8x256x8x64.rank)
  bcast_S_S8x256x32 : S_.BroadcastsInDim S8x256x32 (![] : Fin 0 → Fin S8x256x32.rank)
  bcast_S_S8x4096x32 : S_.BroadcastsInDim S8x4096x32 (![] : Fin 0 → Fin S8x4096x32.rank)

variable [Facts]

def fn {F : FTy → Type} [FloatOps F] (main_arg0 : FVec F S8x4096x8x64 .f32) (main_arg1 : FVec F S8x4096x8x32 .f32) (main_arg2 : FVec F S8x256x8x64 .f32) (main_arg3 : FVec F S8x256x32 .f32) (main_arg4 : FVec F S8x256x8x64 .f32) (main_arg5 : FVec F S8x4096x8x64 .f32) (main_arg6 : FVec F S8x4096x32 .f32) (main_arg7 : FVec F S8x4096x8x64 .f32) : IVec S8x4096x8x64 1 × IVec S8x4096x8x32 1 × IVec S8x256x8x64 1 × IVec S8x256x32 1 × IVec S8x4096x8x64 1 × IVec S8x4096x32 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x8x32 .f32 := Host.absf main_arg1
  let main_cst_0 : FVec F S_ .f32 := constant S_ .f32 0x7F800000#32
  let main_v4 : FVec F S8x4096x8x32 .f32 := broadcastInDim S8x4096x8x32 ![] bcast_S_S8x4096x8x32 main_cst_0
  let main_v5 : IVec S8x4096x8x32 1 := cmpf .olt main_v3 main_v4
  let main_v6 : FVec F S8x256x8x64 .f32 := Host.absf main_arg2
  let main_cst_1 : FVec F S_ .f32 := constant S_ .f32 0x7F800000#32
  let main_v7 : FVec F S8x256x8x64 .f32 := broadcastInDim S8x256x8x64 ![] bcast_S_S8x256x8x64 main_cst_1
  let main_v8 : IVec S8x256x8x64 1 := cmpf .olt main_v6 main_v7
  let main_v9 : FVec F S8x256x32 .f32 := Host.absf main_arg3
  let main_cst_2 : FVec F S_ .f32 := constant S_ .f32 0x7F800000#32
  let main_v10 : FVec F S8x256x32 .f32 := broadcastInDim S8x256x32 ![] bcast_S_S8x256x32 main_cst_2
  let main_v11 : IVec S8x256x32 1 := cmpf .olt main_v9 main_v10
  let main_v12 : FVec F S8x4096x8x64 .f32 := Host.absf main_arg5
  let main_cst_3 : FVec F S_ .f32 := constant S_ .f32 0x7F800000#32
  let main_v13 : FVec F S8x4096x8x64 .f32 := broadcastInDim S8x4096x8x64 ![] bcast_S_S8x4096x8x64 main_cst_3
  let main_v14 : IVec S8x4096x8x64 1 := cmpf .olt main_v12 main_v13
  let main_v15 : FVec F S8x4096x32 .f32 := Host.absf main_arg6
  let main_cst_4 : FVec F S_ .f32 := constant S_ .f32 0x7F800000#32
  let main_v16 : FVec F S8x4096x32 .f32 := broadcastInDim S8x4096x32 ![] bcast_S_S8x4096x32 main_cst_4
  let main_v17 : IVec S8x4096x32 1 := cmpf .olt main_v15 main_v16
  (main_v2, main_v5, main_v8, main_v11, main_v14, main_v17)
-- ==== Kernel.lean ====
abbrev S8x4096x8x64 : Shape := ⟨4, ![8, 4096, 8, 64]⟩
abbrev S8x4096x8x32 : Shape := ⟨4, ![8, 4096, 8, 32]⟩
abbrev S8x256x8x64 : Shape := ⟨4, ![8, 256, 8, 64]⟩
abbrev S8x256x32 : Shape := ⟨3, ![8, 256, 32]⟩
abbrev S8x4096x32 : Shape := ⟨3, ![8, 4096, 32]⟩
abbrev S_ : Shape := ⟨0, ![]⟩
abbrev S8x4096x8x128 : Shape := ⟨4, ![8, 4096, 8, 128]⟩
abbrev S8x4096x1024 : Shape := ⟨3, ![8, 4096, 1024]⟩
abbrev S8x256x1x32 : Shape := ⟨4, ![8, 256, 1, 32]⟩
abbrev S8x256x8x32 : Shape := ⟨4, ![8, 256, 8, 32]⟩
abbrev S8x256x8x128 : Shape := ⟨4, ![8, 256, 8, 128]⟩
abbrev S8x256x1024 : Shape := ⟨3, ![8, 256, 1024]⟩
abbrev S8x256x512 : Shape := ⟨3, ![8, 256, 512]⟩
abbrev S8x4096x1x32 : Shape := ⟨4, ![8, 4096, 1, 32]⟩
abbrev S8x4096x512 : Shape := ⟨3, ![8, 4096, 512]⟩
abbrev S1x1024x256 : Shape := ⟨3, ![1, 1024, 256]⟩
abbrev S1x256x256 : Shape := ⟨3, ![1, 256, 256]⟩
abbrev S1x256x128 : Shape := ⟨3, ![1, 256, 128]⟩
abbrev S1x4096x256 : Shape := ⟨3, ![1, 4096, 256]⟩
abbrev S1x4096x128 : Shape := ⟨3, ![1, 4096, 128]⟩
abbrev S1x1024x128 : Shape := ⟨3, ![1, 1024, 128]⟩
abbrev S1024x128 : Shape := ⟨2, ![1024, 128]⟩
abbrev S1024x1 : Shape := ⟨2, ![1024, 1]⟩
abbrev S256x256 : Shape := ⟨2, ![256, 256]⟩
abbrev S256x128 : Shape := ⟨2, ![256, 128]⟩
abbrev S1024x256 : Shape := ⟨2, ![1024, 256]⟩
abbrev S1024 : Shape := ⟨1, ![1024]⟩

abbrev nBuf : Space → Nat
  | .hbm => 38
  | .vmem => 12
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x32, .f32⟩
  | .hbm, ⟨2, _⟩ => ⟨S8x256x8x64, .f32⟩
  | .hbm, ⟨3, _⟩ => ⟨S8x256x32, .f32⟩
  | .hbm, ⟨4, _⟩ => ⟨S8x256x8x64, .f32⟩
  | .hbm, ⟨5, _⟩ => ⟨S8x4096x8x64, .f32⟩
  | .hbm, ⟨6, _⟩ => ⟨S8x4096x32, .f32⟩
  | .hbm, ⟨7, _⟩ => ⟨S8x4096x8x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x8x32, .f32⟩
  | .hbm, ⟨14, _⟩ => ⟨S8x4096x8x128, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .bf16⟩
  | .hbm, ⟨19, _⟩ => ⟨S8x256x1x32, .f32⟩
  | .hbm, ⟨20, _⟩ => ⟨S8x256x8x32, .f32⟩
  | .hbm, ⟨21, _⟩ => ⟨S_, .f32⟩
  | .hbm, ⟨22, _⟩ => ⟨S8x256x8x32, .f32⟩
  | .hbm, ⟨23, _⟩ => ⟨S8x256x8x128, .f32⟩
  | .hbm, ⟨24, _⟩ => ⟨S8x256x1024, .f32⟩
  | .hbm, ⟨25, _⟩ => ⟨S8x256x1024, .bf16⟩
  | .hbm, ⟨26, _⟩ => ⟨S8x256x512, .f32⟩
  | .hbm, ⟨27, _⟩ => ⟨S8x256x512, .bf16⟩
  | .hbm, ⟨28, _⟩ => ⟨S8x4096x1x32, .f32⟩
  | .hbm, ⟨29, _⟩ => ⟨S8x4096x8x32, .f32⟩
  | .hbm, ⟨30, _⟩ => ⟨S_, .f32⟩
  | .hbm, ⟨31, _⟩ => ⟨S8x4096x8x32, .f32⟩
  | .hbm, ⟨32, _⟩ => ⟨S8x4096x8x128, .f32⟩
  | .hbm, ⟨33, _⟩ => ⟨S8x4096x1024, .f32⟩
  | .hbm, ⟨34, _⟩ => ⟨S8x4096x1024, .bf16⟩
  | .hbm, ⟨35, _⟩ => ⟨S8x4096x512, .f32⟩
  | .hbm, ⟨36, _⟩ => ⟨S8x4096x512, .bf16⟩
  | .hbm, ⟨37, _⟩ => ⟨S8x4096x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x1024x128, .bf16⟩
  | .local _ .vmem, ⟨11, _⟩ => ⟨S1x1024x128, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  let c256_i32 : BitVec 32 := 256#32
  let v53 : BitVec 32 := Scalar.muli c0_i32 c256_i32
  v53
def k0_off1 (c0_i32 : BitVec 32) : Fin 3 → Nat :=
  let c0_18 : Index := 0#32
  let c256_i32 : BitVec 32 := 256#32
  let v53 : BitVec 32 := Scalar.muli c0_i32 c256_i32
  let v54 : BitVec 32 := v53
  let v55 : Index := Scalar.indexCast v54
  let c0_19 : Index := 0#32
  ![0, v55.toNat, 0]
def k0_off2 (c0_i32 : BitVec 32) : Fin 3 → Nat :=
  let c0_20 : Index := 0#32
  let c256_i32 : BitVec 32 := 256#32
  let v53 : BitVec 32 := Scalar.muli c0_i32 c256_i32
  let v54 : BitVec 32 := v53
  let v58 : Index := Scalar.indexCast v54
  let c0_21 : Index := 0#32
  ![0, v58.toNat, 0]
def k0_mult2 : BitVec 32 :=
  let c1_i32 : BitVec 32 := 1#32
  let c256_i32_28 : BitVec 32 := 256#32
  let v103 : BitVec 32 := Scalar.muli c1_i32 c256_i32_28
  v103
def k0_mult3 : BitVec 32 :=
  let c2_i32 : BitVec 32 := 2#32
  let c256_i32_39 : BitVec 32 := 256#32
  let v153 : BitVec 32 := Scalar.muli c2_i32 c256_i32_39
  v153
def k0_mult4 : BitVec 32 :=
  let c3_i32 : BitVec 32 := 3#32
  let c256_i32_50 : BitVec 32 := 256#32
  let v203 : BitVec 32 := Scalar.muli c3_i32 c256_i32_50
  v203
def k0_mult5 : BitVec 32 :=
  let c4_i32 : BitVec 32 := 4#32
  let c256_i32_61 : BitVec 32 := 256#32
  let v253 : BitVec 32 := Scalar.muli c4_i32 c256_i32_61
  v253
def k0_mult6 : BitVec 32 :=
  let c5_i32 : BitVec 32 := 5#32
  let c256_i32_72 : BitVec 32 := 256#32
  let v303 : BitVec 32 := Scalar.muli c5_i32 c256_i32_72
  v303
def k0_mult7 : BitVec 32 :=
  let c6_i32 : BitVec 32 := 6#32
  let c256_i32_83 : BitVec 32 := 256#32
  let v353 : BitVec 32 := Scalar.muli c6_i32 c256_i32_83
  v353
def k0_mult8 : BitVec 32 :=
  let c7_i32 : BitVec 32 := 7#32
  let c256_i32_94 : BitVec 32 := 256#32
  let v403 : BitVec 32 := Scalar.muli c7_i32 c256_i32_94
  v403
def k0_mult9 : BitVec 32 :=
  let c8_i32 : BitVec 32 := 8#32
  let c256_i32_105 : BitVec 32 := 256#32
  let v453 : BitVec 32 := Scalar.muli c8_i32 c256_i32_105
  v453
def k0_mult10 : BitVec 32 :=
  let c9_i32 : BitVec 32 := 9#32
  let c256_i32_116 : BitVec 32 := 256#32
  let v503 : BitVec 32 := Scalar.muli c9_i32 c256_i32_116
  v503
def k0_mult11 : BitVec 32 :=
  let c10_i32 : BitVec 32 := 10#32
  let c256_i32_127 : BitVec 32 := 256#32
  let v553 : BitVec 32 := Scalar.muli c10_i32 c256_i32_127
  v553
def k0_mult12 : BitVec 32 :=
  let c11_i32 : BitVec 32 := 11#32
  let c256_i32_138 : BitVec 32 := 256#32
  let v603 : BitVec 32 := Scalar.muli c11_i32 c256_i32_138
  v603
def k0_mult13 : BitVec 32 :=
  let c12_i32 : BitVec 32 := 12#32
  let c256_i32_149 : BitVec 32 := 256#32
  let v653 : BitVec 32 := Scalar.muli c12_i32 c256_i32_149
  v653
def k0_mult14 : BitVec 32 :=
  let c13_i32 : BitVec 32 := 13#32
  let c256_i32_160 : BitVec 32 := 256#32
  let v703 : BitVec 32 := Scalar.muli c13_i32 c256_i32_160
  v703
def k0_mult15 : BitVec 32 :=
  let c14_i32 : BitVec 32 := 14#32
  let c256_i32_171 : BitVec 32 := 256#32
  let v753 : BitVec 32 := Scalar.muli c14_i32 c256_i32_171
  v753
def k0_mult16 : BitVec 32 :=
  let c15_i32 : BitVec 32 := 15#32
  let c256_i32_182 : BitVec 32 := 256#32
  let v803 : BitVec 32 := Scalar.muli c15_i32 c256_i32_182
  v803
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x8x64 : Shape := ⟨4, ![8, 4096, 8, 64]⟩
abbrev S8x4096x8x32 : Shape := ⟨4, ![8, 4096, 8, 32]⟩
abbrev S8x256x8x64 : Shape := ⟨4, ![8, 256, 8, 64]⟩
abbrev S8x256x32 : Shape := ⟨3, ![8, 256, 32]⟩
abbrev S8x4096x32 : Shape := ⟨3, ![8, 4096, 32]⟩
abbrev S8x4352x8x64 : Shape := ⟨4, ![8, 4352, 8, 64]⟩
abbrev S8x4352x32 : Shape := ⟨3, ![8, 4352, 32]⟩
abbrev S8x8x4096x4352 : Shape := ⟨4, ![8, 8, 4096, 4352]⟩
abbrev S8x4352x4096x8 : Shape := ⟨4, ![8, 4352, 4096, 8]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x32, .f32⟩
  | .hbm, ⟨2, _⟩ => ⟨S8x256x8x64, .f32⟩
  | .hbm, ⟨3, _⟩ => ⟨S8x256x32, .f32⟩
  | .hbm, ⟨4, _⟩ => ⟨S8x256x8x64, .f32⟩
  | .hbm, ⟨5, _⟩ => ⟨S8x4096x8x64, .f32⟩
  | .hbm, ⟨6, _⟩ => ⟨S8x4096x32, .f32⟩
  | .hbm, ⟨7, _⟩ => ⟨S8x4096x8x64, .f32⟩
  | .hbm, ⟨8, _⟩ => ⟨S8x4352x8x64, .f32⟩
  | .hbm, ⟨9, _⟩ => ⟨S8x4352x32, .f32⟩
  | .hbm, ⟨10, _⟩ => ⟨S8x4352x8x64, .f32⟩
  | .hbm, ⟨11, _⟩ => ⟨S8x8x4096x4352, .f32⟩
  | .hbm, ⟨12, _⟩ => ⟨S8x4352x4096x8, .f32⟩
  | .hbm, ⟨13, _⟩ => ⟨S8x8x4096x4352, .f32⟩
  | .hbm, ⟨14, _⟩ => ⟨S8x8x4096x4352, .f32⟩
  | .hbm, ⟨15, _⟩ => ⟨S_, .f32⟩
  | .hbm, ⟨16, _⟩ => ⟨S8x8x4096x4352, .f32⟩
  | .hbm, ⟨17, _⟩ => ⟨S8x8x4096x4352, .f32⟩
  | .hbm, ⟨18, _⟩ => ⟨S_, .f32⟩
  | .hbm, ⟨19, _⟩ => ⟨S8x8x4096, .f32⟩
  | .hbm, ⟨20, _⟩ => ⟨S_, .f32⟩
  | .hbm, ⟨21, _⟩ => ⟨S8x8x4096, .f32⟩
  | .hbm, ⟨22, _⟩ => ⟨S8x8x4096, .f32⟩
  | .hbm, ⟨23, _⟩ => ⟨S8x8x4096x1, .f32⟩
  | .hbm, ⟨24, _⟩ => ⟨S8x8x4096x4352, .f32⟩
  | .hbm, ⟨25, _⟩ => ⟨S8x8x4096x4352, .f32⟩
  | .hbm, ⟨26, _⟩ => ⟨S8x8x4096x4352, .f32⟩
  | .hbm, ⟨27, _⟩ => ⟨S_, .f32⟩
  | .hbm, ⟨28, _⟩ => ⟨S8x8x4096, .f32⟩
  | .hbm, ⟨29, _⟩ => ⟨S8x8x4096x1, .f32⟩
  | .hbm, ⟨30, _⟩ => ⟨S8x8x4096x4352, .f32⟩
  | .hbm, ⟨31, _⟩ => ⟨S8x8x4096x4352, .f32⟩
  | .hbm, ⟨32, _⟩ => ⟨S8x8x64x4096, .f32⟩
  | .hbm, ⟨33, _⟩ => ⟨S8x4096x8x64, .f32⟩
  | .hbm, ⟨34, _⟩ => ⟨S8x4096x512, .f32⟩
  | .hbm, ⟨35, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== OutFfn.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S1024x1024 : Shape := ⟨2, ![1024, 1024]⟩
abbrev S8x1x1024 : Shape := ⟨3, ![8, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x8x1024 : Shape := ⟨3, ![1, 8, 1024]⟩
abbrev S1x512x1024 : Shape := ⟨3, ![1, 512, 1024]⟩
abbrev S1x16x512 : Shape := ⟨3, ![1, 16, 512]⟩
abbrev S1x512x512 : Shape := ⟨3, ![1, 512, 512]⟩
abbrev S1x16x256 : Shape := ⟨3, ![1, 16, 256]⟩
abbrev S1x512x256 : Shape := ⟨3, ![1, 512, 256]⟩
abbrev S1x1x1024 : Shape := ⟨3, ![1, 1, 1024]⟩
abbrev S528x1024 : Shape := ⟨2, ![528, 1024]⟩
abbrev S2x528x512 : Shape := ⟨3, ![2, 528, 512]⟩
abbrev S512x2816 : Shape := ⟨2, ![512, 2816]⟩
abbrev S16x512 : Shape := ⟨2, ![16, 512]⟩
abbrev S8x512 : Shape := ⟨2, ![8, 512]⟩
abbrev S512x512 : Shape := ⟨2, ![512, 512]⟩
abbrev S528x512 : Shape := ⟨2, ![528, 512]⟩
abbrev S512x1024 : Shape := ⟨2, ![512, 1024]⟩
abbrev S16x256 : Shape := ⟨2, ![16, 256]⟩
abbrev S8x256 : Shape := ⟨2, ![8, 256]⟩
abbrev S512x256 : Shape := ⟨2, ![512, 256]⟩
abbrev S528x256 : Shape := ⟨2, ![528, 256]⟩
abbrev S256x1024 : Shape := ⟨2, ![256, 1024]⟩
abbrev S8x1024 : Shape := ⟨2, ![8, 1024]⟩
abbrev S528x1 : Shape := ⟨2, ![528, 1]⟩
abbrev S528 : Shape := ⟨1, ![528]⟩
abbrev S1024x256 : Shape := ⟨2, ![1024, 256]⟩
abbrev S1x528x256 : Shape := ⟨3, ![1, 528, 256]⟩
abbrev S3x256 : Shape := ⟨2, ![3, 256]⟩
abbrev S3x512 : Shape := ⟨2, ![3, 512]⟩
abbrev S1x256 : Shape := ⟨2, ![1, 256]⟩
abbrev S1x512 : Shape := ⟨2, ![1, 512]⟩
abbrev S1x528x512 : Shape := ⟨3, ![1, 528, 512]⟩
abbrev S512 : Shape := ⟨1, ![512]⟩
abbrev S512x1 : Shape := ⟨2, ![512, 1]⟩

abbrev nBuf : Space → Nat
  | .hbm => 25
  | .vmem => 44
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x256, .f32⟩
  | .hbm, ⟨3, _⟩ => ⟨S8x4096x256, .f32⟩
  | .hbm, ⟨4, _⟩ => ⟨S1024x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S1024, .f32⟩
  | .hbm, ⟨15, _⟩ => ⟨S8x4096x512, .bf16⟩
  | .hbm, ⟨16, _⟩ => ⟨S8x4096x256, .bf16⟩
  | .hbm, ⟨17, _⟩ => ⟨S8x4096x256, .bf16⟩
  | .hbm, ⟨18, _⟩ => ⟨S1024x1024, .bf16⟩
  | .hbm, ⟨19, _⟩ => ⟨S1x1024, .f32⟩
  | .hbm, ⟨20, _⟩ => ⟨S1024x5632, .bf16⟩
  | .hbm, ⟨21, _⟩ => ⟨S1x5632, .f32⟩
  | .hbm, ⟨22, _⟩ => ⟨S2816x1024, .bf16⟩
  | .hbm, ⟨23, _⟩ => ⟨S1x1024, .f32⟩
  | .hbm, ⟨24, _⟩ => ⟨S8x4096x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x256, .bf16⟩
  | .local _ .vmem, ⟨13, _⟩ => ⟨S1x16x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x16x256, .bf16⟩
  | .local _ .vmem, ⟨17, _⟩ => ⟨S1x16x256, .bf16⟩
  | .local _ .vmem, ⟨18, _⟩ => ⟨S1x16x256, .bf16⟩
  | .local _ .vmem, ⟨19, _⟩ => ⟨S1x16x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x16x256, .bf16⟩
  | .local _ .vmem, ⟨23, _⟩ => ⟨S1x16x256, .bf16⟩
  | .local _ .vmem, ⟨24, _⟩ => ⟨S1024x1024, .bf16⟩
  | .local _ .vmem, ⟨25, _⟩ => ⟨S1x1x1024, .f32⟩
  | .local _ .vmem, ⟨26, _⟩ => ⟨S1x1x1024, .f32⟩
  | .local _ .vmem, ⟨27, _⟩ => ⟨S1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1024x5632, .bf16⟩
  | .local _ .vmem, ⟨35, _⟩ => ⟨S3x5632, .f32⟩
  | .local _ .vmem, ⟨36, _⟩ => ⟨S1x5632, .f32⟩
  | .local _ .vmem, ⟨37, _⟩ => ⟨S2816x1024, .bf16⟩
  | .local _ .vmem, ⟨38, _⟩ => ⟨S1x1024, .f32⟩
  | .local _ .vmem, ⟨39, _⟩ => ⟨S1x512x1024, .f32⟩
  | .local _ .vmem, ⟨40, _⟩ => ⟨S1x512x1024, .f32⟩
  | .local _ .vmem, ⟨41, _⟩ => ⟨S528x1024, .bf16⟩
  | .local _ .vmem, ⟨42, _⟩ => ⟨S2x528x512, .f32⟩
  | .local _ .vmem, ⟨43, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg23_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1024x5632 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S3x5632 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x5632 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S2816x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== OutFfnReferenceIdeal.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S1024x1024 : Shape := ⟨2, ![1024, 1024]⟩
abbrev S8x1x1024 : Shape := ⟨3, ![8, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x256, .f32⟩
  | .hbm, ⟨3, _⟩ => ⟨S8x4096x256, .f32⟩
  | .hbm, ⟨4, _⟩ => ⟨S1024x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x5632, .f32⟩
  | .hbm, ⟨44, _⟩ => ⟨S_, .i32⟩
  | .hbm, ⟨45, _⟩ => ⟨S_, .f32⟩
  | .hbm, ⟨46, _⟩ => ⟨S8x4098x5632, .f32⟩
  | .hbm, ⟨47, _⟩ => ⟨S8x4096x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S1x1x5632, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S8x4096x5632, .f32⟩
  | .hbm, ⟨61, _⟩ => ⟨S8x4096x5632, .f32⟩
  | .hbm, ⟨62, _⟩ => ⟨S8x4096x5632, .f32⟩
  | .hbm, ⟨63, _⟩ => ⟨S8x4096x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S8x4096x5632, .f32⟩
  | .hbm, ⟨68, _⟩ => ⟨S8x4096x5632, .f32⟩
  | .hbm, ⟨69, _⟩ => ⟨S8x4096x5632, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_call0_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_3 : Ref sig .tc := ⟨.hbm, 87, rfl⟩
abbrev main_v58 : Ref sig .tc := ⟨.hbm, 88, rfl⟩
abbrev main_v59 : Ref sig .tc := ⟨.hbm, 89, rfl⟩
abbrev main_cst_4 : Ref sig .tc := ⟨.hbm, 90, rfl⟩
abbrev main_v60 : Ref sig .tc := ⟨.hbm, 91, rfl⟩
abbrev main_v61 : Ref sig .tc := ⟨.hbm, 92, rfl⟩
abbrev main_cst_5 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== MixerIn.lean ====
abbrev S8x4096x1024 : Shape := ⟨3, ![8, 4096, 1024]⟩
abbrev S1024 : Shape := ⟨1, ![1024]⟩
abbrev S8x1x1024 : Shape := ⟨3, ![8, 1, 1024]⟩
abbrev S1024x2224 : Shape := ⟨2, ![1024, 2224]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x16 : Shape := ⟨2, ![4096, 16]⟩
abbrev S3x256 : Shape := ⟨2, ![3, 256]⟩
abbrev S4x64x64 : Shape := ⟨3, ![4, 64, 64]⟩
abbrev S4x4 : Shape := ⟨2, ![4, 4]⟩
abbrev S3x768 : Shape := ⟨2, ![3, 768]⟩
abbrev S768 : Shape := ⟨1, ![768]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S256x8x128 : Shape := ⟨3, ![256, 8, 128]⟩
abbrev S256x8x64 : Shape := ⟨3, ![256, 8, 64]⟩
abbrev S256x512 : Shape := ⟨2, ![256, 512]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x32 : Shape := ⟨2, ![1, 32]⟩
abbrev S1x16 : Shape := ⟨2, ![1, 16]⟩
abbrev S1x80 : Shape := ⟨2, ![1, 80]⟩
abbrev S1x128 : Shape := ⟨2, ![1, 128]⟩
abbrev S1x1024 : Shape := ⟨2, ![1, 1024]⟩
abbrev S1024x16 : Shape := ⟨2, ![1024, 16]⟩
abbrev S1024x80 : Shape := ⟨2, ![1024, 80]⟩
abbrev S1024x672 : Shape := ⟨2, ![1024, 672]⟩
abbrev S1024x768 : Shape := ⟨2, ![1024, 768]⟩
abbrev S1024x2304 : Shape := ⟨2, ![1024, 2304]⟩
abbrev S1x384 : Shape := ⟨2, ![1, 384]⟩
abbrev S1x256 : Shape := ⟨2, ![1, 256]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S1x768 : Shape := ⟨2, ![1, 768]⟩
abbrev S8x4096x512 : Shape := ⟨3, ![8, 4096, 512]⟩
abbrev S8x4096x256 : Shape := ⟨3, ![8, 4096, 256]⟩
abbrev S8x32x256x128 : Shape := ⟨4, ![8, 32, 256, 128]⟩
abbrev S8x4096x128 : Shape := ⟨3, ![8, 4096, 128]⟩
abbrev S8x32x128x128 : Shape := ⟨4, ![8, 32, 128, 128]⟩
abbrev S4096x2048 : Shape := ⟨2, ![4096, 2048]⟩
abbrev S1x8x1024 : Shape := ⟨3, ![1, 8, 1024]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x4x256x128 : Shape := ⟨4, ![1, 4, 256, 128]⟩
abbrev S1x512x128 : Shape := ⟨3, ![1, 512, 128]⟩
abbrev S1x4x128x128 : Shape := ⟨4, ![1, 4, 128, 128]⟩
abbrev S512x256 : Shape := ⟨2, ![512, 256]⟩
abbrev S528x2304 : Shape := ⟨2, ![528, 2304]⟩
abbrev S8x1024 : Shape := ⟨2, ![8, 1024]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩
abbrev S528x768 : Shape := ⟨2, ![528, 768]⟩
abbrev S512x384 : Shape := ⟨2, ![512, 384]⟩
abbrev S512 : Shape := ⟨1, ![512]⟩
abbrev S512x1 : Shape := ⟨2, ![512, 1]⟩
abbrev S512x512 : Shape := ⟨2, ![512, 512]⟩
abbrev S528x256 : Shape := ⟨2, ![528, 256]⟩
abbrev S128x128 : Shape := ⟨2, ![128, 128]⟩
abbrev S1x128x128 : Shape := ⟨3, ![1, 128, 128]⟩
abbrev S1x1x128x128 : Shape := ⟨4, ![1, 1, 128, 128]⟩
abbrev S256x128 : Shape := ⟨2, ![256, 128]⟩
abbrev S1x1x256x128 : Shape := ⟨4, ![1, 1, 256, 128]⟩
abbrev S512x768 : Shape := ⟨2, ![512, 768]⟩

abbrev nBuf : Space → Nat
  | .hbm => 114
  | .vmem => 52
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2224, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S4096x16, .f32⟩
  | .hbm, ⟨10, _⟩ => ⟨S4096x16, .f32⟩
  | .hbm, ⟨11, _⟩ => ⟨S3x256, .f32⟩
  | .hbm, ⟨12, _⟩ => ⟨S256, .f32⟩
  | .hbm, ⟨13, _⟩ => ⟨S4x64x64, .f32⟩
  | .hbm, ⟨14, _⟩ => ⟨S4x64x64, .f32⟩
  | .hbm, ⟨15, _⟩ => ⟨S4x4, .f32⟩
  | .hbm, ⟨16, _⟩ => ⟨S3x768, .f32⟩
  | .hbm, ⟨17, _⟩ => ⟨S768, .f32⟩
  | .hbm, ⟨18, _⟩ => ⟨S_, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S_, .f32⟩
  | .hbm, ⟨23, _⟩ => ⟨S4096x32, .f32⟩
  | .hbm, ⟨24, _⟩ => ⟨S4096x128, .f32⟩
  | .hbm, ⟨25, _⟩ => ⟨S4096x16, .f32⟩
  | .hbm, ⟨26, _⟩ => ⟨S4096x128, .f32⟩
  | .hbm, ⟨27, _⟩ => ⟨S256x8x128, .f32⟩
  | .hbm, ⟨28, _⟩ => ⟨S_, .f32⟩
  | .hbm, ⟨29, _⟩ => ⟨S256x8x64, .f32⟩
  | .hbm, ⟨30, _⟩ => ⟨S256x8x64, .f32⟩
  | .hbm, ⟨31, _⟩ => ⟨S256x8x128, .f32⟩
  | .hbm, ⟨32, _⟩ => ⟨S256x1024, .f32⟩
  | .hbm, ⟨33, _⟩ => ⟨S256x8x64, .f32⟩
  | .hbm, ⟨34, _⟩ => ⟨S256x512, .f32⟩
  | .hbm, ⟨35, _⟩ => ⟨S256x1024, .bf16⟩
  | .hbm, ⟨36, _⟩ => ⟨S256x512, .bf16⟩
  | .hbm, ⟨37, _⟩ => ⟨S4x4, .i32⟩
  | .hbm, ⟨38, _⟩ => ⟨S4x4, .i32⟩
  | .hbm, ⟨39, _⟩ => ⟨S_, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S4x4, .f32⟩
  | .hbm, ⟨44, _⟩ => ⟨S4x64x1x64, .f32⟩
  | .hbm, ⟨45, _⟩ => ⟨S4x1x4x1, .f32⟩
  | .hbm, ⟨46, _⟩ => ⟨S4x64x4x64, .f32⟩
  | .hbm, ⟨47, _⟩ => ⟨S4x64x4x64, .f32⟩
  | .hbm, ⟨48, _⟩ => ⟨S4x64x4x64, .f32⟩
  | .hbm, ⟨49, _⟩ => ⟨S256x256, .f32⟩
  | .hbm, ⟨50, _⟩ => ⟨S256x256, .bf16⟩
  | .hbm, ⟨51, _⟩ => ⟨S4x4, .i32⟩
  | .hbm, ⟨52, _⟩ => ⟨S4x4, .i32⟩
  | .hbm, ⟨53, _⟩ => ⟨S_, .i32⟩
  | .hbm, ⟨54, _⟩ => ⟨S4x4, .i32⟩
  | .hbm, ⟨55, _⟩ => ⟨S4x4, .i32⟩
  | .hbm, ⟨56, _⟩ => ⟨S4x4, .i1⟩
  | .hbm, ⟨57, _⟩ => ⟨S4x4, .f32⟩
  | .hbm, ⟨58, _⟩ => ⟨S4x64x1x64, .f32⟩
  | .hbm, ⟨59, _⟩ => ⟨S4x1x4x1, .f32⟩
  | .hbm, ⟨60, _⟩ => ⟨S4x64x4x64, .f32⟩
  | .hbm, ⟨61, _⟩ => ⟨S4x64x4x64, .f32⟩
  | .hbm, ⟨62, _⟩ => ⟨S4x64x4x64, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .bf16⟩
  | .hbm, ⟨68, _⟩ => ⟨S_, .f32⟩
  | .hbm, ⟨69, _⟩ => ⟨S1x32, .f32⟩
  | .hbm, ⟨70, _⟩ => ⟨S1x16, .f32⟩
  | .hbm, ⟨71, _⟩ => ⟨S_, .f32⟩
  | .hbm, ⟨72, _⟩ => ⟨S1x80, .f32⟩
  | .hbm, ⟨73, _⟩ => ⟨S1x128, .f32⟩
  | .hbm, ⟨74, _⟩ => ⟨S1x1024, .f32⟩
  | .hbm, ⟨75, _⟩ => ⟨S1024x16, .f32⟩
  | .hbm, ⟨76, _⟩ => ⟨S_, .f32⟩
  | .hbm, ⟨77, _⟩ => ⟨S1024x80, .f32⟩
  | .hbm, ⟨78, _⟩ => ⟨S1024x672, .f32⟩
  | .hbm, ⟨79, _⟩ => ⟨S1024x768, .f32⟩
  | .hbm, ⟨80, _⟩ => ⟨S1024x768, .f32⟩
  | .hbm, ⟨81, _⟩ => ⟨S1024x2304, .f32⟩
  | .hbm, ⟨82, _⟩ => ⟨S1024x2304, .bf16⟩
  | .hbm, ⟨83, _⟩ => ⟨S1x384, .f32⟩
  | .hbm, ⟨84, _⟩ => ⟨S1x256, .f32⟩
  | .hbm, ⟨85, _⟩ => ⟨S384x8x96, .f32⟩
  | .hbm, ⟨86, _⟩ => ⟨S_, .f32⟩
  | .hbm, ⟨87, _⟩ => ⟨S384x8x32, .f32⟩
  | .hbm, ⟨88, _⟩ => ⟨S384x8x128, .f32⟩
  | .hbm, ⟨89, _⟩ => ⟨S384x1024, .f32⟩
  | .hbm, ⟨90, _⟩ => ⟨S384x1024, .bf16⟩
  | .hbm, ⟨91, _⟩ => ⟨S384x8x96, .f32⟩
  | .hbm, ⟨92, _⟩ => ⟨S_, .f32⟩
  | .hbm, ⟨93, _⟩ => ⟨S384x8x64, .f32⟩
  | .hbm, ⟨94, _⟩ => ⟨S_, .f32⟩
  | .hbm, ⟨95, _⟩ => ⟨S384x8x32, .f32⟩
  | .hbm, ⟨96, _⟩ => ⟨S384x8x16, .f32⟩
  | .hbm, ⟨97, _⟩ => ⟨S384x8x16, .f32⟩
  | .hbm, ⟨98, _⟩ => ⟨S384x8x128, .f32⟩
  | .hbm, ⟨99, _⟩ => ⟨S384x1024, .f32⟩
  | .hbm, ⟨100, _⟩ => ⟨S384x1024, .bf16⟩
  | .hbm, ⟨101, _⟩ => ⟨S1x256, .f32⟩
  | .hbm, ⟨102, _⟩ => ⟨S1x768, .f32⟩
  | .hbm, ⟨103, _⟩ => ⟨S8x4096x1024, .bf16⟩
  | .hbm, ⟨104, _⟩ => ⟨S8x4096x1024, .bf16⟩
  | .hbm, ⟨105, _⟩ => ⟨S8x4096x512, .bf16⟩
  | .hbm, ⟨106, _⟩ => ⟨S8x4096x256, .bf16⟩
  | .hbm, ⟨107, _⟩ => ⟨S8x32x256x128, .bf16⟩
  | .hbm, ⟨108, _⟩ => ⟨S8x32x256x128, .bf16⟩
  | .hbm, ⟨109, _⟩ => ⟨S8x4096x128, .f32⟩
  | .hbm, ⟨110, _⟩ => ⟨S8x32x128x128, .f32⟩
  | .hbm, ⟨111, _⟩ => ⟨S8x4096x256, .bf16⟩
  | .hbm, ⟨112, _⟩ => ⟨S8x4096x256, .bf16⟩
  | .hbm, ⟨113, _⟩ => ⟨S4096x2048, .bf16⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x2304, .bf16⟩
  | .local _ .vmem, ⟨12, _⟩ => ⟨S1x384, .f32⟩
  | .local _ .vmem, ⟨13, _⟩ => ⟨S1x256, .f32⟩
  | .local _ .vmem, ⟨14, _⟩ => ⟨S384x1024, .bf16⟩
  | .local _ .vmem, ⟨15, _⟩ => ⟨S384x1024, .bf16⟩
  | .local _ .vmem, ⟨16, _⟩ => ⟨S256x1024, .bf16⟩
  | .local _ .vmem, ⟨17, _⟩ => ⟨S256x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S3x256, .f32⟩
  | .local _ .vmem, ⟨23, _⟩ => ⟨S1x256, .f32⟩
  | .local _ .vmem, ⟨24, _⟩ => ⟨S256x256, .bf16⟩
  | .local _ .vmem, ⟨25, _⟩ => ⟨S256x256, .bf16⟩
  | .local _ .vmem, ⟨26, _⟩ => ⟨S1x128, .f32⟩
  | .local _ .vmem, ⟨27, _⟩ => ⟨S3x768, .f32⟩
  | .local _ .vmem, ⟨28, _⟩ => ⟨S1x768, .f32⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x256, .bf16⟩
  | .local _ .vmem, ⟨36, _⟩ => ⟨S1x512x256, .bf16⟩
  | .local _ .vmem, ⟨37, _⟩ => ⟨S1x4x256x128, .bf16⟩
  | .local _ .vmem, ⟨38, _⟩ => ⟨S1x4x256x128, .bf16⟩
  | .local _ .vmem, ⟨39, _⟩ => ⟨S1x4x256x128, .bf16⟩
  | .local _ .vmem, ⟨40, _⟩ => ⟨S1x4x256x128, .bf16⟩
  | .local _ .vmem, ⟨41, _⟩ => ⟨S1x512x128, .f32⟩
  | .local _ .vmem, ⟨42, _⟩ => ⟨S1x512x128, .f32⟩
  | .local _ .vmem, ⟨43, _⟩ => ⟨S1x4x128x128, .f32⟩
  | .local _ .vmem, ⟨44, _⟩ => ⟨S1x4x128x128, .f32⟩
  | .local _ .vmem, ⟨45, _⟩ => ⟨S1x512x256, .bf16⟩
  | .local _ .vmem, ⟨46, _⟩ => ⟨S1x512x256, .bf16⟩
  | .local _ .vmem, ⟨47, _⟩ => ⟨S1x512x256, .bf16⟩
  | .local _ .vmem, ⟨48, _⟩ => ⟨S1x512x256, .bf16⟩
  | .local _ .vmem, ⟨49, _⟩ => ⟨S512x256, .bf16⟩
  | .local _ .vmem, ⟨50, _⟩ => ⟨S512x256, .bf16⟩
  | .local _ .vmem, ⟨51, _⟩ => ⟨S528x2304, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72_0 : Ref sig .tc := ⟨.hbm, 103, rfl⟩
abbrev main_v72_1 : Ref sig .tc := ⟨.hbm, 104, rfl⟩
abbrev main_v72_2 : Ref sig .tc := ⟨.hbm, 105, rfl⟩
abbrev main_v72_3 : Ref sig .tc := ⟨.hbm, 106, rfl⟩
abbrev main_v72_4 : Ref sig .tc := ⟨.hbm, 107, rfl⟩
abbrev main_v72_5 : Ref sig .tc := ⟨.hbm, 108, rfl⟩
abbrev main_v72_6 : Ref sig .tc := ⟨.hbm, 109, rfl⟩
abbrev main_v72_7 : Ref sig .tc := ⟨.hbm, 110, rfl⟩
abbrev main_v72_8 : Ref sig .tc := ⟨.hbm, 111, rfl⟩
abbrev main_v72_9 : Ref sig .tc := ⟨.hbm, 112, rfl⟩
abbrev main_v72_10 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_stg31_0 : Ref sig .tc := ⟨.vmem, 47, rfl⟩
abbrev cc0_stg31_1 : Ref sig .tc := ⟨.vmem, 48, rfl⟩
abbrev cc0_stg32_0 : Ref sig .tc := ⟨.vmem, 49, rfl⟩
abbrev cc0_stg32_1 : Ref sig .tc := ⟨.vmem, 50, rfl⟩
abbrev cc0_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46
abbrev cc0_sem31_0 : DmaSem sig := 47
abbrev cc0_sem31_1 : DmaSem sig := 48
abbrev cc0_sem32_0 : DmaSem sig := 49
abbrev cc0_sem32_1 : DmaSem sig := 50

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S3x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S3x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x4x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x4x256x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x4x128x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x512x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x512x256 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S512x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]
-- ==== MixerInReferenceIdeal.lean ====
abbrev S8x4096x1024 : Shape := ⟨3, ![8, 4096, 1024]⟩
abbrev S1024 : Shape := ⟨1, ![1024]⟩
abbrev S8x1x1024 : Shape := ⟨3, ![8, 1, 1024]⟩
abbrev S1024x2224 : Shape := ⟨2, ![1024, 2224]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x16 : Shape := ⟨2, ![4096, 16]⟩
abbrev S3x256 : Shape := ⟨2, ![3, 256]⟩
abbrev S4x64x64 : Shape := ⟨3, ![4, 64, 64]⟩
abbrev S4x4 : Shape := ⟨2, ![4, 4]⟩
abbrev S3x768 : Shape := ⟨2, ![3, 768]⟩
abbrev S768 : Shape := ⟨1, ![768]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2224 : Shape := ⟨3, ![8, 4096, 2224]⟩
abbrev S8x4096x784 : Shape := ⟨3, ![8, 4096, 784]⟩
abbrev S8x4096x256 : Shape := ⟨3, ![8, 4096, 256]⟩
abbrev S8x32x128x256 : Shape := ⟨4, ![8, 32, 128, 256]⟩
abbrev S8x32x256x128 : Shape := ⟨4, ![8, 32, 256, 128]⟩
abbrev S8x4096x768 : Shape := ⟨3, ![8, 4096, 768]⟩
abbrev S8x4098x768 : Shape := ⟨3, ![8, 4098, 768]⟩
abbrev S1x768 : Shape := ⟨2, ![1, 768]⟩
abbrev S1x1x768 : Shape := ⟨3, ![1, 1, 768]⟩
abbrev S4096x8x256 : Shape := ⟨3, ![4096, 8, 256]⟩
abbrev S4096x2048 : Shape := ⟨2, ![4096, 2048]⟩
abbrev S1x1x256 : Shape := ⟨3, ![1, 1, 256]⟩
abbrev S8x4096x8x128 : Shape := ⟨4, ![8, 4096, 8, 128]⟩
abbrev S8x4096x8x64 : Shape := ⟨4, ![8, 4096, 8, 64]⟩
abbrev S8x4096x512 : Shape := ⟨3, ![8, 4096, 512]⟩
abbrev S8x4098x256 : Shape := ⟨3, ![8, 4098, 256]⟩
abbrev S1x256 : Shape := ⟨2, ![1, 256]⟩
abbrev S8x4096x4x64 : Shape := ⟨4, ![8, 4096, 4, 64]⟩
abbrev S4x64x8x4096 : Shape := ⟨4, ![4, 64, 8, 4096]⟩
abbrev S8x4096x8x32 : Shape := ⟨4, ![8, 4096, 8, 32]⟩
abbrev S8x4096x32 : Shape := ⟨3, ![8, 4096, 32]⟩
abbrev S8x4096x16 : Shape := ⟨3, ![8, 4096, 16]⟩
abbrev S1x4096x16 : Shape := ⟨3, ![1, 4096, 16]⟩
abbrev S8x4096x1x32 : Shape := ⟨4, ![8, 4096, 1, 32]⟩
abbrev S8x4096x384 : Shape := ⟨3, ![8, 4096, 384]⟩
abbrev S1x1x384 : Shape := ⟨3, ![1, 1, 384]⟩
abbrev S8x4096x8x96 : Shape := ⟨4, ![8, 4096, 8, 96]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩

abbrev nBuf : Space → Nat
  | .hbm => 228
  | .vmem => 0
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S1024x2224, .f32⟩
  | 5 => ⟨S384, .f32⟩
  | 6 => ⟨S256, .f32⟩
  | 7 => ⟨S384x768, .f32⟩
  | 8 => ⟨S256x1024, .f32⟩
  | 9 => ⟨S4096x16, .f32⟩
  | 10 => ⟨S4096x16, .f32⟩
  | 11 => ⟨S3x256, .f32⟩
  | 12 => ⟨S256, .f32⟩
  | 13 => ⟨S4x64x64, .f32⟩
  | 14 => ⟨S4x64x64, .f32⟩
  | 15 => ⟨S4x4, .f32⟩
  | 16 => ⟨S3x768, .f32⟩
  | 17 => ⟨S768, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x2224, .f32⟩
  | 42 => ⟨S8x4096x784, .f32⟩
  | 43 => ⟨S8x4096x256, .f32⟩
  | 44 => ⟨S8x4096x256, .f32⟩
  | 45 => ⟨S8x32x128x256, .f32⟩
  | 46 => ⟨S8x32x256x128, .f32⟩
  | 47 => ⟨S8x4096x768, .f32⟩
  | 48 => ⟨S_, .i32⟩
  | 49 => ⟨S_, .f32⟩
  | 50 => ⟨S8x4098x768, .f32⟩
  | 51 => ⟨S8x4096x768, .f32⟩
  | 52 => ⟨S1x768, .f32⟩
  | 53 => ⟨S768, .f32⟩
  | 54 => ⟨S1x1x768, .f32⟩
  | 55 => ⟨S8x4096x768, .f32⟩
  | 56 => ⟨S8x4096x768, .f32⟩
  | 57 => ⟨S1x1x768, .f32⟩
  | 58 => ⟨S8x4096x768, .f32⟩
  | 59 => ⟨S8x4096x768, .f32⟩
  | 60 => ⟨S8x4096x768, .f32⟩
  | 61 => ⟨S1x768, .f32⟩
  | 62 => ⟨S768, .f32⟩
  | 63 => ⟨S1x1x768, .f32⟩
  | 64 => ⟨S8x4096x768, .f32⟩
  | 65 => ⟨S8x4096x768, .f32⟩
  | 66 => ⟨S8x4096x768, .f32⟩
  | 67 => ⟨S8x4096x768, .f32⟩
  | 68 => ⟨S1x768, .f32⟩
  | 69 => ⟨S768, .f32⟩
  | 70 => ⟨S1x1x768, .f32⟩
  | 71 => ⟨S8x4096x768, .f32⟩
  | 72 => ⟨S8x4096x768, .f32⟩
  | 73 => ⟨S8x4096x768, .f32⟩
  | 74 => ⟨S8x4096x256, .f32⟩
  | 75 => ⟨S8x4096x256, .f32⟩
  | 76 => ⟨S8x4096x256, .f32⟩
  | 77 => ⟨S8x4096x256, .f32⟩
  | 78 => ⟨S4096x8x256, .f32⟩
  | 79 => ⟨S4096x2048, .f32⟩
  | 80 => ⟨S8x4096x256, .f32⟩
  | 81 => ⟨S8x4096x256, .f32⟩
  | 82 => ⟨S_, .f32⟩
  | 83 => ⟨S8x4096, .f32⟩
  | 84 => ⟨S8x4096x1, .f32⟩
  | 85 => ⟨S_, .f32⟩
  | 86 => ⟨S8x4096x1, .f32⟩
  | 87 => ⟨S8x4096x1, .f32⟩
  | 88 => ⟨S_, .f32⟩
  | 89 => ⟨S8x4096x1, .f32⟩
  | 90 => ⟨S8x4096x1, .f32⟩
  | 91 => ⟨S8x4096x1, .f32⟩
  | 92 => ⟨S8x4096x256, .f32⟩
  | 93 => ⟨S8x4096x256, .f32⟩
  | 94 => ⟨S1x1x256, .f32⟩
  | 95 => ⟨S8x4096x256, .f32⟩
  | 96 => ⟨S8x4096x256, .f32⟩
  | 97 => ⟨S8x4096x1024, .f32⟩
  | 98 => ⟨S8x4096x8x128, .f32⟩
  | 99 => ⟨S8x4096x8x64, .f32⟩
  | 100 => ⟨S8x4096x512, .f32⟩
  | 101 => ⟨S8x4096x256, .f32⟩
  | 102 => ⟨S_, .i32⟩
  | 103 => ⟨S_, .f32⟩
  | 104 => ⟨S8x4098x256, .f32⟩
  | 105 => ⟨S8x4096x256, .f32⟩
  | 106 => ⟨S1x256, .f32⟩
  | 107 => ⟨S256, .f32⟩
  | 108 => ⟨S1x1x256, .f32⟩
  | 109 => ⟨S8x4096x256, .f32⟩
  | 110 => ⟨S8x4096x256, .f32⟩
  | 111 => ⟨S1x1x256, .f32⟩
  | 112 => ⟨S8x4096x256, .f32⟩
  | 113 => ⟨S8x4096x256, .f32⟩
  | 114 => ⟨S8x4096x256, .f32⟩
  | 115 => ⟨S1x256, .f32⟩
  | 116 => ⟨S256, .f32⟩
  | 117 => ⟨S1x1x256, .f32⟩
  | 118 => ⟨S8x4096x256, .f32⟩
  | 119 => ⟨S8x4096x256, .f32⟩
  | 120 => ⟨S8x4096x256, .f32⟩
  | 121 => ⟨S8x4096x256, .f32⟩
  | 122 => ⟨S1x256, .f32⟩
  | 123 => ⟨S256, .f32⟩
  | 124 => ⟨S1x1x256, .f32⟩
  | 125 => ⟨S8x4096x256, .f32⟩
  | 126 => ⟨S8x4096x256, .f32⟩
  | 127 => ⟨S8x4096x256, .f32⟩
  | _ => ⟨S8x4096x1024, .f32⟩

abbrev hbmTy0_1 (i : Nat) : BufTy := match i % 128 with
  | 0 => ⟨S8x4096x256, .f32⟩
  | 1 => ⟨S8x4096x256, .f32⟩
  | 2 => ⟨S_, .f32⟩
  | 3 => ⟨S8x4096x256, .f32⟩
  | 4 => ⟨S8x4096x256, .f32⟩
  | 5 => ⟨S_, .f32⟩
  | 6 => ⟨S8x4096x256, .f32⟩
  | 7 => ⟨S8x4096x256, .f32⟩
  | 8 => ⟨S8x4096x256, .f32⟩
  | 9 => ⟨S8x4096x4x64, .f32⟩
  | 10 => ⟨S4x64x8x4096, .f32⟩
  | 11 => ⟨S8x4096x4x64, .f32⟩
  | 12 => ⟨S_, .f32⟩
  | 13 => ⟨S8x4096x4x64, .f32⟩
  | 14 => ⟨S8x4096x4x64, .f32⟩
  | 15 => ⟨S8x4096x256, .f32⟩
  | 16 => ⟨S4x64x8x4096, .f32⟩
  | 17 => ⟨S8x4096x4x64, .f32⟩
  | 18 => ⟨S8x4096x256, .f32⟩
  | 19 => ⟨S8x32x128x256, .f32⟩
  | 20 => ⟨S8x32x256x128, .f32⟩
  | 21 => ⟨S_, .f32⟩
  | 22 => ⟨S8x4096x8x32, .f32⟩
  | 23 => ⟨S8x4096x32, .f32⟩
  | 24 => ⟨S8x4096x16, .f32⟩
  | 25 => ⟨S8x4096x16, .f32⟩
  | 26 => ⟨S1x4096x16, .f32⟩
  | 27 => ⟨S8x4096x16, .f32⟩
  | 28 => ⟨S8x4096x16, .f32⟩
  | 29 => ⟨S1x4096x16, .f32⟩
  | 30 => ⟨S8x4096x16, .f32⟩
  | 31 => ⟨S8x4096x16, .f32⟩
  | 32 => ⟨S8x4096x16, .f32⟩
  | 33 => ⟨S1x4096x16, .f32⟩
  | 34 => ⟨S8x4096x16, .f32⟩
  | 35 => ⟨S8x4096x16, .f32⟩
  | 36 => ⟨S1x4096x16, .f32⟩
  | 37 => ⟨S8x4096x16, .f32⟩
  | 38 => ⟨S8x4096x16, .f32⟩
  | 39 => ⟨S8x4096x16, .f32⟩
  | 40 => ⟨S8x4096x32, .f32⟩
  | 41 => ⟨S8x4096x1x32, .f32⟩
  | 42 => ⟨S8x4096x8x32, .f32⟩
  | 43 => ⟨S8x4096x8x64, .f32⟩
  | 44 => ⟨S8x4096x8x128, .f32⟩
  | 45 => ⟨S8x4096x1024, .f32⟩
  | 46 => ⟨S8x4096x384, .f32⟩
  | 47 => ⟨S8x4096x384, .f32⟩
  | 48 => ⟨S_, .f32⟩
  | 49 => ⟨S8x4096, .f32⟩
  | 50 => ⟨S8x4096x1, .f32⟩
  | 51 => ⟨S_, .f32⟩
  | 52 => ⟨S8x4096x1, .f32⟩
  | 53 => ⟨S8x4096x1, .f32⟩
  | 54 => ⟨S_, .f32⟩
  | 55 => ⟨S8x4096x1, .f32⟩
  | 56 => ⟨S8x4096x1, .f32⟩
  | 57 => ⟨S8x4096x1, .f32⟩
  | 58 => ⟨S8x4096x384, .f32⟩
  | 59 => ⟨S8x4096x384, .f32⟩
  | 60 => ⟨S1x1x384, .f32⟩
  | 61 => ⟨S8x4096x384, .f32⟩
  | 62 => ⟨S8x4096x384, .f32⟩
  | 63 => ⟨S8x4096x768, .f32⟩
  | 64 => ⟨S8x4096x8x96, .f32⟩
  | 65 => ⟨S8x4096x8x32, .f32⟩
  | 66 => ⟨S4096x1x16, .f32⟩
  | 67 => ⟨S4096x1x16, .f32⟩
  | 68 => ⟨S8x4096x8x16, .f32⟩
  | 69 => ⟨S8x4096x8x16, .f32⟩
  | 70 => ⟨S1x4096x1x16, .f32⟩
  | 71 => ⟨S8x4096x8x16, .f32⟩
  | 72 => ⟨S8x4096x8x16, .f32⟩
  | 73 => ⟨S1x4096x1x16, .f32⟩
  | 74 => ⟨S8x4096x8x16, .f32⟩
  | 75 => ⟨S8x4096x8x16, .f32⟩
  | 76 => ⟨S8x4096x8x16, .f32⟩
  | 77 => ⟨S1x4096x1x16, .f32⟩
  | 78 => ⟨S8x4096x8x16, .f32⟩
  | 79 => ⟨S8x4096x8x16, .f32⟩
  | 80 => ⟨S1x4096x1x16, .f32⟩
  | 81 => ⟨S8x4096x8x16, .f32⟩
  | 82 => ⟨S8x4096x8x16, .f32⟩
  | 83 => ⟨S8x4096x8x16, .f32⟩
  | 84 => ⟨S8x4096x8x32, .f32⟩
  | 85 => ⟨S8x4096x8x64, .f32⟩
  | 86 => ⟨S8x4096x8x128, .f32⟩
  | 87 => ⟨S8x4096x1024, .f32⟩
  | 88 => ⟨S_, .f32⟩
  | 89 => ⟨S8x4096x1024, .f32⟩
  | 90 => ⟨S8x4096x1024, .f32⟩
  | 91 => ⟨S8x4096x256, .bf16⟩
  | 92 => ⟨S8x32x256x128, .bf16⟩
  | 93 => ⟨S8x4096x256, .bf16⟩
  | 94 => ⟨S4096x2048, .bf16⟩
  | 95 => ⟨S8x4096x512, .bf16⟩
  | 96 => ⟨S8x4096x256, .bf16⟩
  | 97 => ⟨S8x32x256x128, .bf16⟩
  | 98 => ⟨S8x4096x1024, .bf16⟩
  | 99 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_3 : Ref sig .tc := ⟨.hbm, 82, rfl⟩
abbrev main_v58 : Ref sig .tc := ⟨.hbm, 83, rfl⟩
abbrev main_v59 : Ref sig .tc := ⟨.hbm, 84, rfl⟩
abbrev main_cst_4 : Ref sig .tc := ⟨.hbm, 85, rfl⟩
abbrev main_v60 : Ref sig .tc := ⟨.hbm, 86, rfl⟩
abbrev main_v61 : Ref sig .tc := ⟨.hbm, 87, rfl⟩
abbrev main_cst_5 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_6 : Ref sig .tc := ⟨.hbm, 102, rfl⟩
abbrev main_call1_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_7 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_8 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_9 : Ref sig .tc := ⟨.hbm, 176, rfl⟩
abbrev main_v137 : Ref sig .tc := ⟨.hbm, 177, rfl⟩
abbrev main_v138 : Ref sig .tc := ⟨.hbm, 178, rfl⟩
abbrev main_cst_10 : Ref sig .tc := ⟨.hbm, 179, rfl⟩
abbrev main_v139 : Ref sig .tc := ⟨.hbm, 180, rfl⟩
abbrev main_v140 : Ref sig .tc := ⟨.hbm, 181, rfl⟩
abbrev main_cst_11 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_cst_12 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩

abbrev nD : Nat := 1
abbrev τ : Topo := Topo.v7x

variable {F : FTy → Type} [FloatOps F]
-- ==== Proof.Mix.MixerInIdealRun.lean ====
module

public import proofs.«01_k».proof.Proof.Gen.MixerInIdeal.Frame.Runs

@[expose] public section

set_option maxRecDepth 16384

noncomputable section

namespace Cert.MixerInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body run once: the pieces its stores leave in each output and in the scratch, with the triple that finds them. -/
noncomputable def kernelRun0_A (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x2304 .bf16) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1024 .bf16) (harg11 : arg11.IsWhole) (arg12 : Memref sig .tc .vmem S384x1024 .bf16) (harg12 : arg12.IsWhole) (arg13 : Memref sig .tc .vmem S256x1024 .bf16) (harg13 : arg13.IsWhole) (arg14 : Memref sig .tc .vmem S256x512 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S3x256 .f32) (harg17 : arg17.IsWhole) (arg18 : Memref sig .tc .vmem S1x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S1x128 .f32) (harg21 : arg21.IsWhole) (arg22 : Memref sig .tc .vmem S3x768 .f32) (harg22 : arg22.IsWhole) (arg23 : Memref sig .tc .vmem S1x768 .f32) (harg23 : arg23.IsWhole) (arg24 : Memref sig .tc .vmem S1x512x1024 .bf16) (harg24 : arg24.IsWhole) (arg25 : Memref sig .tc .vmem S1x512x1024 .bf16) (harg25 : arg25.IsWhole) (arg26 : Memref sig .tc .vmem S1x512x512 .bf16) (harg26 : arg26.IsWhole) (arg27 : Memref sig .tc .vmem S1x512x256 .bf16) (harg27 : arg27.IsWhole) (arg28 : Memref sig .tc .vmem S1x4x256x128 .bf16) (harg28 : arg28.IsWhole) (arg29 : Memref sig .tc .vmem S1x4x256x128 .bf16) (harg29 : arg29.IsWhole) (arg30 : Memref sig .tc .vmem S1x512x128 .f32) (harg30 : arg30.IsWhole) (arg31 : Memref sig .tc .vmem S1x4x128x128 .f32) (harg31 : arg31.IsWhole) (arg32 : Memref sig .tc .vmem S1x512x256 .bf16) (harg32 : arg32.IsWhole) (arg33 : Memref sig .tc .vmem S1x512x256 .bf16) (harg33 : arg33.IsWhole) (arg34 : Memref sig .tc .vmem S512x256 .bf16) (harg34 : arg34.IsWhole) (arg35 : Memref sig .tc .vmem S528x2304 .f32) (harg35 : arg35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) :
    Σ' (L22 : List (View.Piece (Elt F) S1x512x1024 .bf16)), Σ' (L23 : List (View.Piece (Elt F) S1x512x1024 .bf16)), Σ' (L24 : List (View.Piece (Elt F) S1x512x512 .bf16)), Σ' (L25 : List (View.Piece (Elt F) S1x512x256 .bf16)), Σ' (L26 : List (View.Piece (Elt F) S1x4x256x128 .bf16)), Σ' (L27 : List (View.Piece (Elt F) S1x4x256x128 .bf16)), Σ' (L28 : List (View.Piece (Elt F) S1x512x128 .f32)), Σ' (L29 : List (View.Piece (Elt F) S1x4x128x128 .f32)), Σ' (L30 : List (View.Piece (Elt F) S1x512x256 .bf16)), Σ' (L31 : List (View.Piece (Elt F) S1x512x256 .bf16)), Σ' (L32 : List (View.Piece (Elt F) S512x256 .bf16)), { LT0 : List (View.Piece (Elt F) S528x2304 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f LT0)) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, ?_, ?_, ?_, ?_, ?_, ?_, fun E K => ?run⟩
  case run =>
    simp only [cc0_mixer_in_eq_skeleton]; unfold cc0_mixer_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact HS0

end Cert.MixerInIdeal.Gen

end
-- ==== Proof.Mix.MixerInIdealFrame.lean ====
module

public import proofs.«01_k».proof.Proof.Mix.MixerInIdealRun
public import Idealize.ShloMosaic.Lib.Claim

@[expose] public section

set_option maxRecDepth 16384

noncomputable section

namespace Cert.MixerInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into output 22 tile its block. -/
theorem cover0_A_22 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x1024.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).1 S1x512x1024.size (by sl_kernel_rfl) y

/-- What the run leaves in the staging buffer of output 22. -/
def out0_A_22 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x1024 .bf16 :=
  VO0_22.read (Elt F) (VO0_22.writes (Elt F) VO0_22.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).1)

/-- The stores into output 23 tile its block. -/
theorem cover0_A_23 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x1024.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.1 S1x512x1024.size (by sl_kernel_rfl) y

/-- What the run leaves in the staging buffer of output 23. -/
def out0_A_23 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x1024 .bf16 :=
  VO0_23.read (Elt F) (VO0_23.writes (Elt F) VO0_23.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.1)

/-- The stores into output 24 tile its block. -/
theorem cover0_A_24 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x512.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.1 S1x512x512.size (by sl_kernel_rfl) y

/-- What the run leaves in the staging buffer of output 24. -/
def out0_A_24 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x512 .bf16 :=
  VO0_24.read (Elt F) (VO0_24.writes (Elt F) VO0_24.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.1)

/-- The stores into output 25 tile its block. -/
theorem cover0_A_25 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x256.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.1 S1x512x256.size (by sl_kernel_rfl) y

/-- What the run leaves in the staging buffer of output 25. -/
def out0_A_25 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x256 .bf16 :=
  VO0_25.read (Elt F) (VO0_25.writes (Elt F) VO0_25.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.1)

/-- The stores into output 26 tile its block. -/
theorem cover0_A_26 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x4x256x128.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.1 S1x1x256x128.size (by sl_kernel_rfl) y

/-- What the run leaves in the staging buffer of output 26. -/
def out0_A_26 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x4x256x128 .bf16 :=
  VO0_26.read (Elt F) (VO0_26.writes (Elt F) VO0_26.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.1)

/-- The stores into output 27 tile its block. -/
theorem cover0_A_27 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x4x256x128.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.1 S1x1x256x128.size (by sl_kernel_rfl) y

/-- What the run leaves in the staging buffer of output 27. -/
def out0_A_27 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x4x256x128 .bf16 :=
  VO0_27.read (Elt F) (VO0_27.writes (Elt F) VO0_27.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.1)

/-- The stores into output 28 tile its block. -/
theorem cover0_A_28 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x128.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.1 S1x128x128.size (by sl_kernel_rfl) y

/-- What the run leaves in the staging buffer of output 28. -/
def out0_A_28 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x128 .f32 :=
  VO0_28.read (Elt F) (VO0_28.writes (Elt F) VO0_28.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.1)

/-- The stores into output 29 tile its block. -/
theorem cover0_A_29 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x4x128x128.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.1 S1x1x128x128.size (by sl_kernel_rfl) y

/-- What the run leaves in the staging buffer of output 29. -/
def out0_A_29 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x4x128x128 .f32 :=
  VO0_29.read (Elt F) (VO0_29.writes (Elt F) VO0_29.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.1)

/-- The stores into output 30 tile its block. -/
theorem cover0_A_30 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x256.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.1 S1x512x256.size (by sl_kernel_rfl) y

/-- What the run leaves in the staging buffer of output 30. -/
def out0_A_30 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x256 .bf16 :=
  VO0_30.read (Elt F) (VO0_30.writes (Elt F) VO0_30.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.1)

/-- The stores into output 31 tile its block. -/
theorem cover0_A_31 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S1x512x256.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.2.1 S1x512x256.size (by sl_kernel_rfl) y

/-- What the run leaves in the staging buffer of output 31. -/
def out0_A_31 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S1x512x256 .bf16 :=
  VO0_31.read (Elt F) (VO0_31.writes (Elt F) VO0_31.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.2.1)

/-- The stores into output 32 tile its block. -/
theorem cover0_A_32 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) (y : S512x256.Idx) :
    ∃ pc ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.2.2.1, y ∈ pc.1.set :=
  View.cover_of_tiledL (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.2.2.1 S512x256.size (by sl_kernel_rfl) y

/-- What the run leaves in the staging buffer of output 32. -/
def out0_A_32 (c : Dev nD) (i : grid0.Coords) (a2 : Memref sig .tc .vmem S1x8x1024 .f32) (h2 : a2.IsWhole) (a3 : Memref sig .tc .vmem S1x512x1024 .f32) (h3 : a3.IsWhole) (a4 : Memref sig .tc .vmem S1x8x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1024x2304 .bf16) (h8 : a8.IsWhole) (a9 : Memref sig .tc .vmem S1x384 .f32) (h9 : a9.IsWhole) (a10 : Memref sig .tc .vmem S1x256 .f32) (h10 : a10.IsWhole) (a11 : Memref sig .tc .vmem S384x1024 .bf16) (h11 : a11.IsWhole) (a12 : Memref sig .tc .vmem S384x1024 .bf16) (h12 : a12.IsWhole) (a13 : Memref sig .tc .vmem S256x1024 .bf16) (h13 : a13.IsWhole) (a14 : Memref sig .tc .vmem S256x512 .bf16) (h14 : a14.IsWhole) (a15 : Memref sig .tc .vmem S512x128 .f32) (h15 : a15.IsWhole) (a16 : Memref sig .tc .vmem S512x128 .f32) (h16 : a16.IsWhole) (a17 : Memref sig .tc .vmem S3x256 .f32) (h17 : a17.IsWhole) (a18 : Memref sig .tc .vmem S1x256 .f32) (h18 : a18.IsWhole) (a19 : Memref sig .tc .vmem S256x256 .bf16) (h19 : a19.IsWhole) (a20 : Memref sig .tc .vmem S256x256 .bf16) (h20 : a20.IsWhole) (a21 : Memref sig .tc .vmem S1x128 .f32) (h21 : a21.IsWhole) (a22 : Memref sig .tc .vmem S3x768 .f32) (h22 : a22.IsWhole) (a23 : Memref sig .tc .vmem S1x768 .f32) (h23 : a23.IsWhole) (a24 : Memref sig .tc .vmem S1x512x1024 .bf16) (h24 : a24.IsWhole) (a25 : Memref sig .tc .vmem S1x512x1024 .bf16) (h25 : a25.IsWhole) (a26 : Memref sig .tc .vmem S1x512x512 .bf16) (h26 : a26.IsWhole) (a27 : Memref sig .tc .vmem S1x512x256 .bf16) (h27 : a27.IsWhole) (a28 : Memref sig .tc .vmem S1x4x256x128 .bf16) (h28 : a28.IsWhole) (a29 : Memref sig .tc .vmem S1x4x256x128 .bf16) (h29 : a29.IsWhole) (a30 : Memref sig .tc .vmem S1x512x128 .f32) (h30 : a30.IsWhole) (a31 : Memref sig .tc .vmem S1x4x128x128 .f32) (h31 : a31.IsWhole) (a32 : Memref sig .tc .vmem S1x512x256 .bf16) (h32 : a32.IsWhole) (a33 : Memref sig .tc .vmem S1x512x256 .bf16) (h33 : a33.IsWhole) (a34 : Memref sig .tc .vmem S512x256 .bf16) (h34 : a34.IsWhole) (a35 : Memref sig .tc .vmem S528x2304 .f32) (h35 : a35.IsWhole)
    (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32) : Vec F S512x256 .bf16 :=
  VO0_32.read (Elt F) (VO0_32.writes (Elt F) VO0_32.junk (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 x0 x1 x2 x3 x4 x5 x6 x7 x8 x9 x10 x11 x12 x13 x14 x15 x16 x17 x18 x19 x20 x21).2.2.2.2.2.2.2.2.2.2.1)

/-! ## What the outputs hold after each point -/

/-- What the body leaves in the outputs at a point, in window order. -/
def outsAt0 (c : Dev nD) (t : Fin cfg0.N) : Vec F S1x512x1024 .bf16 × Vec F S1x512x1024 .bf16 × Vec F S1x512x512 .bf16 × Vec F S1x512x256 .bf16 × Vec F S1x4x256x128 .bf16 × Vec F S1x4x256x128 .bf16 × Vec F S1x512x128 .f32 × Vec F S1x4x128x128 .f32 × Vec F S1x512x256 .bf16 × Vec F S1x512x256 .bf16 × Vec F S512x256 .bf16 :=
  (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t))

/-! ## The pipeline's proof data -/

/-- The data of the pipeline on a core: the arrays as found, and what the body leaves at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t).1
    | ⟨23, _⟩ => (outsAt0 m c t).2.1
    | ⟨24, _⟩ => (outsAt0 m c t).2.2.1
    | ⟨25, _⟩ => (outsAt0 m c t).2.2.2.1
    | ⟨26, _⟩ => (outsAt0 m c t).2.2.2.2.1
    | ⟨27, _⟩ => (outsAt0 m c t).2.2.2.2.2.1
    | ⟨28, _⟩ => (outsAt0 m c t).2.2.2.2.2.2.1
    | ⟨29, _⟩ => (outsAt0 m c t).2.2.2.2.2.2.2.1
    | ⟨30, _⟩ => (outsAt0 m c t).2.2.2.2.2.2.2.2.1
    | ⟨31, _⟩ => (outsAt0 m c t).2.2.2.2.2.2.2.2.2.1
    | ⟨32, _⟩ => (outsAt0 m c t).2.2.2.2.2.2.2.2.2.2
    | ⟨_ + 33, h⟩ => absurd h (Nat.not_lt.2 (Nat.le_add_left _ _))
  Φ _ := Pipeline.ΦA spec0 c
  q w := Pipeline.shareOf spec0 w
  owed _ := 0

/-- The arrays are found as they were at the start of the region. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = iblk m c 11 t := by dsimp only [dats]
/-- What the body leaves in window 12. -/
theorem after0_12 (c : Dev nD) (t : Fin cfg0.N) : (dats m 0 c).after 12 t = iblk m c 12 t := by dsimp only [dats]
/-- What the body leaves in window 13. -/
theorem after0_13 (c : Dev nD) (t : Fin cfg0.N) : (dats m 0 c).after 13 t = iblk m c 13 t := by dsimp only [dats]
/-- What the body leaves in window 14. -/
theorem after0_14 (c : Dev nD) (t : Fin cfg0.N) : (dats m 0 c).after 14 t = iblk m c 14 t := by dsimp only [dats]
/-- What the body leaves in window 15. -/
theorem after0_15 (c : Dev nD) (t : Fin cfg0.N) : (dats m 0 c).after 15 t = iblk m c 15 t := by dsimp only [dats]
/-- What the body leaves in window 16. -/
theorem after0_16 (c : Dev nD) (t : Fin cfg0.N) : (dats m 0 c).after 16 t = iblk m c 16 t := by dsimp only [dats]
/-- What the body leaves in window 17. -/
theorem after0_17 (c : Dev nD) (t : Fin cfg0.N) : (dats m 0 c).after 17 t = iblk m c 17 t := by dsimp only [dats]
/-- What the body leaves in window 18. -/
theorem after0_18 (c : Dev nD) (t : Fin cfg0.N) : (dats m 0 c).after 18 t = iblk m c 18 t := by dsimp only [dats]
/-- What the body leaves in window 19. -/
theorem after0_19 (c : Dev nD) (t : Fin cfg0.N) : (dats m 0 c).after 19 t = iblk m c 19 t := by dsimp only [dats]
/-- What the body leaves in window 20. -/
theorem after0_20 (c : Dev nD) (t : Fin cfg0.N) : (dats m 0 c).after 20 t = iblk m c 20 t := by dsimp only [dats]
/-- What the body leaves in window 21. -/
theorem after0_21 (c : Dev nD) (t : Fin cfg0.N) : (dats m 0 c).after 21 t = iblk m c 21 t := by dsimp only [dats]
/-- What the body leaves in window 22. -/
theorem after0_22 (c : Dev nD) (t : Fin cfg0.N) : (dats m 0 c).after 22 t = (outsAt0 m c t).1 := by dsimp only [dats]
/-- What the body leaves in window 23. -/
theorem after0_23 (c : Dev nD) (t : Fin cfg0.N) : (dats m 0 c).after 23 t = (outsAt0 m c t).2.1 := by dsimp only [dats]
/-- What the body leaves in window 24. -/
theorem after0_24 (c : Dev nD) (t : Fin cfg0.N) : (dats m 0 c).after 24 t = (outsAt0 m c t).2.2.1 := by dsimp only [dats]
/-- What the body leaves in window 25. -/
theorem after0_25 (c : Dev nD) (t : Fin cfg0.N) : (dats m 0 c).after 25 t = (outsAt0 m c t).2.2.2.1 := by dsimp only [dats]
/-- What the body leaves in window 26. -/
theorem after0_26 (c : Dev nD) (t : Fin cfg0.N) : (dats m 0 c).after 26 t = (outsAt0 m c t).2.2.2.2.1 := by dsimp only [dats]
/-- What the body leaves in window 27. -/
theorem after0_27 (c : Dev nD) (t : Fin cfg0.N) : (dats m 0 c).after 27 t = (outsAt0 m c t).2.2.2.2.2.1 := by dsimp only [dats]
/-- What the body leaves in window 28. -/
theorem after0_28 (c : Dev nD) (t : Fin cfg0.N) : (dats m 0 c).after 28 t = (outsAt0 m c t).2.2.2.2.2.2.1 := by dsimp only [dats]
/-- What the body leaves in window 29. -/
theorem after0_29 (c : Dev nD) (t : Fin cfg0.N) : (dats m 0 c).after 29 t = (outsAt0 m c t).2.2.2.2.2.2.2.1 := by dsimp only [dats]
/-- What the body leaves in window 30. -/
theorem after0_30 (c : Dev nD) (t : Fin cfg0.N) : (dats m 0 c).after 30 t = (outsAt0 m c t).2.2.2.2.2.2.2.2.1 := by dsimp only [dats]
/-- What the body leaves in window 31. -/
theorem after0_31 (c : Dev nD) (t : Fin cfg0.N) : (dats m 0 c).after 31 t = (outsAt0 m c t).2.2.2.2.2.2.2.2.2.1 := by dsimp only [dats]
/-- What the body leaves in window 32. -/
theorem after0_32 (c : Dev nD) (t : Fin cfg0.N) : (dats m 0 c).after 32 t = (outsAt0 m c t).2.2.2.2.2.2.2.2.2.2 := by dsimp only [dats]

/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d
/-- What the body finds in window 6. -/
theorem before0_6 (c : Dev nD) (t : Fin cfg0.N) (d) : (dats m 0 c).before 6 t d = iblk m c 6 t :=
  before0_6_of m (dats m 0 c) (A_eq m c 6) (after0_6 m c) t d
/-- What the body finds in window 7. -/
theorem before0_7 (c : Dev nD) (t : Fin cfg0.N) (d) : (dats m 0 c).before 7 t d = iblk m c 7 t :=
  before0_7_of m (dats m 0 c) (A_eq m c 7) (after0_7 m c) t d
/-- What the body finds in window 8. -/
theorem before0_8 (c : Dev nD) (t : Fin cfg0.N) (d) : (dats m 0 c).before 8 t d = iblk m c 8 t :=
  before0_8_of m (dats m 0 c) (A_eq m c 8) (after0_8 m c) t d
/-- What the body finds in window 9. -/
theorem before0_9 (c : Dev nD) (t : Fin cfg0.N) (d) : (dats m 0 c).before 9 t d = iblk m c 9 t :=
  before0_9_of m (dats m 0 c) (A_eq m c 9) (after0_9 m c) t d
/-- What the body finds in window 10. -/
theorem before0_10 (c : Dev nD) (t : Fin cfg0.N) (d) : (dats m 0 c).before 10 t d = iblk m c 10 t :=
  before0_10_of m (dats m 0 c) (A_eq m c 10) (after0_10 m c) t d
/-- What the body finds in window 11. -/
theorem before0_11 (c : Dev nD) (t : Fin cfg0.N) (d) : (dats m 0 c).before 11 t d = iblk m c 11 t :=
  before0_11_of m (dats m 0 c) (A_eq m c 11) (after0_11 m c) t d
/-- What the body finds in window 12. -/
theorem before0_12 (c : Dev nD) (t : Fin cfg0.N) (d) : (dats m 0 c).before 12 t d = iblk m c 12 t :=
  before0_12_of m (dats m 0 c) (A_eq m c 12) (after0_12 m c) t d
/-- What the body finds in window 13. -/
theorem before0_13 (c : Dev nD) (t : Fin cfg0.N) (d) : (dats m 0 c).before 13 t d = iblk m c 13 t :=
  before0_13_of m (dats m 0 c) (A_eq m c 13) (after0_13 m c) t d
/-- What the body finds in window 14. -/
theorem before0_14 (c : Dev nD) (t : Fin cfg0.N) (d) : (dats m 0 c).before 14 t d = iblk m c 14 t :=
  before0_14_of m (dats m 0 c) (A_eq m c 14) (after0_14 m c) t d
/-- What the body finds in window 15. -/
theorem before0_15 (c : Dev nD) (t : Fin cfg0.N) (d) : (dats m 0 c).before 15 t d = iblk m c 15 t :=
  before0_15_of m (dats m 0 c) (A_eq m c 15) (after0_15 m c) t d
/-- What the body finds in window 16. -/
theorem before0_16 (c : Dev nD) (t : Fin cfg0.N) (d) : (dats m 0 c).before 16 t d = iblk m c 16 t :=
  before0_16_of m (dats m 0 c) (A_eq m c 16) (after0_16 m c) t d
/-- What the body finds in window 17. -/
theorem before0_17 (c : Dev nD) (t : Fin cfg0.N) (d) : (dats m 0 c).before 17 t d = iblk m c 17 t :=
  before0_17_of m (dats m 0 c) (A_eq m c 17) (after0_17 m c) t d
/-- What the body finds in window 18. -/
theorem before0_18 (c : Dev nD) (t : Fin cfg0.N) (d) : (dats m 0 c).before 18 t d = iblk m c 18 t :=
  before0_18_of m (dats m 0 c) (A_eq m c 18) (after0_18 m c) t d
/-- What the body finds in window 19. -/
theorem before0_19 (c : Dev nD) (t : Fin cfg0.N) (d) : (dats m 0 c).before 19 t d = iblk m c 19 t :=
  before0_19_of m (dats m 0 c) (A_eq m c 19) (after0_19 m c) t d
/-- What the body finds in window 20. -/
theorem before0_20 (c : Dev nD) (t : Fin cfg0.N) (d) : (dats m 0 c).before 20 t d = iblk m c 20 t :=
  before0_20_of m (dats m 0 c) (A_eq m c 20) (after0_20 m c) t d
/-- What the body finds in window 21. -/
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 16000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  rw [show (dats m 0 c).Φ t.castSucc = Pipeline.ΦA spec0 c from rfl, PhiA0_eq]
  unfold outsAt0
  unfold out0_A_22 out0_A_23 out0_A_24 out0_A_25 out0_A_26 out0_A_27 out0_A_28 out0_A_29 out0_A_30 out0_A_31 out0_A_32; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [HS0]; · iexact HS0
  iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H32
  ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body called at a point is the body over the slots of that point. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to the pipeline's final state with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs to the pipeline's final state. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The arguments end as they began, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.MixerInIdeal.Gen

end
-- ==== Proof.Body.lean ====
module

public import proofs.«01_k».proof.Proof.Gen.KernelIdeal.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-! ## One head's carry and its step -/

/-- What a head carries across the chunks of keys: each query row's running maximum, its running sum of weights
    (spread over 128 lanes), and its running weighted sum of the values. -/
structure Carry (F : FTy → Type) where
  m : FVec F S1024x1 .f32
  l : FVec F S1024x128 .f32
  acc : FVec F S1024x128 .f32

/-- The scores of 1024 query rows against 256 key rows. -/
def scores (q : FVec F S1024x128 .bf16) (k : FVec F S256x128 .bf16) : FVec F S1024x256 .f32 :=
  matmul dot_S1024x128_S256x128_S1024x256_1_1_0_0_n_n none q k (constant S1024x256 .f32 0x00000000#32)

/-- The running maximum after a chunk with scores `s`. -/
def newMax (m : FVec F S1024x1 .f32) (s : FVec F S1024x256 .f32) : FVec F S1024x1 .f32 :=
  maximumf m (shapeCast S1024x1 (multiReduction .maximumf [1] S1024 s 0xFF800000#32 reduces_S1024x256_S1024 (.inl rfl) rfl)
    shapeCasts_S1024_S1024x1)

/-- The weights of a chunk, relative to the maximum `m`. -/
def weights (s : FVec F S1024x256 .f32) (m : FVec F S1024x1 .f32) : FVec F S1024x256 .f32 :=
  exp2 (subf s (broadcastTo S1024x256 m broadcasts_S1024x1_S1024x256))

/-- The factor that carries a sum relative to the maximum `m` over to the maximum `m'`. -/
def rescale (m m' : FVec F S1024x1 .f32) : FVec F S1024x128 .f32 :=
  broadcastTo S1024x128 (exp2 (subf m m')) broadcasts_S1024x1_S1024x128

/-- A chunk of keys folded into the carry. -/
def step (q : FVec F S1024x128 .bf16) (k v : FVec F S256x128 .bf16) (c : Carry F) : Carry F where
  m := newMax c.m (scores q k)
  l := addf (mulf (rescale c.m (newMax c.m (scores q k))) c.l)
    (addf (extractStridedSlice S1024x128 ![0, 0] (weights (scores q k) (newMax c.m (scores q k))) slices_S1024x256_o0_0_S1024x128)
      (extractStridedSlice S1024x128 ![0, 128] (weights (scores q k) (newMax c.m (scores q k))) slices_S1024x256_o0_128_S1024x128))
  acc := addf (mulf (rescale c.m (newMax c.m (scores q k))) c.acc)
    (matmul dot_S1024x256_S256x128_S1024x128_1_0_0_1_n_n none
      (truncf .bf16 (weights (scores q k) (newMax c.m (scores q k))) bitsLt_bf16_f32) v (constant S1024x128 .f32 0x00000000#32))

/-- The carry before the first chunk. -/
def init : Carry F where
  m := broadcast S1024x1 (Scalar.ofBits .f32 0xFF800000#32)
  l := broadcast S1024x128 (Scalar.ofBits .f32 0x00000000#32)
  acc := broadcast S1024x128 (Scalar.ofBits .f32 0x00000000#32)

/-! ## The operands of a head's steps -/

/-- The keys of head 0 of a pair: the first 128 lanes of a chunk. -/
def key0 (k : Vec F S1x256x256 .bf16) : FVec F S256x128 .bf16 :=
  extractStridedSlice S256x128 ![0, 0] (shapeCast S256x256 k shapeCasts_S1x256x256_S256x256 : FVec F S256x256 .bf16) slices_S256x256_o0_0_S256x128

/-- The keys of head 1 of a pair: the last 128 lanes of a chunk. -/
def key1 (k : Vec F S1x256x256 .bf16) : FVec F S256x128 .bf16 :=
  extractStridedSlice S256x128 ![0, 128] (shapeCast S256x256 k shapeCasts_S1x256x256_S256x256 : FVec F S256x256 .bf16) slices_S256x256_o0_128_S256x128

/-- A chunk of values without its unit axis. -/
def val (v : Vec F S1x256x128 .bf16) : FVec F S256x128 .bf16 := shapeCast S256x128 v shapeCasts_S1x256x128_S256x128

/-- A tile of queries without its unit axis. -/
def query (q : Vec F S1x1024x128 .bf16) : FVec F S1024x128 .bf16 := shapeCast S1024x128 q shapeCasts_S1x1024x128_S1024x128

/-- A chunk of 256 keys lies inside the 4096. -/
theorem inbK (n : ℕ) (h : n < 16) : ∀ a, (![0, 256 * n, 0] : Fin 3 → ℕ) a + S1x256x256.size a ≤ S1x4096x256.size a
  | 0 => le_refl 1
  | 1 => by show 256 * n + 256 ≤ 4096; omega
  | 2 => le_refl 256

/-- A chunk of 256 values lies inside the 4096. -/
theorem inbV (n : ℕ) (h : n < 16) : ∀ a, (![0, 256 * n, 0] : Fin 3 → ℕ) a + S1x256x128.size a ≤ S1x4096x128.size a
  | 0 => le_refl 1
  | 1 => by show 256 * n + 256 ≤ 4096; omega
  | 2 => le_refl 128

/-- Chunk `n` of the latents' keys. -/
def chunkK (x : Vec F S1x4096x256 .bf16) (n : Fin 16) : Vec F S1x256x256 .bf16 :=
  View.ld x (Rect.unit (s := S1x4096x256) ![0, 256 * n.val, 0] S1x256x256.size (inbK n.val n.isLt))

/-- Chunk `n` of the latents' values. -/
def chunkV (x : Vec F S1x4096x128 .bf16) (n : Fin 16) : Vec F S1x256x128 .bf16 :=
  View.ld x (Rect.unit (s := S1x4096x128) ![0, 256 * n.val, 0] S1x256x128.size (inbV n.val n.isLt))

/-- The queries of head 0 of a pair. -/
def query0 (x : Vec F S1x1024x256 .bf16) : FVec F S1024x128 .bf16 :=
  query (View.ld x (Rect.unit (s := S1x1024x256) ![0, 0, 0] S1x1024x128.size inb_S1x1024x256_S1x1024x128_0_0_0))

/-- The queries of head 1 of a pair. -/
def query1 (x : Vec F S1x1024x256 .bf16) : FVec F S1024x128 .bf16 :=
  query (View.ld x (Rect.unit (s := S1x1024x256) ![0, 0, 128] S1x1024x128.size inb_S1x1024x256_S1x1024x128_0_0_128))

/-- The carry of a head after the context's chunk of keys and `n` chunks of the latents'. -/
def state (q : FVec F S1024x128 .bf16) (kc vc : FVec F S256x128 .bf16) (kx vx : Fin 16 → FVec F S256x128 .bf16) : (n : ℕ) → n ≤ 16 → Carry F
  | 0, _ => step q kc vc init
  | n + 1, h => step q (kx ⟨n, h⟩) (vx ⟨n, h⟩) (state q kc vc kx vx n (Nat.le_of_succ_le h))

/-- A head's output: its weighted sum of the values over its sum of weights. -/
def quot (c : Carry F) : FVec F S1024x128 .f32 :=
  divf c.acc (broadcastTo S1024x128
    (shapeCast S1024x1 (multiReduction .add [1] S1024 c.l 0x00000000#32 reduces_S1024x128_S1024 (.inl rfl) rfl) shapeCasts_S1024_S1024x1)
    broadcasts_S1024x1_S1024x128)

/-- The block a grid point writes: lanes 0 to 63 are head 0's output, lanes 64 to 127 head 1's. -/
def block (o0 o1 : FVec F S1024x128 .f32) : FVec F S1x1024x128 .bf16 :=
  shapeCast S1x1024x128 (truncf .bf16
    (select (cmpi .slt (iota .tc S1024x128 32 [1] iota_S1024x128_d1_w32) (broadcast S1024x128 64#32)) o0 o1) bitsLt_bf16_f32)
    shapeCasts_S1024x128_S1x1024x128

/-- The offsets of a whole block are zeros. -/
theorem hz3 : (![0, 0, 0] : Fin 3 → Nat) = fun _ => 0 := funext fun a => by fin_cases a <;> rfl

/-- What the body leaves in its output block: the quotient of each head's carry after all the chunks. -/
theorem out_eq (c : Dev nD) (i : grid0.Coords) (a1 : Memref sig .tc .vmem S1x1024x256 .bf16) (h1 : a1.IsWhole) (a2 : Memref sig .tc .vmem S1x256x256 .bf16) (h2 : a2.IsWhole) (a3 : Memref sig .tc .vmem S1x256x128 .bf16) (h3 : a3.IsWhole) (a4 : Memref sig .tc .vmem S1x4096x256 .bf16) (h4 : a4.IsWhole) (a5 : Memref sig .tc .vmem S1x4096x128 .bf16) (h5 : a5.IsWhole) (a6 : Memref sig .tc .vmem S1x1024x128 .bf16) (h6 : a6.IsWhole)
    (x0 : Vec F S1x1024x256 .bf16) (x1 : Vec F S1x256x256 .bf16) (x2 : Vec F S1x256x128 .bf16) (x3 : Vec F S1x4096x256 .bf16) (x4 : Vec F S1x4096x128 .bf16) :
    out0_A_5 c i a1 h1 a2 h2 a3 h3 a4 h4 a5 h5 a6 h6 x0 x1 x2 x3 x4
      = block (quot (state (query0 x0) (key0 x1) (val x2) (fun n => key0 (chunkK x3 n)) (fun n => val (chunkV x4 n)) 16 le_rfl))
          (quot (state (query1 x0) (key1 x1) (val x2) (fun n => key1 (chunkK x3 n)) (fun n => val (chunkV x4 n)) 16 le_rfl)) := by
  unfold out0_A_5
  rw [View.read_writes_eq_canon _ _ _ (cover0_A_5 c i a1 h1 a2 h2 a3 h3 a4 h4 a5 h5 a6 h6 x0 x1 x2 x3 x4)]
  unfold kernelRun0_A
  dsimp only
  rw [View.canon_unit_zero hz3]
  sl_unfold_words
  simp only [View.readAt_eq_ld, h1.read_unread, h2.read_unread, h3.read_unread, h4.read_unread, h5.read_unread,
    View.ld_unit_zero (S := S1x256x256) hz3, View.ld_unit_zero (S := S1x256x128) hz3]
  rfl

end Cert.KernelIdeal.Body

end
-- ==== Proof.Softmax.lean ====
module

public import Idealize.ShloMosaic.Lib.Pipeline.ValueKit
public import Idealize.ShloMosaic.Lib.Pointwise

/-! # Softmax over the extended reals

Real scores and extended-real values: `attn s v = Σ_k exp (s k) / (Σ_j exp (s j)) · v k`.  Two ways of computing it are
shown equal to it: the plain one (subtract a real number, exponentiate, divide, sum: `attn_of_shift`) and the running
one, 256 keys at a time, in powers of two (`Row.step`, `Row.quot`).  Neither cares which real number is subtracted. -/

@[expose] public section

set_option maxRecDepth 16384

noncomputable section

namespace Cert.Softmax

open Idealize.ShloMosaic

/-- The word of minus infinity. -/
theorem word_neg_inf : Ideal.ofBits .f32 0xFF800000#32 = ⊥ := by simp [Ideal.ofBits, Ideal.ieee]

/-- The word of infinity. -/
theorem word_inf : Ideal.ofBits .f32 0x7F800000#32 = ⊤ := by simp [Ideal.ofBits, Ideal.ieee]

/-- The word of two. -/
theorem word_two : Ideal.ofBits .f32 0x40000000#32 = ((2 : ℝ) : EReal) := by
  simp [Ideal.ofBits, Ideal.ieee, -EReal.coe_mul]; norm_num

/-- The scale of the scores. -/
def scale : ℝ := (Ideal.ofBits .f32 0x3DD105EC#32).toReal

/-- The word of the scale denotes a real number. -/
theorem word_scale : Ideal.ofBits .f32 0x3DD105EC#32 = (scale : EReal) := by
  refine (EReal.coe_toReal ?_ ?_).symm <;> simp [Ideal.ofBits, Ideal.ieee, -EReal.coe_mul]

/-- Softmax attention of one query to the keys `k` with scores `s k` and values `v k`. -/
def attn {K : Type} [Fintype K] (s : K → ℝ) (v : K → EReal) : EReal :=
  ∑ k, ((Real.exp (s k) / ∑ j, Real.exp (s j) : ℝ) : EReal) * v k

/-- A nonnegative real factor distributes over a sum of extended reals. -/
theorem real_mul_sum {ι : Type} (S : Finset ι) {a : ℝ} (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (EReal.coe_nonneg.2 ha) (EReal.coe_ne_top a), ih]

/-- The sum of real numbers, as extended reals, is their real sum. -/
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The largest of finitely many real scores and of a start that is not infinity is a real number. -/
theorem max_fold_real {ι : Type} [Fintype ι] [Nonempty ι] (s : ι → ℝ) {b : EReal} (hb : b ≠ ⊤) :
    ∃ M : ℝ, max b (Finset.univ.fold max ⊥ fun j => (s j : EReal)) = M := by
  refine ⟨_, (EReal.coe_toReal (ne_of_lt (max_lt hb.lt_top ?_)) (ne_of_gt ?_)).symm⟩
  · exact (Finset.fold_max_lt _).2 ⟨bot_lt_top, fun j _ => EReal.coe_lt_top _⟩
  · obtain ⟨j⟩ := (inferInstance : Nonempty ι)
    exact lt_of_lt_of_le (EReal.bot_lt_coe (s j))
      (le_max_of_le_right ((Finset.le_fold_max _).2 (.inr ⟨j, Finset.mem_univ _, le_rfl⟩)))

/-- A sum over 17 chunks of 256 is the sum over 4352 places, the chunks one after the other. -/
theorem sum_chunks {M : Type} [AddCommMonoid M] (f : ℕ → Fin 256 → M) :
    ∑ c ∈ Finset.range 17, ∑ k : Fin 256, f c k
      = ∑ j : Fin 4352, f (j.val / 256) ⟨j.val % 256, Nat.mod_lt _ (by norm_num)⟩ := by
  rw [Finset.sum_range, ← Fintype.sum_prod_type' (f := fun (c : Fin 17) (k : Fin 256) => f c.val k)]
  exact (Equiv.sum_comp (finProdFinEquiv (m := 17) (n := 256)).symm fun p => f p.1.val p.2).symm

/-- Plain softmax: any real number may be subtracted from the scores first. -/
theorem attn_of_shift {K : Type} [Fintype K] [Nonempty K] (s : K → ℝ) (v : K → EReal) (M : ℝ) :
    ∑ k, v k * Ideal.div (Ideal.exp ((s k : EReal) - M)) (∑ j, Ideal.exp ((s j : EReal) - M)) = attn s v := by
  have e : ∀ k, Ideal.exp ((s k : EReal) - M) = ((Real.exp (s k - M) : ℝ) : EReal) := fun k => by
    rw [← EReal.coe_sub]; rfl
  have pos : 0 < ∑ j, Real.exp (s j) := Finset.sum_pos (fun j _ => Real.exp_pos _) Finset.univ_nonempty
  have tot : ∑ j, Real.exp (s j - M) = (∑ j, Real.exp (s j)) / Real.exp M := by
    rw [Finset.sum_div]; exact Finset.sum_congr rfl fun j _ => Real.exp_sub _ _
  simp only [e, ← coe_sum]
  refine Finset.sum_congr rfl fun k _ => ?_
  rw [Ideal.div_coe (by rw [tot]; exact (div_pos pos (Real.exp_pos M)).ne'), mul_comm, ← EReal.coe_mul, tot, Real.exp_sub]
  congr 2
  have := Real.exp_pos M
  field_simp

/-- A power of two whose exponent is a difference of reals. -/
theorem exp2_sub (x M : ℝ) : Ideal.exp2 ((x : EReal) - M) = (((2 : ℝ) ^ (x - M) : ℝ) : EReal) := by
  rw [← EReal.coe_sub]; rfl

/-- What one query holds after `C` chunks of 256 keys, `s` being the scores (in powers of two) and `v` the values.  The
    largest score `m` so far is not infinity; brought from `m` to any real number, the running totals `l` (128 of them,
    each of two keys of every chunk) and the running sums `a` are those of the keys seen. -/
structure Row (C : ℕ) (s : ℕ → Fin 256 → ℝ) (v : ℕ → Fin 256 → Fin 128 → EReal) (m : EReal) (l a : Fin 128 → EReal) : Prop where
  top : m ≠ ⊤
  total : ∀ (M : ℝ) (j : Fin 128), Ideal.exp2 (m - M) * l j
    = ((∑ c ∈ Finset.range C, ((2 : ℝ) ^ (s c (Fin.castAdd 128 j) - M) + (2 : ℝ) ^ (s c (Fin.natAdd 128 j) - M)) : ℝ) : EReal)
  sum : ∀ (M : ℝ) (d : Fin 128), Ideal.exp2 (m - M) * a d
    = ∑ c ∈ Finset.range C, ∑ k : Fin 256, (((2 : ℝ) ^ (s c k - M) : ℝ) : EReal) * v c k d

/-- Before the first chunk. -/
theorem Row.init (s : ℕ → Fin 256 → ℝ) (v : ℕ → Fin 256 → Fin 128 → EReal) : Row 0 s v ⊥ (fun _ => 0) (fun _ => 0) :=
  ⟨bot_ne_top, fun M j => by simp, fun M d => by simp⟩

/-- One chunk more. -/
theorem Row.step {C : ℕ} {s : ℕ → Fin 256 → ℝ} {v : ℕ → Fin 256 → Fin 128 → EReal} {m m' : EReal} {l a l' a' : Fin 128 → EReal}
    (h : Row C s v m l a)
    (hm : m' = max m (Finset.univ.fold max ⊥ fun j : Fin 256 => (s C j : EReal)))
    (hl : ∀ j, l' j = Ideal.exp2 (m - m') * l j
      + (Ideal.exp2 ((s C (Fin.castAdd 128 j) : EReal) - m') + Ideal.exp2 ((s C (Fin.natAdd 128 j) : EReal) - m')))
    (ha : ∀ d, a' d = Ideal.exp2 (m - m') * a d + ∑ k : Fin 256, Ideal.exp2 ((s C k : EReal) - m') * v C k d) :
    Row (C + 1) s v m' l' a' ∧ ∃ M : ℝ, m' = M := by
  obtain ⟨N, hN⟩ := max_fold_real (s C) h.top
  rw [← hm] at hN
  subst hN
  have two (M x : ℝ) : (2 : ℝ) ^ (N - M) * (2 : ℝ) ^ (x - N) = (2 : ℝ) ^ (x - M) := by
    rw [← Real.rpow_add two_pos]; congr 1; ring
  refine ⟨⟨EReal.coe_ne_top _, fun M j => ?_, fun M d => ?_⟩, N, rfl⟩
  · rw [hl, h.total, exp2_sub, exp2_sub, exp2_sub, ← EReal.coe_add, ← EReal.coe_add, ← Finset.sum_range_succ
      (fun c => (2 : ℝ) ^ (s c (Fin.castAdd 128 j) - N) + (2 : ℝ) ^ (s c (Fin.natAdd 128 j) - N)), ← EReal.coe_mul, Finset.mul_sum]
    congr 1
    exact Finset.sum_congr rfl fun c _ => by rw [mul_add, two, two]
  · rw [ha, h.sum, exp2_sub]
    simp only [exp2_sub]
    rw [← Finset.sum_range_succ (fun c => ∑ k : Fin 256, (((2 : ℝ) ^ (s c k - N) : ℝ) : EReal) * v c k d),
      real_mul_sum _ (Real.rpow_nonneg zero_le_two _)]
    refine Finset.sum_congr rfl fun c _ => ?_
    rw [real_mul_sum _ (Real.rpow_nonneg zero_le_two _)]
    refine Finset.sum_congr rfl fun k _ => ?_
    rw [← mul_assoc, ← EReal.coe_mul, two]

/-- After all 17 chunks the running sum over the running total is the attention. -/
theorem Row.quot {s : ℕ → Fin 256 → ℝ} {v : ℕ → Fin 256 → Fin 128 → EReal} {M : ℝ} {l a : Fin 128 → EReal}
    (h : Row 17 s v M l a) (d : Fin 128) :
    Ideal.div (a d) (∑ j, l j)
      = attn (fun j : Fin 4352 => s (j.val / 256) ⟨j.val % 256, Nat.mod_lt _ (by norm_num)⟩ * Real.log 2)
          (fun j => v (j.val / 256) ⟨j.val % 256, Nat.mod_lt _ (by norm_num)⟩ d) := by
  have one : Ideal.exp2 ((M : EReal) - M) = 1 := by rw [exp2_sub, sub_self, Real.rpow_zero]; rfl
  have hl (j : Fin 128) := (one_mul (l j)).symm.trans (one ▸ h.total M j)
  have ha := (one_mul (a d)).symm.trans (one ▸ h.sum M d)
  have lanes : ∑ j, l j = ((∑ c ∈ Finset.range 17, ∑ k : Fin 256, (2 : ℝ) ^ (s c k - M) : ℝ) : EReal) := by
    simp only [hl, ← coe_sum]
    rw [Finset.sum_comm]
    congr 1
    refine Finset.sum_congr rfl fun c _ => ?_
    rw [Finset.sum_add_distrib]
    exact (Fin.sum_univ_add (a := 128) (b := 128) fun k => (2 : ℝ) ^ (s c k - M)).symm
  rw [sum_chunks] at lanes ha
  have pow (x : ℝ) : (2 : ℝ) ^ (x - M) = Real.exp (x * Real.log 2) / (2 : ℝ) ^ M := by
    rw [Real.rpow_sub two_pos, Real.rpow_def_of_pos two_pos x, mul_comm]
  have hM : (0 : ℝ) < (2 : ℝ) ^ M := Real.rpow_pos_of_pos two_pos _
  simp only [pow] at lanes ha
  rw [← Finset.sum_div] at lanes
  have pos : 0 < ∑ j : Fin 4352, Real.exp (s (j.val / 256) ⟨j.val % 256, Nat.mod_lt _ (by norm_num)⟩ * Real.log 2) :=
    Finset.sum_pos (fun j _ => Real.exp_pos _) Finset.univ_nonempty
  rw [lanes, ha, Ideal.div_coe (div_pos pos hM).ne', mul_comm, real_mul_sum _ (one_div_nonneg.2 (div_pos pos hM).le)]
  refine Finset.sum_congr rfl fun k _ => ?_
  rw [← mul_assoc, ← EReal.coe_mul]
  congr 2
  generalize ∑ j : Fin 4352, Real.exp (s (j.val / 256) ⟨j.val % 256, Nat.mod_lt _ (by norm_num)⟩ * Real.log 2) = T at pos ⊢
  field_simp

end Cert.Softmax

end
-- ==== Proof.Read.lean ====
module

public import proofs.«01_k».proof.Proof.Body
public import proofs.«01_k».proof.Proof.Softmax
public import Idealize.ShloMosaic.Lib.Pipeline.ValueKit
public import Idealize.ShloMosaic.Lib.Pointwise
public import Idealize.ShloMosaic.Lib.ValueIdx

@[expose] public section

set_option maxRecDepth 16384

noncomputable section

namespace Cert.KernelIdeal.Body

open Cert.KernelIdeal Cert.KernelIdeal.Gen Idealize.ShloMosaic Idealize.ShloMosaic.TcCoe Idealize.SL.Sem

/-- A score is the product of a query row and a key row. -/
theorem scores_apply (q : FVec Ideal S1024x128 .bf16) (k : FVec Ideal S256x128 .bf16) (r : Fin 1024) (j : Fin 256) :
    scores q k (ix2 r j) = ∑ e : Fin 128, q (ix2 r e) * k (ix2 j e) := by
  pointwise [scores]

/-- The running maximum after a chunk: the larger of the one before and the largest score of the chunk. -/
theorem newMax_apply (m : FVec Ideal S1024x1 .f32) (s : FVec Ideal S1024x256 .f32) (r : Fin 1024) :
    newMax m s (ix2 r 0) = max (m (ix2 r 0)) (Finset.univ.fold max ⊥ fun j : Fin 256 => s (ix2 r j)) := by
  pointwise [newMax]
  rw [Softmax.word_neg_inf]

/-- A weight: two to the score less the row's maximum. -/
theorem weights_apply (s : FVec Ideal S1024x256 .f32) (m : FVec Ideal S1024x1 .f32) (r : Fin 1024) (j : Fin 256) :
    weights s m (ix2 r j) = Ideal.exp2 (s (ix2 r j) - m (ix2 r 0)) := by
  pointwise [weights]
  rfl

/-- The factor that carries sums from one maximum to the next. -/
theorem rescale_apply (m m' : FVec Ideal S1024x1 .f32) (r : Fin 1024) (j : Fin 128) :
    rescale m m' (ix2 r j) = Ideal.exp2 (m (ix2 r 0) - m' (ix2 r 0)) := by
  pointwise [rescale]
  rfl

/-- The maximum after a step. -/
theorem step_m (q : FVec Ideal S1024x128 .bf16) (k v : FVec Ideal S256x128 .bf16) (c : Carry Ideal) (r : Fin 1024) :
    (step q k v c).m (ix2 r 0) = max (c.m (ix2 r 0)) (Finset.univ.fold max ⊥ fun j : Fin 256 => scores q k (ix2 r j)) :=
  newMax_apply ..

/-- The lane-wise sums of weights after a step: the ones before, rescaled, and the two weights of the chunk that fall on the lane. -/
theorem step_l (q : FVec Ideal S1024x128 .bf16) (k v : FVec Ideal S256x128 .bf16) (c : Carry Ideal) (r : Fin 1024) (j : Fin 128) :
    (step q k v c).l (ix2 r j)
      = Ideal.exp2 (c.m (ix2 r 0) - (step q k v c).m (ix2 r 0)) * c.l (ix2 r j)
        + (Ideal.exp2 (scores q k (ix2 r (Fin.castAdd 128 j)) - (step q k v c).m (ix2 r 0))
          + Ideal.exp2 (scores q k (ix2 r (Fin.natAdd 128 j)) - (step q k v c).m (ix2 r 0))) := by
  rw [show (step q k v c).m = newMax c.m (scores q k) from rfl, ← weights_apply, ← weights_apply, ← rescale_apply _ _ r j]
  show addf (mulf (rescale _ _) _) (addf (extractStridedSlice _ _ _ _) (extractStridedSlice _ _ _ _)) _ = _
  generalize scores q k = s
  pointwise
  rfl

/-- The weighted sums of values after a step: the ones before, rescaled, and those of the chunk. -/
theorem step_acc (q : FVec Ideal S1024x128 .bf16) (k v : FVec Ideal S256x128 .bf16) (c : Carry Ideal) (r : Fin 1024) (d : Fin 128) :
    (step q k v c).acc (ix2 r d)
      = Ideal.exp2 (c.m (ix2 r 0) - (step q k v c).m (ix2 r 0)) * c.acc (ix2 r d)
        + ∑ j : Fin 256, Ideal.exp2 (scores q k (ix2 r j) - (step q k v c).m (ix2 r 0)) * v (ix2 j d) := by
  rw [show (step q k v c).m = newMax c.m (scores q k) from rfl]
  simp only [← weights_apply]
  rw [← rescale_apply _ _ r d]
  show addf (mulf (rescale _ _) _) (matmul _ none (truncf _ _ _) _ _) _ = _
  pointwise

/-- The quotient divides by the sum of all 128 lane sums. -/
theorem quot_apply (c : Carry Ideal) (r : Fin 1024) (d : Fin 128) :
    quot c (ix2 r d) = Ideal.div (c.acc (ix2 r d)) (∑ j : Fin 128, c.l (ix2 r j)) := by
  pointwise [quot]

/-- A lane of the block written: head 0 below lane 64, head 1 from there on. -/
theorem block_apply (o0 o1 : FVec Ideal S1024x128 .f32) (r : Fin 1024) (d : Fin 128) :
    block o0 o1 (ix3 0 r d) = if d.val < 64 then o0 (ix2 r d) else o1 (ix2 r d) := by
  pointwise [block]
  word_cmp

/-- The first maximum is minus infinity. -/
theorem init_m (r : Fin 1024) : (init : Carry Ideal).m (ix2 r 0) = ⊥ := by
  pointwise [init]
  exact Softmax.word_neg_inf
/-- The first sums of weights are zero. -/
theorem init_l (r : Fin 1024) (j : Fin 128) : (init : Carry Ideal).l (ix2 r j) = 0 := by
  pointwise [init]
/-- The first weighted sums are zero. -/
theorem init_acc (r : Fin 1024) (j : Fin 128) : (init : Carry Ideal).acc (ix2 r j) = 0 := by
  pointwise [init]

/-- Head 0 has the first 128 columns of the query block. -/
theorem query0_apply (x : Vec Ideal S1x1024x256 .bf16) (r : Fin 1024) (e : Fin 128) :
    query0 x (ix2 r e) = x (ix3 0 r (Fin.castAdd 128 e)) := by
  pointwise [query0, query]
  rfl
/-- Head 1 has the last 128 columns of the query block. -/
theorem query1_apply (x : Vec Ideal S1x1024x256 .bf16) (r : Fin 1024) (e : Fin 128) :
    query1 x (ix2 r e) = x (ix3 0 r (Fin.natAdd 128 e)) := by
  pointwise [query1, query]
  rfl
/-- Head 0 has the first 128 columns of a key chunk. -/
theorem key0_apply (x : Vec Ideal S1x256x256 .bf16) (j : Fin 256) (e : Fin 128) :
    key0 x (ix2 j e) = x (ix3 0 j (Fin.castAdd 128 e)) := by
  pointwise [key0]
  rfl
/-- Head 1 has the last 128 columns of a key chunk. -/
theorem key1_apply (x : Vec Ideal S1x256x256 .bf16) (j : Fin 256) (e : Fin 128) :
    key1 x (ix2 j e) = x (ix3 0 j (Fin.natAdd 128 e)) := by
  pointwise [key1]
  rfl
/-- A chunk of values, read without its unit axis. -/
theorem val_apply (x : Vec Ideal S1x256x128 .bf16) (j : Fin 256) (d : Fin 128) :
    val x (ix2 j d) = x (ix3 0 j d) := by
  pointwise [val]
/-- Row `j` of chunk `n` of the keys is row `256 n + j`. -/
theorem chunkK_apply (x : Vec Ideal S1x4096x256 .bf16) (n : Fin 16) (j e : Fin 256) :
    chunkK x n (ix3 0 j e) = x (ix3 0 (⟨256 * n.val + j.val, by omega⟩ : Fin 4096) e) := by
  pointwise [chunkK]
/-- Row `j` of chunk `n` of the values is row `256 n + j`. -/
theorem chunkV_apply (x : Vec Ideal S1x4096x128 .bf16) (n : Fin 16) (j : Fin 256) (d : Fin 128) :
    chunkV x n (ix3 0 j d) = x (ix3 0 (⟨256 * n.val + j.val, by omega⟩ : Fin 4096) d) := by
  pointwise [chunkV]

end Cert.KernelIdeal.Body

end
-- ==== Proof.Spec.lean ====
module

public import proofs.«01_k».proof.KernelIdeal
public import proofs.«01_k».proof.Proof.Softmax

/-! # The attention as a function of its eight arrays

`result` is the array both programs compute when no query and no key is infinite: per batch, position and head the
softmax attention whose scores are the scaled products of the query's 64 and 32 lanes with those of the key, over the
256 keys of the context followed by the 4096 keys of the latents. -/

@[expose] public section

set_option maxRecDepth 16384

noncomputable section

namespace Cert.Softmax

open Idealize.ShloMosaic Cert.KernelIdeal

/-- The context's entries, then the latents'. -/
def pick {α : Type} (c : Fin 256 → α) (x : Fin 4096 → α) (j : Fin 4352) : α :=
  if h : j.val < 256 then c ⟨j.val, h⟩ else x ⟨j.val - 256, by omega⟩

/-- 64 lanes, 32 lanes and 32 zeros. -/
def pack {α : Type} [Zero α] (f : Fin 64 → α) (g : Fin 32 → α) (e : Fin 128) : α :=
  if h : e.val < 64 then f ⟨e.val, h⟩ else if h' : e.val - 64 < 32 then g ⟨e.val - 64, h'⟩ else 0

/-- Packed reals are real. -/
theorem pack_coe (f : Fin 64 → ℝ) (g : Fin 32 → ℝ) (e : Fin 128) :
    pack (fun d => (f d : EReal)) (fun d => (g d : EReal)) e = (pack f g e : ℝ) := by
  unfold pack; split_ifs <;> simp

/-- The product of two packed rows, one of them scaled, is that of their 64 and their 32 lanes. -/
theorem pack_dot (f f' : Fin 64 → ℝ) (g g' : Fin 32 → ℝ) (κ : ℝ) :
    ∑ e : Fin 128, pack (fun d => (f d : EReal)) (fun d => (g d : EReal)) e * (κ : EReal)
        * pack (fun d => (f' d : EReal)) (fun d => (g' d : EReal)) e
      = (((∑ d, f d * f' d) + ∑ d, g d * g' d) * κ : ℝ) := by
  simp only [pack_coe, ← EReal.coe_mul, ← coe_sum]
  congr 1
  rw [show ∑ e : Fin 128, pack f g e * κ * pack f' g' e = (∑ e : Fin 128, pack f g e * pack f' g' e) * κ by
    rw [Finset.sum_mul]; exact Finset.sum_congr rfl fun e _ => by ring]
  congr 1
  refine (Fin.sum_univ_add (a := 64) (b := 64) fun e => pack f g e * pack f' g' e).trans
    (congrArg₂ (· + ·) (Finset.sum_congr rfl fun d _ => ?_) ?_)
  · simp [pack]
  · refine (Fin.sum_univ_add (a := 32) (b := 32) fun e => pack f g (Fin.natAdd 64 e) * pack f' g' (Fin.natAdd 64 e)).trans ?_
    refine (congrArg₂ (· + ·) (Finset.sum_congr rfl fun d _ => ?_) (Finset.sum_eq_zero fun d _ => ?_)).trans (add_zero _)
    · simp [pack]
    · simp [pack]

/-- The scores of the query at position `n` of head `h` of batch `b`. -/
def score (q0 : S8x4096x8x64.Idx → ℝ) (q1 : S8x4096x8x32.Idx → ℝ) (c0 : S8x256x8x64.Idx → ℝ) (c1 : S8x256x32.Idx → ℝ)
    (x0 : S8x4096x8x64.Idx → ℝ) (x1 : S8x4096x32.Idx → ℝ) (b : Fin 8) (h : Fin 8) (n : Fin 4096) (j : Fin 4352) : ℝ :=
  ((∑ d : Fin 64, q0 (ix4 b n h d) * pick (fun k => c0 (ix4 b k h d)) (fun k => x0 (ix4 b k h d)) j)
    + ∑ e : Fin 32, q1 (ix4 b n h e) * pick (fun k => c1 (ix3 b k e)) (fun k => x1 (ix3 b k e)) j) * scale

/-- Lane `d` of the values of head `h` of batch `b`. -/
def value (c : S8x256x8x64.Idx → EReal) (x : S8x4096x8x64.Idx → EReal) (b : Fin 8) (h : Fin 8) (d : Fin 64) (j : Fin 4352) : EReal :=
  pick (fun k => c (ix4 b k h d)) (fun k => x (ix4 b k h d)) j

/-- The result: 64 lanes of every head, the heads side by side. -/
def result (q0 : S8x4096x8x64.Idx → ℝ) (q1 : S8x4096x8x32.Idx → ℝ) (c0 : S8x256x8x64.Idx → ℝ) (c1 : S8x256x32.Idx → ℝ)
    (c : S8x256x8x64.Idx → EReal) (x0 : S8x4096x8x64.Idx → ℝ) (x1 : S8x4096x32.Idx → ℝ) (x : S8x4096x8x64.Idx → EReal)
    (b : Fin 8) (n : Fin 4096) (e : Fin 512) : EReal :=
  attn (score q0 q1 c0 c1 x0 x1 b ⟨e.val / 64, by omega⟩ n) (value c x b ⟨e.val / 64, by omega⟩ ⟨e.val % 64, by omega⟩)

end Cert.Softmax

end
-- ==== Proof.Rows.lean ====
module

public import proofs.«01_k».proof.Proof.Read
public import proofs.«01_k».proof.Proof.Spec

/-! # One head of the kernel's block is the softmax attention -/

@[expose] public section

set_option maxRecDepth 16384

noncomputable section

namespace Cert.KernelIdeal.Body

open Cert.KernelIdeal Cert.KernelIdeal.Gen Idealize.ShloMosaic Idealize.ShloMosaic.TcCoe Idealize.SL.Sem

/-- One chunk more, for one query. -/
theorem step_row {C : ℕ} {s : ℕ → Fin 256 → ℝ} {w : ℕ → Fin 256 → Fin 128 → EReal} (q : FVec Ideal S1024x128 .bf16)
    (k v : FVec Ideal S256x128 .bf16) (c : Carry Ideal) (r : Fin 1024)
    (hc : Softmax.Row C s w (c.m (ix2 r 0)) (fun j => c.l (ix2 r j)) (fun d => c.acc (ix2 r d)))
    (hs : ∀ j, scores q k (ix2 r j) = (s C j : EReal)) (hv : ∀ j d, v (ix2 j d) = w C j d) :
    Softmax.Row (C + 1) s w ((step q k v c).m (ix2 r 0)) (fun j => (step q k v c).l (ix2 r j)) (fun d => (step q k v c).acc (ix2 r d))
      ∧ ∃ M : ℝ, (step q k v c).m (ix2 r 0) = (M : EReal) := by
  refine hc.step ?_ (fun j => ?_) fun d => ?_
  · rw [step_m]; simp only [hs]
  · rw [step_l]; simp only [hs]
  · rw [step_acc]; simp only [hs, hv]

/-- What a query holds after the context and `n` chunks of the latents. -/
theorem state_row {s : ℕ → Fin 256 → ℝ} {w : ℕ → Fin 256 → Fin 128 → EReal} (q : FVec Ideal S1024x128 .bf16)
    (kc vc : FVec Ideal S256x128 .bf16) (kx vx : Fin 16 → FVec Ideal S256x128 .bf16) (r : Fin 1024)
    (hs0 : ∀ j, scores q kc (ix2 r j) = (s 0 j : EReal)) (hv0 : ∀ j d, vc (ix2 j d) = w 0 j d)
    (hs : ∀ (n : Fin 16) j, scores q (kx n) (ix2 r j) = (s (n.val + 1) j : EReal)) (hv : ∀ (n : Fin 16) j d, vx n (ix2 j d) = w (n.val + 1) j d) :
    ∀ (n : ℕ) (h : n ≤ 16),
      Softmax.Row (n + 1) s w ((state q kc vc kx vx n h).m (ix2 r 0)) (fun j => (state q kc vc kx vx n h).l (ix2 r j))
        (fun d => (state q kc vc kx vx n h).acc (ix2 r d))
      ∧ ∃ M : ℝ, (state q kc vc kx vx n h).m (ix2 r 0) = (M : EReal)
  | 0, _ => step_row q kc vc init r (by
      simp only [init_m, init_l, init_acc]; exact Softmax.Row.init s w) hs0 hv0
  | n + 1, h => step_row q (kx ⟨n, h⟩) (vx ⟨n, h⟩) (state q kc vc kx vx n (Nat.le_of_succ_le h)) r
      (state_row q kc vc kx vx r hs0 hv0 hs hv n (Nat.le_of_succ_le h)).1 (hs ⟨n, h⟩) (hv ⟨n, h⟩)

/-- The place of key `k` of chunk `c`. -/
def place (c : ℕ) (k : Fin 256) (h : c < 17) : Fin 4352 := ⟨256 * c + k.val, by omega⟩

/-- One head: with real scores `sc` (in natural units; the kernel's are in powers of two) and values `w`, the quotient the
    kernel ends with is the softmax attention. -/
theorem head_eq (sc : Fin 4352 → ℝ) (w : Fin 4352 → Fin 128 → EReal) (q : FVec Ideal S1024x128 .bf16)
    (kc vc : FVec Ideal S256x128 .bf16) (kx vx : Fin 16 → FVec Ideal S256x128 .bf16) (r : Fin 1024)
    (hs0 : ∀ j, scores q kc (ix2 r j) = ((sc (place 0 j (by norm_num)) / Real.log 2 : ℝ) : EReal))
    (hv0 : ∀ j d, vc (ix2 j d) = w (place 0 j (by norm_num)) d)
    (hs : ∀ (n : Fin 16) j, scores q (kx n) (ix2 r j) = ((sc (place (n.val + 1) j (by omega)) / Real.log 2 : ℝ) : EReal))
    (hv : ∀ (n : Fin 16) j d, vx n (ix2 j d) = w (place (n.val + 1) j (by omega)) d) (d : Fin 128) :
    quot (state q kc vc kx vx 16 le_rfl) (ix2 r d) = Softmax.attn sc (fun j => w j d) := by
  obtain ⟨h, M, hM⟩ := state_row (s := fun c k => if h : c < 17 then sc (place c k h) / Real.log 2 else 0)
    (w := fun c k d => if h : c < 17 then w (place c k h) d else 0) q kc vc kx vx r
    (fun j => by rw [hs0, dif_pos]) (fun j d => by rw [hv0, dif_pos])
    (fun n j => by rw [hs, dif_pos]) (fun n j d => by rw [hv, dif_pos]) 16 le_rfl
  rw [hM] at h
  rw [quot_apply, h.quot d]
  have hj (j : Fin 4352) : j.val / 256 < 17 := by omega
  have hp (j : Fin 4352) : place (j.val / 256) ⟨j.val % 256, Nat.mod_lt _ (by norm_num)⟩ (hj j) = j :=
    Fin.ext (Nat.div_add_mod _ _)
  refine congrArg₂ Softmax.attn (funext fun j => ?_) (funext fun j => ?_)
  · rw [dif_pos (hj j), hp, div_mul_cancel₀ _ (Real.log_pos one_lt_two).ne']
  · rw [dif_pos (hj j), hp]

end Cert.KernelIdeal.Body

end
-- ==== Proof.Host.lean ====
module

public import proofs.«01_k».proof.Proof.Spec
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KernelIdeal.Host

open Cert.KernelIdeal Cert.KernelIdeal.Gen Idealize.ShloMosaic Idealize.ShloMosaic.TcCoe Idealize.SL.Sem

section
variable {F : FTy → Type} [FloatOps F]

/-- The queries as the kernel takes them: per head its 64 and its 32 lanes and 32 zeros, times the scale over log 2. -/
def packQ (a0 : FVec F S8x4096x8x64 .f32) (a1 : FVec F S8x4096x8x32 .f32) : FVec F S8x4096x1024 .bf16 :=
  truncf .bf16 (mulf
    (shapeCast S8x4096x1024 (concatenate S8x4096x8x128 3 [⟨S8x4096x8x64, a0⟩, ⟨S8x4096x8x32, a1⟩,
      ⟨S8x4096x8x32, broadcastInDim S8x4096x8x32 ![] bcast_S_S8x4096x8x32 (constant S_ .f32 0x00000000#32)⟩]
      concatenates_S8x4096x8x64_S8x4096x8x32_S8x4096x8x32_S8x4096x8x128_d3) shapeCasts_S8x4096x8x128_S8x4096x1024)
    (broadcastInDim S8x4096x1024 ![] bcast_S_S8x4096x1024
      (Host.divf (constant S_ .f32 0x3DD105EC#32) (Host.log (constant S_ .f32 0x40000000#32))))) bitsLt_bf16_f32

/-- The context's keys as the kernel takes them: per head its 64 lanes, the 32 lanes all heads share, 32 zeros. -/
def packKc (a2 : FVec F S8x256x8x64 .f32) (a3 : FVec F S8x256x32 .f32) : FVec F S8x256x1024 .bf16 :=
  truncf .bf16 (shapeCast S8x256x1024 (concatenate S8x256x8x128 3 [⟨S8x256x8x64, a2⟩,
      ⟨S8x256x8x32, broadcastInDim S8x256x8x32 ![0, 1, 2, 3] bcast_S8x256x1x32_S8x256x8x32_0_1_2_3
        (broadcastInDim S8x256x1x32 ![0, 1, 3] bcast_S8x256x32_S8x256x1x32_0_1_3 a3)⟩,
      ⟨S8x256x8x32, broadcastInDim S8x256x8x32 ![] bcast_S_S8x256x8x32 (constant S_ .f32 0x00000000#32)⟩]
      concatenates_S8x256x8x64_S8x256x8x32_S8x256x8x32_S8x256x8x128_d3) shapeCasts_S8x256x8x128_S8x256x1024) bitsLt_bf16_f32

/-- The latents' keys as the kernel takes them, in the same way. -/
def packKx (a5 : FVec F S8x4096x8x64 .f32) (a6 : FVec F S8x4096x32 .f32) : FVec F S8x4096x1024 .bf16 :=
  truncf .bf16 (shapeCast S8x4096x1024 (concatenate S8x4096x8x128 3 [⟨S8x4096x8x64, a5⟩,
      ⟨S8x4096x8x32, broadcastInDim S8x4096x8x32 ![0, 1, 2, 3] bcast_S8x4096x1x32_S8x4096x8x32_0_1_2_3
        (broadcastInDim S8x4096x1x32 ![0, 1, 3] bcast_S8x4096x32_S8x4096x1x32_0_1_3 a6)⟩,
      ⟨S8x4096x8x32, broadcastInDim S8x4096x8x32 ![] bcast_S_S8x4096x8x32 (constant S_ .f32 0x00000000#32)⟩]
      concatenates_S8x4096x8x64_S8x4096x8x32_S8x4096x8x32_S8x4096x8x128_d3) shapeCasts_S8x4096x8x128_S8x4096x1024) bitsLt_bf16_f32

/-- The context's values, the heads side by side. -/
def packVc (a4 : FVec F S8x256x8x64 .f32) : FVec F S8x256x512 .bf16 :=
  truncf .bf16 (shapeCast S8x256x512 a4 shapeCasts_S8x256x8x64_S8x256x512) bitsLt_bf16_f32

/-- The latents' values, the heads side by side. -/
def packVx (a7 : FVec F S8x4096x8x64 .f32) : FVec F S8x4096x512 .bf16 :=
  truncf .bf16 (shapeCast S8x4096x512 a7 shapeCasts_S8x4096x8x64_S8x4096x512) bitsLt_bf16_f32

variable (m : (ℓ : Loc nD τ sig) → Buf (Elt F) ℓ) (c : Dev nD)

/-- The array the query window reads. -/
theorem entry_q : V m c main_v7 = packQ (m (c, main_arg0)) (m (c, main_arg1)) := by
  after_reads_simp
  rfl
/-- The array the window of the context's keys reads. -/
theorem entry_kc : V m c main_v13 = packKc (m (c, main_arg2)) (m (c, main_arg3)) := by
  after_reads_simp
  rfl
/-- The array the window of the context's values reads. -/
theorem entry_vc : V m c main_v15 = packVc (m (c, main_arg4)) := by
  after_reads_simp
  rfl
/-- The array the window of the latents' keys reads. -/
theorem entry_kx : V m c main_v21 = packKx (m (c, main_arg5)) (m (c, main_arg6)) := by
  after_reads_simp
  rfl
/-- The array the window of the latents' values reads. -/
theorem entry_vx : V m c main_v23 = packVx (m (c, main_arg7)) := by
  after_reads_simp
  rfl

end

/-- The scale over log 2 is a real number. -/
theorem scale_log : Ideal.div (Ideal.ofBits .f32 0x3DD105EC#32) (Ideal.log (Ideal.ofBits .f32 0x40000000#32))
    = ((Softmax.scale / Real.log 2 : ℝ) : EReal) := by
  rw [Softmax.word_scale, Softmax.word_two,
    show Ideal.log ((2 : ℝ) : EReal) = if (2 : ℝ) ≤ 0 then ⊥ else ((Real.log 2 : ℝ) : EReal) from rfl, if_neg (by norm_num),
    Ideal.div_coe (Real.log_pos one_lt_two).ne', ← EReal.coe_mul, mul_one_div]

/-- 64 lanes, 32 lanes and 32 lanes, joined. -/
theorem join_x (a : FVec Ideal S8x4096x8x64 .f32) (b c : FVec Ideal S8x4096x8x32 .f32) (hc : ∀ i, c i = 0)
    (i : Fin 8) (n : Fin 4096) (h : Fin 8) (e : Fin 128) :
    concatenate S8x4096x8x128 3 [⟨S8x4096x8x64, a⟩, ⟨S8x4096x8x32, b⟩, ⟨S8x4096x8x32, c⟩]
      concatenates_S8x4096x8x64_S8x4096x8x32_S8x4096x8x32_S8x4096x8x128_d3 (ix4 i n h e)
      = Softmax.pack (fun d => a (ix4 i n h d)) (fun d => b (ix4 i n h d)) e := by
  pointwise [hc]
  rfl

/-- The same over the context's positions. -/
theorem join_c (a : FVec Ideal S8x256x8x64 .f32) (b c : FVec Ideal S8x256x8x32 .f32) (hc : ∀ i, c i = 0)
    (i : Fin 8) (n : Fin 256) (h : Fin 8) (e : Fin 128) :
    concatenate S8x256x8x128 3 [⟨S8x256x8x64, a⟩, ⟨S8x256x8x32, b⟩, ⟨S8x256x8x32, c⟩]
      concatenates_S8x256x8x64_S8x256x8x32_S8x256x8x32_S8x256x8x128_d3 (ix4 i n h e)
      = Softmax.pack (fun d => a (ix4 i n h d)) (fun d => b (ix4 i n h d)) e := by
  pointwise [hc]
  rfl

/-- The heads side by side: lane `e` is lane `e % 128` of head `e / 128`. -/
theorem flat_x (X : FVec Ideal S8x4096x8x128 .f32) (b : Fin 8) (n : Fin 4096) (e : Fin 1024) :
    shapeCast S8x4096x1024 X shapeCasts_S8x4096x8x128_S8x4096x1024 (ix3 b n e)
      = X (ix4 b n (⟨e.val / 128, by omega⟩ : Fin 8) (⟨e.val % 128, by omega⟩ : Fin 128)) := by
  pointwise

/-- The same over the context's positions. -/
theorem flat_c (X : FVec Ideal S8x256x8x128 .f32) (b : Fin 8) (n : Fin 256) (e : Fin 1024) :
    shapeCast S8x256x1024 X shapeCasts_S8x256x8x128_S8x256x1024 (ix3 b n e)
      = X (ix4 b n (⟨e.val / 128, by omega⟩ : Fin 8) (⟨e.val % 128, by omega⟩ : Fin 128)) := by
  pointwise

/-- The lanes all heads share, read at a head. -/
theorem shared_x (a : FVec Ideal S8x4096x32 .f32) (b : Fin 8) (n : Fin 4096) (h : Fin 8) (e : Fin 32) :
    broadcastInDim S8x4096x8x32 ![0, 1, 2, 3] bcast_S8x4096x1x32_S8x4096x8x32_0_1_2_3
        (broadcastInDim S8x4096x1x32 ![0, 1, 3] bcast_S8x4096x32_S8x4096x1x32_0_1_3 a) (ix4 b n h e) = a (ix3 b n e) := by
  pointwise

/-- The same over the context's positions. -/
theorem shared_c (a : FVec Ideal S8x256x32 .f32) (b : Fin 8) (n : Fin 256) (h : Fin 8) (e : Fin 32) :
    broadcastInDim S8x256x8x32 ![0, 1, 2, 3] bcast_S8x256x1x32_S8x256x8x32_0_1_2_3
        (broadcastInDim S8x256x1x32 ![0, 1, 3] bcast_S8x256x32_S8x256x1x32_0_1_3 a) (ix4 b n h e) = a (ix3 b n e) := by
  pointwise

/-- The packed queries at an index. -/
theorem packQ_apply (a0 : FVec Ideal S8x4096x8x64 .f32) (a1 : FVec Ideal S8x4096x8x32 .f32) (b : Fin 8) (n : Fin 4096) (e : Fin 1024) :
    packQ a0 a1 (ix3 b n e) = Softmax.pack (fun d => a0 (ix4 b n (⟨e.val / 128, by omega⟩ : Fin 8) d))
        (fun d => a1 (ix4 b n (⟨e.val / 128, by omega⟩ : Fin 8) d)) ⟨e.val % 128, by omega⟩
      * ((Softmax.scale / Real.log 2 : ℝ) : EReal) := by
  have core (x y : FVec Ideal S8x4096x1024 .f32) (i : S8x4096x1024.Idx) : truncf .bf16 (mulf x y) bitsLt_bf16_f32 i = x i * y i := rfl
  have bc (y : FVec Ideal S_ .f32) (i : S8x4096x1024.Idx) : broadcastInDim S8x4096x1024 ![] bcast_S_S8x4096x1024 y i = y ix0 := by
    pointwise
  rw [packQ, core, flat_x, join_x _ _ _ (fun i => by pointwise), bc, ← scale_log]
  rfl

/-- The context's packed keys at an index. -/
theorem packKc_apply (a2 : FVec Ideal S8x256x8x64 .f32) (a3 : FVec Ideal S8x256x32 .f32) (b : Fin 8) (n : Fin 256) (e : Fin 1024) :
    packKc a2 a3 (ix3 b n e) = Softmax.pack (fun d => a2 (ix4 b n (⟨e.val / 128, by omega⟩ : Fin 8) d))
        (fun d => a3 (ix3 b n d)) ⟨e.val % 128, by omega⟩ := by
  have core (x : FVec Ideal S8x256x1024 .f32) (i : S8x256x1024.Idx) : truncf .bf16 x bitsLt_bf16_f32 i = x i := rfl
  rw [packKc, core, flat_c, join_c _ _ _ (fun i => by pointwise)]
  exact congrArg (fun g => Softmax.pack _ g _) (funext fun d => shared_c a3 b n _ d)

/-- The latents' packed keys at an index. -/
theorem packKx_apply (a5 : FVec Ideal S8x4096x8x64 .f32) (a6 : FVec Ideal S8x4096x32 .f32) (b : Fin 8) (n : Fin 4096) (e : Fin 1024) :
    packKx a5 a6 (ix3 b n e) = Softmax.pack (fun d => a5 (ix4 b n (⟨e.val / 128, by omega⟩ : Fin 8) d))
        (fun d => a6 (ix3 b n d)) ⟨e.val % 128, by omega⟩ := by
  have core (x : FVec Ideal S8x4096x1024 .f32) (i : S8x4096x1024.Idx) : truncf .bf16 x bitsLt_bf16_f32 i = x i := rfl
  rw [packKx, core, flat_x, join_x _ _ _ (fun i => by pointwise)]
  exact congrArg (fun g => Softmax.pack _ g _) (funext fun d => shared_x a6 b n _ d)

/-- The context's packed values at an index. -/
theorem packVc_apply (a4 : FVec Ideal S8x256x8x64 .f32) (b : Fin 8) (n : Fin 256) (e : Fin 512) :
    packVc a4 (ix3 b n e) = a4 (ix4 b n (⟨e.val / 64, by omega⟩ : Fin 8) (⟨e.val % 64, by omega⟩ : Fin 64)) := by
  pointwise [packVc]

/-- The latents' packed values at an index. -/
theorem packVx_apply (a7 : FVec Ideal S8x4096x8x64 .f32) (b : Fin 8) (n : Fin 4096) (e : Fin 512) :
    packVx a7 (ix3 b n e) = a7 (ix4 b n (⟨e.val / 64, by omega⟩ : Fin 8) (⟨e.val % 64, by omega⟩ : Fin 64)) := by
  pointwise [packVx]

end Cert.KernelIdeal.Host

end
-- ==== Proof.Head.lean ====
module

public import proofs.«01_k».proof.Proof.Rows
public import proofs.«01_k».proof.Proof.Host

/-! # One head of the kernel is one head of the attention -/

@[expose] public section

set_option maxRecDepth 16384

noncomputable section

namespace Cert.KernelIdeal.Head

open Cert.KernelIdeal Cert.KernelIdeal.Host Cert.KernelIdeal.Body Idealize.ShloMosaic

/-- The keys of chunk 0 are the context's. -/
theorem pick_zero {α : Type} (f : Fin 256 → α) (g : Fin 4096 → α) (j : Fin 256) :
    Softmax.pick f g (place 0 j (by norm_num)) = f j := by
  rw [Softmax.pick, dif_pos (show (place 0 j (by norm_num)).val < 256 by simp [place])]
  exact congrArg f (Fin.ext (by simp [place]))

/-- The keys of chunk `n + 1` are the latents' chunk `n`. -/
theorem pick_succ {α : Type} (f : Fin 256 → α) (g : Fin 4096 → α) (n : Fin 16) (j : Fin 256) :
    Softmax.pick f g (place (n.val + 1) j (by omega)) = g ⟨256 * n.val + j.val, by omega⟩ := by
  rw [Softmax.pick, dif_neg (show ¬ (place (n.val + 1) j (by omega)).val < 256 by simp [place]; omega)]
  exact congrArg g (Fin.ext (by simp [place]; omega))

/-- A packed query against a packed key: the product of their lanes, scaled. -/
theorem dot (f f' : Fin 64 → ℝ) (g g' : Fin 32 → ℝ) (q k : Fin 128 → EReal)
    (hq : ∀ e, q e = Softmax.pack (fun d => (f d : EReal)) (fun d => (g d : EReal)) e * ((Softmax.scale / Real.log 2 : ℝ) : EReal))
    (hk : ∀ e, k e = Softmax.pack (fun d => (f' d : EReal)) (fun d => (g' d : EReal)) e) :
    ∑ e, q e * k e = (((∑ d, f d * f' d) + ∑ d, g d * g' d) * Softmax.scale / Real.log 2 : ℝ) := by
  simp only [hq, hk]
  rw [Softmax.pack_dot, mul_div_assoc]

variable (a0 : FVec Ideal S8x4096x8x64 .f32) (a1 : FVec Ideal S8x4096x8x32 .f32) (a2 : FVec Ideal S8x256x8x64 .f32)
  (a3 : FVec Ideal S8x256x32 .f32) (a4 : FVec Ideal S8x256x8x64 .f32) (a5 : FVec Ideal S8x4096x8x64 .f32)
  (a6 : FVec Ideal S8x4096x32 .f32) (a7 : FVec Ideal S8x4096x8x64 .f32)
  (r0 : S8x4096x8x64.Idx → ℝ) (r1 : S8x4096x8x32.Idx → ℝ) (r2 : S8x256x8x64.Idx → ℝ) (r3 : S8x256x32.Idx → ℝ)
  (r5 : S8x4096x8x64.Idx → ℝ) (r6 : S8x4096x32.Idx → ℝ)

/-- A row of a head whose operands are the columns of head `h` in the packed arrays: the quotient at a lane of that
    head is the attention's result. -/
theorem head_attn (h0 : ∀ i, a0 i = (r0 i : EReal)) (h1 : ∀ i, a1 i = (r1 i : EReal)) (h2 : ∀ i, a2 i = (r2 i : EReal))
    (h3 : ∀ i, a3 i = (r3 i : EReal)) (h5 : ∀ i, a5 i = (r5 i : EReal)) (h6 : ∀ i, a6 i = (r6 i : EReal))
    (b : Fin 8) (n : Fin 4096) (p : Fin 4) (h : Fin 8) (q : FVec Ideal S1024x128 .bf16)
    (kc vc : FVec Ideal S256x128 .bf16) (kx vx : Fin 16 → FVec Ideal S256x128 .bf16) (r : Fin 1024)
    (hq : ∀ e : Fin 128, q (ix2 r e) = packQ a0 a1 (ix3 b n (⟨128 * h.val + e.val, by omega⟩ : Fin 1024)))
    (hkc : ∀ (j : Fin 256) (e : Fin 128), kc (ix2 j e) = packKc a2 a3 (ix3 b j (⟨128 * h.val + e.val, by omega⟩ : Fin 1024)))
    (hvc : ∀ (j : Fin 256) (e : Fin 128), vc (ix2 j e) = packVc a4 (ix3 b j (⟨128 * p.val + e.val, by omega⟩ : Fin 512)))
    (hkx : ∀ (i : Fin 16) (j : Fin 256) (e : Fin 128), kx i (ix2 j e)
      = packKx a5 a6 (ix3 b (⟨256 * i.val + j.val, by omega⟩ : Fin 4096) (⟨128 * h.val + e.val, by omega⟩ : Fin 1024)))
    (hvx : ∀ (i : Fin 16) (j : Fin 256) (e : Fin 128), vx i (ix2 j e)
      = packVx a7 (ix3 b (⟨256 * i.val + j.val, by omega⟩ : Fin 4096) (⟨128 * p.val + e.val, by omega⟩ : Fin 512)))
    (d : Fin 128) (hd : (128 * p.val + d.val) / 64 = h.val) :
    quot (state q kc vc kx vx 16 le_rfl) (ix2 r d)
      = Softmax.result r0 r1 r2 r3 a4 r5 r6 a7 b n ⟨128 * p.val + d.val, by omega⟩ := by
  obtain rfl : a0 = fun i => (r0 i : EReal) := funext h0
  obtain rfl : a1 = fun i => (r1 i : EReal) := funext h1
  obtain rfl : a2 = fun i => (r2 i : EReal) := funext h2
  obtain rfl : a3 = fun i => (r3 i : EReal) := funext h3
  obtain rfl : a5 = fun i => (r5 i : EReal) := funext h5
  obtain rfl : a6 = fun i => (r6 i : EReal) := funext h6
  have hh (e : Fin 128) : (⟨(128 * h.val + e.val) / 128, by omega⟩ : Fin 8) = h := Fin.ext (by show _ / _ = _; omega)
  have he (e : Fin 128) : (⟨(128 * h.val + e.val) % 128, by omega⟩ : Fin 128) = e := Fin.ext (by show _ % _ = _; omega)
  refine (head_eq (Softmax.score r0 r1 r2 r3 r5 r6 b h n)
    (fun j e => Softmax.value a4 a7 b ⟨(128 * p.val + e.val) / 64, by omega⟩ ⟨(128 * p.val + e.val) % 64, by omega⟩ j)
    q kc vc kx vx r ?_ ?_ ?_ ?_ d).trans ?_
  · intro j
    rw [scores_apply, dot (fun d => r0 (ix4 b n h d)) (fun d => r2 (ix4 b j h d)) (fun d => r1 (ix4 b n h d)) (fun d => r3 (ix3 b j d))
      (fun e => q (ix2 r e)) (fun e => kc (ix2 j e))]
    · unfold Softmax.score
      simp only [pick_zero]
    · intro e
      rw [hq, packQ_apply]
      simp only [hh, he]
    · intro e
      rw [hkc, packKc_apply]
      simp only [hh, he]
  · intro j e
    rw [hvc, packVc_apply, Softmax.value, pick_zero]
  · intro i j
    rw [scores_apply, dot (fun d => r0 (ix4 b n h d)) (fun d => r5 (ix4 b (⟨256 * i.val + j.val, by omega⟩ : Fin 4096) h d))
      (fun d => r1 (ix4 b n h d)) (fun d => r6 (ix3 b (⟨256 * i.val + j.val, by omega⟩ : Fin 4096) d))
      (fun e => q (ix2 r e)) (fun e => kx i (ix2 j e))]
    · unfold Softmax.score
      simp only [pick_succ]
    · intro e
      rw [hq, packQ_apply]
      simp only [hh, he]
    · intro e
      rw [hkx, packKx_apply]
      simp only [hh, he]
  · intro i j e
    rw [hvx, packVx_apply, Softmax.value, pick_succ]
  · unfold Softmax.result
    refine congrArg (fun z => Softmax.attn (Softmax.score r0 r1 r2 r3 r5 r6 b z n) _) (Fin.ext hd.symm)

end Cert.KernelIdeal.Head

end
-- ==== Proof.Blocks.lean ====
module

public import proofs.«01_k».proof.Proof.Head
public import proofs.«01_k».proof.Proof.Gen.KernelIdeal.Value
public import Idealize.ShloMosaic.Lib.Pipeline.ValueKit
public import Idealize.ShloMosaic.Lib.Claim

/-! # The kernel's result array -/

@[expose] public section

set_option maxRecDepth 16384

noncomputable section

namespace Cert.KernelIdeal.Blocks

open Cert.KernelIdeal Cert.KernelIdeal.Gen Cert.KernelIdeal.Host Cert.KernelIdeal.Body Cert.KernelIdeal.Head Idealize.ShloMosaic Idealize.ShloMosaic.TcCoe Idealize.SL.Sem
open Idealize.ShloMosaic.Pipeline (Dat)

/-- The windows' block indices at grid point `t` = batch, pair of heads, quarter of the queries. -/
theorem idx : ∀ t : Fin cfg0.N,
    win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 16, 0, t.val / 4 % 4]
    ∧ win0_4.index t = ![t.val / 16, 0, t.val / 4 % 4] ∧ win0_5.index t = ![t.val / 16, t.val % 4, t.val / 4 % 4] :=
  (by decide +kernel : ∀ t : Fin grid0.N, _)

variable (m : (ℓ : Loc nD τ sig) → Buf (Elt Ideal) ℓ) (c : Dev nD)

/-- There are 128 grid points. -/
theorem lt (t : Fin cfg0.N) : t.val < 128 := t.isLt

/-- Where the queries block of a grid point lies in its array. -/
theorem read_q (X : FVec Ideal S8x4096x1024 .bf16) (t : Fin cfg0.N) (r : Fin 1024) (e : Fin 256) :
    ((cfg0.win 0).blk t).view.read (Elt Ideal) X (ix3 0 r e) = X (ix3 (⟨t.val / 16, by have := lt t; omega⟩ : Fin 8) (⟨1024 * (t.val % 4) + r.val, by omega⟩ : Fin 4096) (⟨256 * (t.val / 4 % 4) + e.val, by omega⟩ : Fin 1024)) := by
  blk_ext [idx t]

/-- A block of the queries, read in the packed array. -/
theorem blk_q (t : Fin cfg0.N) (r : Fin 1024) (e : Fin 256) :
    iblk m c 0 t (ix3 0 r e) = packQ (F := Ideal) (m (c, main_arg0)) (m (c, main_arg1))
      (ix3 (⟨t.val / 16, by have := lt t; omega⟩ : Fin 8) (⟨1024 * (t.val % 4) + r.val, by omega⟩ : Fin 4096) (⟨256 * (t.val / 4 % 4) + e.val, by omega⟩ : Fin 1024)) :=
  (read_q (V m c main_v7) t r e).trans (congrFun (entry_q m c) _)

/-- Where the context's keys block of a grid point lies in its array. -/
theorem read_kc (X : FVec Ideal S8x256x1024 .bf16) (t : Fin cfg0.N) (r : Fin 256) (e : Fin 256) :
    ((cfg0.win 1).blk t).view.read (Elt Ideal) X (ix3 0 r e) = X (ix3 (⟨t.val / 16, by have := lt t; omega⟩ : Fin 8) r (⟨256 * (t.val / 4 % 4) + e.val, by omega⟩ : Fin 1024)) := by
  blk_ext [idx t]

/-- A block of the context's keys, read in the packed array. -/
theorem blk_kc (t : Fin cfg0.N) (r : Fin 256) (e : Fin 256) :
    iblk m c 1 t (ix3 0 r e) = packKc (F := Ideal) (m (c, main_arg2)) (m (c, main_arg3))
      (ix3 (⟨t.val / 16, by have := lt t; omega⟩ : Fin 8) r (⟨256 * (t.val / 4 % 4) + e.val, by omega⟩ : Fin 1024)) :=
  (read_kc (V m c main_v13) t r e).trans (congrFun (entry_kc m c) _)

/-- Where the context's values block of a grid point lies in its array. -/
theorem read_vc (X : FVec Ideal S8x256x512 .bf16) (t : Fin cfg0.N) (r : Fin 256) (e : Fin 128) :
    ((cfg0.win 2).blk t).view.read (Elt Ideal) X (ix3 0 r e) = X (ix3 (⟨t.val / 16, by have := lt t; omega⟩ : Fin 8) r (⟨128 * (t.val / 4 % 4) + e.val, by omega⟩ : Fin 512)) := by
  blk_ext [idx t]

/-- A block of the context's values, read in the packed array. -/
theorem blk_vc (t : Fin cfg0.N) (r : Fin 256) (e : Fin 128) :
    iblk m c 2 t (ix3 0 r e) = packVc (F := Ideal) (m (c, main_arg4))
      (ix3 (⟨t.val / 16, by have := lt t; omega⟩ : Fin 8) r (⟨128 * (t.val / 4 % 4) + e.val, by omega⟩ : Fin 512)) :=
  (read_vc (V m c main_v15) t r e).trans (congrFun (entry_vc m c) _)

/-- Where the latents' keys block of a grid point lies in its array. -/
theorem read_kx (X : FVec Ideal S8x4096x1024 .bf16) (t : Fin cfg0.N) (r : Fin 4096) (e : Fin 256) :
    ((cfg0.win 3).blk t).view.read (Elt Ideal) X (ix3 0 r e) = X (ix3 (⟨t.val / 16, by have := lt t; omega⟩ : Fin 8) r (⟨256 * (t.val / 4 % 4) + e.val, by omega⟩ : Fin 1024)) := by
  blk_ext [idx t]

/-- A block of the latents' keys, read in the packed array. -/
theorem blk_kx (t : Fin cfg0.N) (r : Fin 4096) (e : Fin 256) :
    iblk m c 3 t (ix3 0 r e) = packKx (F := Ideal) (m (c, main_arg5)) (m (c, main_arg6))
      (ix3 (⟨t.val / 16, by have := lt t; omega⟩ : Fin 8) r (⟨256 * (t.val / 4 % 4) + e.val, by omega⟩ : Fin 1024)) :=
  (read_kx (V m c main_v21) t r e).trans (congrFun (entry_kx m c) _)

/-- Where the latents' values block of a grid point lies in its array. -/
theorem read_vx (X : FVec Ideal S8x4096x512 .bf16) (t : Fin cfg0.N) (r : Fin 4096) (e : Fin 128) :
    ((cfg0.win 4).blk t).view.read (Elt Ideal) X (ix3 0 r e) = X (ix3 (⟨t.val / 16, by have := lt t; omega⟩ : Fin 8) r (⟨128 * (t.val / 4 % 4) + e.val, by omega⟩ : Fin 512)) := by
  blk_ext [idx t]

/-- A block of the latents' values, read in the packed array. -/
theorem blk_vx (t : Fin cfg0.N) (r : Fin 4096) (e : Fin 128) :
    iblk m c 4 t (ix3 0 r e) = packVx (F := Ideal) (m (c, main_arg7))
      (ix3 (⟨t.val / 16, by have := lt t; omega⟩ : Fin 8) r (⟨128 * (t.val / 4 % 4) + e.val, by omega⟩ : Fin 512)) :=
  (read_vx (V m c main_v23) t r e).trans (congrFun (entry_vx m c) _)

variable (r0 : S8x4096x8x64.Idx → ℝ) (r1 : S8x4096x8x32.Idx → ℝ) (r2 : S8x256x8x64.Idx → ℝ) (r3 : S8x256x32.Idx → ℝ)
  (r5 : S8x4096x8x64.Idx → ℝ) (r6 : S8x4096x32.Idx → ℝ)

/-- What grid point `t` leaves in its output block: the attention's result at the block's place. -/
theorem point (h0 : ∀ i, m (c, main_arg0) i = (r0 i : EReal)) (h1 : ∀ i, m (c, main_arg1) i = (r1 i : EReal))
    (h2 : ∀ i, m (c, main_arg2) i = (r2 i : EReal)) (h3 : ∀ i, m (c, main_arg3) i = (r3 i : EReal))
    (h5 : ∀ i, m (c, main_arg5) i = (r5 i : EReal)) (h6 : ∀ i, m (c, main_arg6) i = (r6 i : EReal))
    (t : Fin cfg0.N) (r : Fin 1024) (d : Fin 128) :
    block (quot (state (query0 (iblk m c 0 t)) (key0 (iblk m c 1 t)) (val (iblk m c 2 t))
        (fun n => key0 (chunkK (iblk m c 3 t) n)) (fun n => val (chunkV (iblk m c 4 t) n)) 16 le_rfl))
      (quot (state (query1 (iblk m c 0 t)) (key1 (iblk m c 1 t)) (val (iblk m c 2 t))
        (fun n => key1 (chunkK (iblk m c 3 t) n)) (fun n => val (chunkV (iblk m c 4 t) n)) 16 le_rfl)) (ix3 0 r d)
      = Softmax.result r0 r1 r2 r3 (m (c, main_arg4)) r5 r6 (m (c, main_arg7)) ⟨t.val / 16, by have := lt t; omega⟩
          ⟨1024 * (t.val % 4) + r.val, by omega⟩ ⟨128 * (t.val / 4 % 4) + d.val, by omega⟩ := by
  rw [block_apply]
  split_ifs with hd
  · refine head_attn (m (c, main_arg0)) (m (c, main_arg1)) (m (c, main_arg2)) (m (c, main_arg3)) (m (c, main_arg4))
      (m (c, main_arg5)) (m (c, main_arg6)) (m (c, main_arg7)) r0 r1 r2 r3 r5 r6 h0 h1 h2 h3 h5 h6 _ _
      ⟨t.val / 4 % 4, by omega⟩ ⟨2 * (t.val / 4 % 4), by omega⟩ _ _ _ _ _ r ?_ ?_ ?_ ?_ ?_ d ?_
    · intro e
      rw [query0_apply, blk_q]
      exact congrArg (fun z => packQ (F := Ideal) _ _ (ix3 _ _ z)) (Fin.ext (by simp; omega))
    · intro j e
      rw [key0_apply, blk_kc]
      exact congrArg (fun z => packKc (F := Ideal) _ _ (ix3 _ _ z)) (Fin.ext (by simp; omega))
    · intro j e
      rw [val_apply, blk_vc]
    · intro i j e
      rw [key0_apply, chunkK_apply, blk_kx]
      exact congrArg (fun z => packKx (F := Ideal) _ _ (ix3 _ _ z)) (Fin.ext (by simp; omega))
    · intro i j e
      rw [val_apply, chunkV_apply, blk_vx]
    · show (128 * (t.val / 4 % 4) + d.val) / 64 = 2 * (t.val / 4 % 4)
      omega
  · refine head_attn (m (c, main_arg0)) (m (c, main_arg1)) (m (c, main_arg2)) (m (c, main_arg3)) (m (c, main_arg4))
      (m (c, main_arg5)) (m (c, main_arg6)) (m (c, main_arg7)) r0 r1 r2 r3 r5 r6 h0 h1 h2 h3 h5 h6 _ _
      ⟨t.val / 4 % 4, by omega⟩ ⟨2 * (t.val / 4 % 4) + 1, by omega⟩ _ _ _ _ _ r ?_ ?_ ?_ ?_ ?_ d ?_
    · intro e
      rw [query1_apply, blk_q]
      exact congrArg (fun z => packQ (F := Ideal) _ _ (ix3 _ _ z)) (Fin.ext (by simp; omega))
    · intro j e
      rw [key1_apply, blk_kc]
      exact congrArg (fun z => packKc (F := Ideal) _ _ (ix3 _ _ z)) (Fin.ext (by simp; omega))
    · intro j e
      rw [val_apply, blk_vc]
    · intro i j e
      rw [key1_apply, chunkK_apply, blk_kx]
      exact congrArg (fun z => packKx (F := Ideal) _ _ (ix3 _ _ z)) (Fin.ext (by simp; omega))
    · intro i j e
      rw [val_apply, chunkV_apply, blk_vx]
    · show (128 * (t.val / 4 % 4) + d.val) / 64 = 2 * (t.val / 4 % 4) + 1
      omega

/-- Where the output block of a grid point lies in its array. -/
theorem read_o (X : FVec Ideal S8x4096x512 .bf16) (t : Fin cfg0.N) (r : Fin 1024) (e : Fin 128) :
    ((cfg0.win 5).blk t).view.read (Elt Ideal) X (ix3 0 r e) = X (ix3 (⟨t.val / 16, by have := lt t; omega⟩ : Fin 8) (⟨1024 * (t.val % 4) + r.val, by omega⟩ : Fin 4096) (⟨128 * (t.val / 4 % 4) + e.val, by omega⟩ : Fin 512)) := by
  blk_ext [idx t]

/-- The kernel's result array is the attention's result. -/
theorem result_eq (h0 : ∀ i, m (c, main_arg0) i = (r0 i : EReal)) (h1 : ∀ i, m (c, main_arg1) i = (r1 i : EReal))
    (h2 : ∀ i, m (c, main_arg2) i = (r2 i : EReal)) (h3 : ∀ i, m (c, main_arg3) i = (r3 i : EReal))
    (h5 : ∀ i, m (c, main_arg5) i = (r5 i : EReal)) (h6 : ∀ i, m (c, main_arg6) i = (r6 i : EReal)) :
    (dats m 0 c).arrAt 5 cfg0.N = fun i : S8x4096x512.Idx =>
      Softmax.result r0 r1 r2 r3 (m (c, main_arg4)) r5 r6 (m (c, main_arg7)) (i 0) (i 1) (i 2) := by
  refine (dats m 0 c).arrAt_eq_of_covers 5 _ (by decide +kernel) fun t _ y => ?_
  blk_simp
  rw [after0_5]
  idx_vars y
  obtain rfl : y0 = 0 := Subsingleton.elim _ _
  unfold outsAt0
  rw [out_eq]
  exact (point m c r0 r1 r2 r3 r5 r6 h0 h1 h2 h3 h5 h6 t y1 y2).trans (read_o (fun i : S8x4096x512.Idx =>
    Softmax.result r0 r1 r2 r3 (m (c, main_arg4)) r5 r6 (m (c, main_arg7)) (i 0) (i 1) (i 2)) t y1 y2).symm

end Cert.KernelIdeal.Blocks

end
-- ==== Proof.Ref.lean ====
module

public import proofs.«01_k».proof.Proof.Gen.ReferenceIdeal.Read
public import proofs.«01_k».proof.Proof.Spec

/-! # The reference's result is the softmax attention -/

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem

/-- The joined position-free keys: the context's, then the latents'. -/
theorem v0_apply (x2 : FVec Ideal S8x256x8x64 .f32) (x5 : FVec Ideal S8x4096x8x64 .f32) (b : Fin 8) (j : Fin 4352) (h : Fin 8) (d : Fin 64) :
    val_main_v0 (F := Ideal) x2 x5 (ix4 b j h d) = Softmax.pick (fun k => x2 (ix4 b k h d)) (fun k => x5 (ix4 b k h d)) j := by
  pointwise [val_main_v0]
  rfl

/-- The joined rotary keys: the context's, then the latents'. -/
theorem v1_apply (x3 : FVec Ideal S8x256x32 .f32) (x6 : FVec Ideal S8x4096x32 .f32) (b : Fin 8) (j : Fin 4352) (e : Fin 32) :
    val_main_v1 (F := Ideal) x3 x6 (ix3 b j e) = Softmax.pick (fun k => x3 (ix3 b k e)) (fun k => x6 (ix3 b k e)) j := by
  pointwise [val_main_v1]
  rfl

/-- The joined values: the context's, then the latents'. -/
theorem v2_apply (x4 : FVec Ideal S8x256x8x64 .f32) (x7 : FVec Ideal S8x4096x8x64 .f32) (b : Fin 8) (j : Fin 4352) (h : Fin 8) (d : Fin 64) :
    val_main_v2 (F := Ideal) x4 x7 (ix4 b j h d) = Softmax.pick (fun k => x4 (ix4 b k h d)) (fun k => x7 (ix4 b k h d)) j :=
  v0_apply x4 x7 b j h d

/-- Choosing among reals gives a real. -/
theorem pick_coe (f : Fin 256 → ℝ) (g : Fin 4096 → ℝ) (j : Fin 4352) :
    Softmax.pick (fun k => (f k : EReal)) (fun k => (g k : EReal)) j = (Softmax.pick f g j : ℝ) := by
  unfold Softmax.pick; split_ifs <;> rfl

variable (x0 : FVec Ideal S8x4096x8x64 .f32) (x1 : FVec Ideal S8x4096x8x32 .f32) (x2 : FVec Ideal S8x256x8x64 .f32)
  (x3 : FVec Ideal S8x256x32 .f32) (x4 : FVec Ideal S8x256x8x64 .f32) (x5 : FVec Ideal S8x4096x8x64 .f32)
  (x6 : FVec Ideal S8x4096x32 .f32) (x7 : FVec Ideal S8x4096x8x64 .f32)

variable (r0 : S8x4096x8x64.Idx → ℝ) (r1 : S8x4096x8x32.Idx → ℝ) (r2 : S8x256x8x64.Idx → ℝ) (r3 : S8x256x32.Idx → ℝ)
  (r5 : S8x4096x8x64.Idx → ℝ) (r6 : S8x4096x32.Idx → ℝ)
  (h0 : ∀ i, x0 i = (r0 i : EReal)) (h1 : ∀ i, x1 i = (r1 i : EReal)) (h2 : ∀ i, x2 i = (r2 i : EReal))
  (h3 : ∀ i, x3 i = (r3 i : EReal)) (h5 : ∀ i, x5 i = (r5 i : EReal)) (h6 : ∀ i, x6 i = (r6 i : EReal))

include h0 h1 h2 h3 h5 h6 in
/-- The scores are real. -/
theorem v8_apply (b h : Fin 8) (n : Fin 4096) (j : Fin 4352) :
    val_main_v8 (F := Ideal) x0 x1 x2 x3 x5 x6 (ix4 b h n j) = (Softmax.score r0 r1 r2 r3 r5 r6 b h n j : ℝ) := by
  pointwise [val_main_v8, val_main_v7, val_main_v6, val_main_v5, val_main_v4, val_main_v3, val_main_cst, v0_apply, v1_apply]
  simp only [h0, h1, h2, h3, h5, h6, pick_coe, ← EReal.coe_mul, ← Softmax.coe_sum, Softmax.word_scale, ← EReal.coe_add, Softmax.score]
  congr 3
  exact Finset.sum_congr rfl fun d _ => mul_comm _ _

/-- The largest element of a row. -/
theorem rowMax (X : FVec Ideal S8x8x4096x4352 .f32) (v : FVec Ideal S_ .f32) (b h : Fin 8) (n : Fin 4096) :
    Host.reduce (FloatOps.maximumf (F := Ideal) (φ := .f32)) X v reducesTo_S8x8x4096x4352_S8x8x4096_d3 h_S_ (ix3 b h n)
      = Finset.univ.fold max (v (Shape.Idx.first h_S_)) fun j : Fin 4352 => X (ix4 b h n j) := by
  pointwise

include h0 h1 h2 h3 h5 h6 in
/-- What is subtracted from a row's scores is a real number. -/
theorem v11_apply (b h : Fin 8) (n : Fin 4096) :
    ∃ M : ℝ, val_main_v11 (F := Ideal) x0 x1 x2 x3 x5 x6 (ix3 b h n) = (M : EReal) := by
  obtain ⟨M, hM⟩ := Softmax.max_fold_real (Softmax.score r0 r1 r2 r3 r5 r6 b h n) bot_ne_top
  refine ⟨M, ?_⟩
  rw [← hM, val_main_v11_apply, val_main_v10_apply, val_main_cst_1_apply, val_main_v9, rowMax, val_main_cst_0_apply]
  simp only [v8_apply x0 x1 x2 x3 x5 x6 r0 r1 r2 r3 r5 r6 h0 h1 h2 h3 h5 h6]
  show max (Ideal.ofBits .f32 0xFF800000#32) (Finset.univ.fold max (Ideal.ofBits .f32 0xFF800000#32) _) = _
  rw [Softmax.word_neg_inf]

/-- An unnormalised weight: the exponential of the score less what is subtracted from the row. -/
theorem v15_apply (b h : Fin 8) (n : Fin 4096) (j : Fin 4352)  :
    val_main_v15 (F := Ideal) x0 x1 x2 x3 x5 x6 (ix4 b h n j)
      = Ideal.exp (val_main_v8 (F := Ideal) x0 x1 x2 x3 x5 x6 (ix4 b h n j) - val_main_v11 (F := Ideal) x0 x1 x2 x3 x5 x6 (ix3 b h n)) := by
  pointwise [val_main_v15, val_main_v14, val_main_v13, val_main_v12]

/-- A weight: the exponential over the sum of the row. -/
theorem v19_apply (b h : Fin 8) (n : Fin 4096) (j : Fin 4352)  :
    val_main_v19 (F := Ideal) x0 x1 x2 x3 x5 x6 (ix4 b h n j)
      = Ideal.div (val_main_v15 (F := Ideal) x0 x1 x2 x3 x5 x6 (ix4 b h n j))
          (∑ k : Fin 4352, val_main_v15 (F := Ideal) x0 x1 x2 x3 x5 x6 (ix4 b h n k)) := by
  pointwise [val_main_v19, val_main_v18, val_main_v17, val_main_v16, val_main_cst_2]

/-- The result: the values weighted, at the head and lane of the column. -/
theorem v23_apply (b : Fin 8) (n : Fin 4096) (e : Fin 512)  :
    val_main_v23 (F := Ideal) x0 x1 x2 x3 x4 x5 x6 x7 (ix3 b n e)
      = ∑ k : Fin 4352, val_main_v2 (F := Ideal) x4 x7 (ix4 b k (⟨e.val / 64, by omega⟩ : Fin 8) (⟨e.val % 64, by omega⟩ : Fin 64))
          * val_main_v19 (F := Ideal) x0 x1 x2 x3 x5 x6 (ix4 b (⟨e.val / 64, by omega⟩ : Fin 8) n k) := by
  pointwise [val_main_v23, val_main_v22, val_main_v21, val_main_v20]

include h0 h1 h2 h3 h5 h6 in
/-- The reference's result. -/
theorem result_apply (b : Fin 8) (n : Fin 4096) (e : Fin 512) :
    val_main_v23 (F := Ideal) x0 x1 x2 x3 x4 x5 x6 x7 (ix3 b n e) = Softmax.result r0 r1 r2 r3 x4 r5 r6 x7 b n e := by
  obtain ⟨M, hM⟩ := v11_apply x0 x1 x2 x3 x5 x6 r0 r1 r2 r3 r5 r6 h0 h1 h2 h3 h5 h6 b ⟨e.val / 64, by omega⟩ n
  rw [v23_apply]
  simp only [v19_apply, v15_apply, hM, v2_apply, v8_apply x0 x1 x2 x3 x5 x6 r0 r1 r2 r3 r5 r6 h0 h1 h2 h3 h5 h6]
  exact Softmax.attn_of_shift (Softmax.score r0 r1 r2 r3 r5 r6 b ⟨e.val / 64, by omega⟩ n) _ M

end Cert.ReferenceIdeal.Attn

end
-- ==== Proof.Finite.lean ====
module

public import proofs.«01_k».proof.Pre_finite
public import proofs.«01_k».proof.Proof.Softmax
public import Idealize.ShloMosaic.Lib.Pointwise

/-! # The precondition's meaning -/

@[expose] public section

set_option maxRecDepth 16384

noncomputable section

namespace Cert.Finite

open Idealize.ShloMosaic

/-- An array whose magnitudes are all below infinity is an array of reals. -/
theorem real {S : Shape} (x : FVec Ideal S .f32) (hb : Cert.Pre_finite.S_.BroadcastsInDim S (![] : Fin 0 → Fin S.rank))
    (h : cmpf .olt (Host.absf x) (broadcastInDim S ![] hb (constant Cert.Pre_finite.S_ .f32 0x7F800000#32)) = fun _ => 1#1)
    (i : S.Idx) : x i = ((x i).toReal : EReal) := by
  have hi : BitVec.ofBool (decide (max (x i) (-(x i)) < FloatOps.ofBits (F := Ideal) .f32 0x7F800000#32)) = 1#1 := congrFun h i
  rw [show FloatOps.ofBits (F := Ideal) .f32 0x7F800000#32 = (⊤ : EReal) from Softmax.word_inf] at hi
  have hlt : max (x i) (-(x i)) < ⊤ := by
    by_contra hn
    rw [decide_eq_false hn] at hi
    exact absurd hi (by decide)
  refine (EReal.coe_toReal (fun ht => ?_) (fun hb => ?_)).symm
  · rw [ht] at hlt
    simp at hlt
  · rw [hb] at hlt
    simp at hlt

end Cert.Finite

end
-- ==== Proof.Ffn.Body.lean ====
module

public import proofs.«01_k».proof.Proof.Gen.OutFfnIdeal.Value
public import Idealize.ShloMosaic.Lib.Pipeline.ValueKit
public import Idealize.ShloMosaic.Lib.ValueIdx

/-! # What one grid point of the output projection and feed-forward leaves in its block -/

@[expose] public section

set_option maxRecDepth 16384

noncomputable section

namespace Cert.OutFfnIdeal.Body

open Cert.OutFfnIdeal Cert.OutFfnIdeal.Gen Idealize.ShloMosaic Idealize.ShloMosaic.TcCoe Idealize.SL.Sem

variable {F : FTy → Type} [FloatOps F]

/-! ## The scratch buffers, read back -/

/-- 512 rows from row `o` of two blocks of 256 columns side by side. -/
def rows (o : ℕ) (ho : o + 512 ≤ 528) (p q : FVec F S1x528x256 .f32) : FVec F S512x512 .f32 := fun y =>
  if h : (y 1).val < 256 then p (ValueIdx.ix3 (0 : Fin 1) (⟨o + (y 0).val, by have : (y 0).val < 512 := (y 0).isLt; omega⟩ : Fin 528) (⟨(y 1).val, h⟩ : Fin 256))
  else q (ValueIdx.ix3 (0 : Fin 1) (⟨o + (y 0).val, by have : (y 0).val < 512 := (y 0).isLt; omega⟩ : Fin 528)
    (⟨(y 1).val - 256, by have : (y 1).val < 512 := (y 1).isLt; omega⟩ : Fin 256))

/-- Eleven blocks of 256 columns side by side. -/
def join (p : Fin 11 → FVec F S512x256 .bf16) : FVec F S512x2816 .bf16 := fun y =>
  p ⟨(y 1).val / 256, by have : (y 1).val < 2816 := (y 1).isLt; omega⟩
    (ValueIdx.ix2 (⟨(y 0).val, (y 0).isLt⟩ : Fin 512) (⟨(y 1).val % 256, Nat.mod_lt _ (by decide)⟩ : Fin 256))

/-- A load of one slot passes over what was stored in the other. -/
theorem read_skip {sig' : RefSig} {κ : Kind} {sp : Space} (v : View sig' κ sp S2x528x512 .f32) (s s' : ℕ) (hs : s ≠ s') (o k : ℕ)
    (i1 : ∀ a, (![s', 0, k] : Fin 3 → ℕ) a + S1x528x256.size a ≤ S2x528x512.size a) (w : FVec F S1x528x256 .f32)
    (L : List (View.Piece (Elt F) S2x528x512 .f32))
    (i2 : ∀ a, (![s, 0, 0] : Fin 3 → ℕ) a + S1x528x512.size a ≤ S2x528x512.size a)
    (i3 : ∀ a, (![o, 0] : Fin 2 → ℕ) a + S512x512.size a ≤ S528x512.size a) (h0) (h1) (h2) :
    v.readCov (⟨Rect.unit ![s', 0, k] S1x528x256.size i1, w⟩ :: L) (Rect.withinL (Rect.unit (s := S2x528x512) ![s, 0, 0] S1x528x512.size i2)
        (LoadRect.consLift (Rect.unit (s := S528x512) ![o, 0] S512x512.size i3).toLoadRect ![1, 528, 512] h0 h1) h2)
      = v.readCov L (Rect.withinL (Rect.unit (s := S2x528x512) ![s, 0, 0] S1x528x512.size i2)
        (LoadRect.consLift (Rect.unit (s := S528x512) ![o, 0] S512x512.size i3).toLoadRect ![1, 528, 512] h0 h1) h2) := by
  rw [View.readCov_eq_canon', View.readCov_eq_canon']
  funext j
  refine View.canon_cons_of_not_mem _ L fun hm => hs ?_
  have h := (Rect.mem_set_unit (inb := i1)).mp hm 0
  have hj : (j 0).val < 1 := (j 0).isLt
  rw [LoadRect.idx_apply] at h
  change s' ≤ s + 0 + 1 * (j 0).val ∧ s + 0 + 1 * (j 0).val < s' + 1 at h
  omega

/-- The canon of two blocks side by side, at a place of the slot they fill. -/
theorem canon_two (s : ℕ) (o : ℕ) (ho : o + 512 ≤ 528)
    (i1 : ∀ a, (![s, 0, 256] : Fin 3 → ℕ) a + S1x528x256.size a ≤ S2x528x512.size a)
    (i0 : ∀ a, (![s, 0, 0] : Fin 3 → ℕ) a + S1x528x256.size a ≤ S2x528x512.size a) (p q : FVec F S1x528x256 .f32)
    (L : List (View.Piece (Elt F) S2x528x512 .f32)) (z : S2x528x512.Idx) (y : S512x512.Idx)
    (h0 : (z 0).val = s) (h1 : (z 1).val = o + (y 0).val) (h2 : (z 2).val = (y 1).val) :
    View.canon (⟨Rect.unit (s := S2x528x512) ![s, 0, 256] S1x528x256.size i1, q⟩ :: ⟨Rect.unit (s := S2x528x512) ![s, 0, 0] S1x528x256.size i0, p⟩ :: L) z = rows o ho p q y := by
  have b0 : (y 0).val < 512 := (y 0).isLt
  have b1 : (y 1).val < 512 := (y 1).isLt
  unfold rows
  split
  · rename_i h
    rw [View.canon_cons_of_not_mem _ _ fun hm => by
      have := ((Rect.mem_set_unit (inb := i1)).mp hm 2).1
      change 256 ≤ (z 2).val at this
      omega]
    have e : z = (Rect.unit (s := S2x528x512) ![s, 0, 0] S1x528x256.size i0).emb
        (ValueIdx.ix3 (0 : Fin 1) (⟨o + (y 0).val, by omega⟩ : Fin 528) (⟨(y 1).val, h⟩ : Fin 256)) := by
      funext a; apply Fin.ext; rw [Rect.emb_apply]
      fin_cases a
      · show (z 0).val = s + 1 * 0; omega
      · show (z 1).val = 0 + 1 * (o + (y 0).val); omega
      · show (z 2).val = 0 + 1 * (y 1).val; omega
    rw [e]
    exact View.canon_cons_emb (Rect.unit (s := S2x528x512) ![s, 0, 0] S1x528x256.size i0) p L _
  · rename_i h
    have e : z = (Rect.unit (s := S2x528x512) ![s, 0, 256] S1x528x256.size i1).emb
        (ValueIdx.ix3 (0 : Fin 1) (⟨o + (y 0).val, by omega⟩ : Fin 528) (⟨(y 1).val - 256, by omega⟩ : Fin 256)) := by
      funext a; apply Fin.ext; rw [Rect.emb_apply]
      fin_cases a
      · show (z 0).val = s + 1 * 0; omega
      · show (z 1).val = 0 + 1 * (o + (y 0).val); omega
      · show (z 2).val = 256 + 1 * ((y 1).val - 256); omega
    rw [e]
    exact View.canon_cons_emb (Val := Elt F) (e := .f32) (Rect.unit (s := S2x528x512) ![s, 0, 256] S1x528x256.size i1) q _ _

/-- Where a box goes when a leading axis of extent one is put before it: to the same coordinates after a zero. -/
theorem squeeze {n : ℕ} {d : Fin n → ℕ} (lr : LoadRect ⟨n, d⟩) (sz : Fin (n + 1) → ℕ) (h0 : sz 0 = 1) (hs : ∀ i, sz i.succ = d i)
    (hR : lr.shape.numel = (lr.consLift sz h0 hs).shape.numel) (x : lr.shape.Idx) :
    Shape.reshapeEquiv hR x = Fin.cons ⟨0, Nat.one_pos⟩ x := Shape.reshapeEquiv_cons_one (d := lr.size) _ _

/-- A load of 512 rows of the slot just filled reads the two blocks side by side. -/
theorem read_rows {sig' : RefSig} {κ : Kind} {sp : Space} (v : View sig' κ sp S2x528x512 .f32) (s o : ℕ) (ho : o + 512 ≤ 528)
    (i1 : ∀ a, (![s, 0, 256] : Fin 3 → ℕ) a + S1x528x256.size a ≤ S2x528x512.size a)
    (i0 : ∀ a, (![s, 0, 0] : Fin 3 → ℕ) a + S1x528x256.size a ≤ S2x528x512.size a) (p q : FVec F S1x528x256 .f32)
    (L : List (View.Piece (Elt F) S2x528x512 .f32))
    (i2 : ∀ a, (![s, 0, 0] : Fin 3 → ℕ) a + S1x528x512.size a ≤ S2x528x512.size a)
    (i3 : ∀ a, (![o, 0] : Fin 2 → ℕ) a + S512x512.size a ≤ S528x512.size a) (h0) (h1) (h2)
    (hR : (Rect.unit (s := S528x512) ![o, 0] S512x512.size i3).toLoadRect.shape.numel
      = (LoadRect.consLift (Rect.unit (s := S528x512) ![o, 0] S512x512.size i3).toLoadRect ![1, 528, 512] h0 h1).shape.numel) :
    LoadRect.valAlong (s₀ := (Rect.unit (s := S2x528x512) ![s, 0, 0] S1x528x512.size i2).shape) hR
      (v.readCov (⟨Rect.unit ![s, 0, 256] S1x528x256.size i1, q⟩ :: ⟨Rect.unit ![s, 0, 0] S1x528x256.size i0, p⟩ :: L)
        (Rect.withinL (Rect.unit (s := S2x528x512) ![s, 0, 0] S1x528x512.size i2)
          (LoadRect.consLift (Rect.unit (s := S528x512) ![o, 0] S512x512.size i3).toLoadRect ![1, 528, 512] h0 h1) h2))
      = rows o ho p q := by
  funext y
  have key : ∀ z : (Rect.withinL (Rect.unit (s := S2x528x512) ![s, 0, 0] S1x528x512.size i2) (LoadRect.consLift (Rect.unit (s := S528x512) ![o, 0] S512x512.size i3).toLoadRect ![1, 528, 512] h0 h1) h2).shape.Idx,
      (z 0).val = 0 → (z 1).val = (y 0).val → (z 2).val = (y 1).val →
      v.readCov (⟨Rect.unit ![s, 0, 256] S1x528x256.size i1, q⟩ :: ⟨Rect.unit ![s, 0, 0] S1x528x256.size i0, p⟩ :: L)
        (Rect.withinL (Rect.unit (s := S2x528x512) ![s, 0, 0] S1x528x512.size i2) (LoadRect.consLift (Rect.unit (s := S528x512) ![o, 0] S512x512.size i3).toLoadRect ![1, 528, 512] h0 h1) h2) z = rows o ho p q y := by
    intro z z0 z1 z2
    rw [View.readCov_eq_canon']
    refine canon_two s o ho i1 i0 p q L _ y ?_ ?_ ?_
    · rw [LoadRect.idx_apply]; show s + 0 + 1 * (z 0).val = s; omega
    · rw [LoadRect.idx_apply]; show 0 + o + 1 * (z 1).val = o + (y 0).val; omega
    · rw [LoadRect.idx_apply]; show 0 + 0 + 1 * (z 2).val = (y 1).val; omega
  have e := squeeze (Rect.unit (s := S528x512) ![o, 0] S512x512.size i3).toLoadRect ![1, 528, 512] h0 h1 hR y
  refine key (Shape.reshapeEquiv hR y) ?_ ?_ ?_
  · rw [e]; rfl
  · rw [e]; rfl
  · rw [e]; rfl

/-- The zero offsets of a matrix. -/
theorem hz2 : (![0, 0] : Fin 2 → Nat) = fun _ => 0 := funext fun a => by fin_cases a <;> rfl
/-- The zero offsets of a block of a batch. -/
theorem hz3 : (![0, 0, 0] : Fin 3 → Nat) = fun _ => 0 := funext fun a => by fin_cases a <;> rfl

/-- The `k`-th of eleven blocks of 256 columns lies inside 2816 columns. -/
theorem join_bound (k : Fin 11) : ∀ a, (![0, 256 * k.val] : Fin 2 → ℕ) a + S512x256.size a ≤ S512x2816.size a := by
  intro a
  fin_cases a
  · exact le_refl 512
  · show 256 * k.val + 256 ≤ 2816; omega

/-- The canon of eleven blocks side by side, the last stored first. -/
theorem canon_join (p : Fin 11 → FVec F S512x256 .bf16) (y : S512x2816.Idx) :
    View.canon (List.ofFn fun k : Fin 11 => (⟨Rect.unit ![0, 256 * k.rev.val] S512x256.size (join_bound k.rev), p k.rev⟩ :
      View.Piece (Elt F) S512x2816 .bf16)) y = join p y := by
  have b0 : (y 0).val < 512 := (y 0).isLt
  have b1 : (y 1).val < 2816 := (y 1).isLt
  refine View.canon_ofFn_unit_eq_of_forall (S := S512x2816) (Val := Elt F) (e := .bf16) (fun k : Fin 11 => ![0, 256 * k.rev.val]) S512x256.size (fun k => join_bound k.rev)
    (fun k => p k.rev) y _ ?_ ?_
  · refine ⟨Fin.rev ⟨(y 1).val / 256, by omega⟩, fun a => ?_⟩
    simp only [Fin.rev_rev]
    fin_cases a
    · exact ⟨Nat.zero_le _, by show (y 0).val < 0 + 512; omega⟩
    · exact ⟨by show 256 * ((y 1).val / 256) ≤ (y 1).val; omega, by show (y 1).val < 256 * ((y 1).val / 256) + 256; omega⟩
  · intro k' x hx
    have e0 : (y 0).val = 0 + (x 0).val := hx 0
    have e1 : (y 1).val = 256 * k'.rev.val + (x 1).val := hx 1
    clear hx
    show p k'.rev x = _
    generalize k'.rev = k at e1 ⊢
    have l1 : (x 1).val < 256 := (x 1).isLt
    unfold join
    have ek : (⟨(y 1).val / 256, by omega⟩ : Fin 11) = k := Fin.ext (by show (y 1).val / 256 = k.val; omega)
    rw [ek]
    refine congrArg (p k) (funext fun a => Fin.ext ?_)
    fin_cases a
    · show (x 0).val = (y 0).val; omega
    · show (x 1).val = (y 1).val % 256; omega

/-- A load of the whole buffer filled by eleven stores side by side. -/
theorem read_join {sig' : RefSig} {κ : Kind} {sp : Space} (v : View sig' κ sp S512x2816 .bf16)
    (p0 p1 p2 p3 p4 p5 p6 p7 p8 p9 p10 : FVec F S512x256 .bf16)
    (i0 : ∀ a, (![0, 0] : Fin 2 → ℕ) a + S512x256.size a ≤ S512x2816.size a) (i1 : ∀ a, (![0, 256] : Fin 2 → ℕ) a + S512x256.size a ≤ S512x2816.size a) (i2 : ∀ a, (![0, 512] : Fin 2 → ℕ) a + S512x256.size a ≤ S512x2816.size a) (i3 : ∀ a, (![0, 768] : Fin 2 → ℕ) a + S512x256.size a ≤ S512x2816.size a) (i4 : ∀ a, (![0, 1024] : Fin 2 → ℕ) a + S512x256.size a ≤ S512x2816.size a) (i5 : ∀ a, (![0, 1280] : Fin 2 → ℕ) a + S512x256.size a ≤ S512x2816.size a) (i6 : ∀ a, (![0, 1536] : Fin 2 → ℕ) a + S512x256.size a ≤ S512x2816.size a) (i7 : ∀ a, (![0, 1792] : Fin 2 → ℕ) a + S512x256.size a ≤ S512x2816.size a) (i8 : ∀ a, (![0, 2048] : Fin 2 → ℕ) a + S512x256.size a ≤ S512x2816.size a) (i9 : ∀ a, (![0, 2304] : Fin 2 → ℕ) a + S512x256.size a ≤ S512x2816.size a) (i10 : ∀ a, (![0, 2560] : Fin 2 → ℕ) a + S512x256.size a ≤ S512x2816.size a)
    (i : ∀ a, (![0, 0] : Fin 2 → ℕ) a + S512x2816.size a ≤ S512x2816.size a) :
    v.readCov (Val := Elt F) [⟨Rect.unit ![0, 2560] S512x256.size i10, p10⟩, ⟨Rect.unit ![0, 2304] S512x256.size i9, p9⟩, ⟨Rect.unit ![0, 2048] S512x256.size i8, p8⟩, ⟨Rect.unit ![0, 1792] S512x256.size i7, p7⟩, ⟨Rect.unit ![0, 1536] S512x256.size i6, p6⟩, ⟨Rect.unit ![0, 1280] S512x256.size i5, p5⟩, ⟨Rect.unit ![0, 1024] S512x256.size i4, p4⟩, ⟨Rect.unit ![0, 768] S512x256.size i3, p3⟩, ⟨Rect.unit ![0, 512] S512x256.size i2, p2⟩, ⟨Rect.unit ![0, 256] S512x256.size i1, p1⟩, ⟨Rect.unit ![0, 0] S512x256.size i0, p0⟩] (Rect.unit (s := S512x2816) ![0, 0] S512x2816.size i).toLoadRect
      = join ![p0, p1, p2, p3, p4, p5, p6, p7, p8, p9, p10] := by
  rw [View.readCov_eq_canon']
  funext y
  have e : (Rect.unit (s := S512x2816) ![0, 0] S512x2816.size i).toLoadRect.idx y = y := by
    funext a; apply Fin.ext; rw [LoadRect.idx_apply]
    fin_cases a
    · show 0 + 1 * (y 0).val = (y 0).val; omega
    · show 0 + 1 * (y 1).val = (y 1).val; omega
  rw [e]
  exact canon_join ![p0, p1, p2, p3, p4, p5, p6, p7, p8, p9, p10] y

/-! ## The block's parts -/

/-- The rows of the output projection's weight that the attention's channels take. -/
def woA (x12 : Vec F S1024x1024 .bf16) : Vec F S512x1024 .bf16 := View.ld x12 (Rect.unit (s := S1024x1024) ![0, 0] S512x1024.size (by decide))
/-- The rows of the output projection's weight that the second mixer's channels take. -/
def woB (x12 : Vec F S1024x1024 .bf16) : Vec F S256x1024 .bf16 := View.ld x12 (Rect.unit (s := S1024x1024) ![512, 0] S256x1024.size (by decide))
/-- The rows of the output projection's weight that the third mixer's channels take. -/
def woC (x12 : Vec F S1024x1024 .bf16) : Vec F S256x1024 .bf16 := View.ld x12 (Rect.unit (s := S1024x1024) ![768, 0] S256x1024.size (by decide))

/-- The residual stream after the mixers, over the tile and eight rows at either end. -/
def xext (x0 : Vec F S1x8x1024 .f32) (x1 : Vec F S1x512x1024 .f32) (x2 : Vec F S1x8x1024 .f32) (x3 : Vec F S1x16x512 .bf16) (x4 : Vec F S1x512x512 .bf16) (x5 : Vec F S1x16x512 .bf16) (x6 : Vec F S1x16x256 .bf16) (x7 : Vec F S1x512x256 .bf16) (x8 : Vec F S1x16x256 .bf16) (x9 : Vec F S1x16x256 .bf16) (x10 : Vec F S1x512x256 .bf16) (x11 : Vec F S1x16x256 .bf16) (x12 : Vec F S1024x1024 .bf16) (x13 : Vec F S1x1x1024 .f32) : FVec F S528x1024 .f32 :=
  k0_pay3 (k0_pay2 x3 x5 x4 (woA x12) x6 x8 x7 (woB x12)) x9 x11 x10 (woC x12) x0 x1 x2 x13

/-- The modulated norm over the same rows, zero beyond the sequence's ends. -/
def xe (i : grid0.Coords) (r : FVec F S528x1024 .f32) (x14 : Vec F S1x1024 .f32) (x15 : Vec F S1x1x1024 .f32) (x16 : Vec F S1x1x1024 .f32) : FVec F S528x1024 .bf16 :=
  k0_pay5 (BitVec.ofNat 32 (i 1).val) r (iota .tc S528x1 32 [0] iota_S528x1_d0_w32) (k0_pay4 (BitVec.ofNat 32 (i 1).val)) x14 x15 x16

/-- The `n`-th 256 columns lie inside 5632 columns, for any number of rows. -/
theorem cols_bound (d : ℕ) (n : Fin 22) : ∀ a, (![0, 256 * n.val] : Fin 2 → ℕ) a + (![d, 256] : Fin 2 → ℕ) a ≤ (![d, 5632] : Fin 2 → ℕ) a := by
  intro a
  fin_cases a
  · exact (Nat.zero_add d).le
  · show 256 * n.val + 256 ≤ 5632; omega

/-- Where the second half's block `n` lies. -/
def hi (n : Fin 11) : Fin 22 := ⟨11 + n.val, by omega⟩
/-- Where the first half's block `n` lies. -/
def lo (n : Fin 11) : Fin 22 := ⟨n.val, by omega⟩

/-- A block of 256 columns of the up projection. -/
def up (e : FVec F S528x1024 .bf16) (x18 : Vec F S1024x5632 .bf16) (n : Fin 22) : FVec F S1x528x256 .f32 :=
  k0_pay7 e (View.ld x18 (Rect.unit (s := S1024x5632) ![0, 256 * n.val] S1024x256.size (cols_bound 1024 n)))
/-- A block of 256 columns of the convolution's weights. -/
def cw (x19 : Vec F S3x5632 .f32) (n : Fin 22) : Vec F S3x256 .f32 :=
  View.ld x19 (Rect.unit (s := S3x5632) ![0, 256 * n.val] S3x256.size (cols_bound 3 n))
/-- A block of 256 columns of the convolution's bias. -/
def cb (x20 : Vec F S1x5632 .f32) (n : Fin 22) : Vec F S1x256 .f32 :=
  View.ld x20 (Rect.unit (s := S1x5632) ![0, 256 * n.val] S1x256.size (cols_bound 1 n))

/-- A block of 256 columns of the gated activations. -/
def act (e : FVec F S528x1024 .bf16) (x18 : Vec F S1024x5632 .bf16) (x19 : Vec F S3x5632 .f32) (x20 : Vec F S1x5632 .f32) (n : Fin 11) : FVec F S512x256 .bf16 :=
  k0_pay11 (cw x19 (lo n)) (cw x19 (hi n)) (cb x20 (lo n)) (cb x20 (hi n))
    (rows 7 (by decide) (up e x18 (lo n)) (up e x18 (hi n))) (rows 8 (by decide) (up e x18 (lo n)) (up e x18 (hi n)))
    (rows 9 (by decide) (up e x18 (lo n)) (up e x18 (hi n)))

/-- What the block's last product is added to and normed into. -/
def last (r : FVec F S528x1024 .f32) (a : FVec F S512x2816 .bf16) (x17 : Vec F S1x1x1024 .f32) (x21 : Vec F S2816x1024 .bf16) (x22 : Vec F S1x1024 .f32) : FVec F S1x512x1024 .f32 :=
  k0_pay1 (k0_pay66 (k0_pay6 r) a x21 x17) (k0_pay67 (k0_pay6 r) a x21 x17) x22

/-- What a grid point leaves in its output block: the last step, from the rows around the tile and the gated channels. -/
theorem out_eq (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x16x512 .bf16) (harg5 : arg5.IsWhole) (arg6 : Memref sig .tc .vmem S1x512x512 .bf16) (harg6 : arg6.IsWhole) (arg7 : Memref sig .tc .vmem S1x16x512 .bf16) (harg7 : arg7.IsWhole) (arg8 : Memref sig .tc .vmem S1x16x256 .bf16) (harg8 : arg8.IsWhole) (arg9 : Memref sig .tc .vmem S1x512x256 .bf16) (harg9 : arg9.IsWhole) (arg10 : Memref sig .tc .vmem S1x16x256 .bf16) (harg10 : arg10.IsWhole) (arg11 : Memref sig .tc .vmem S1x16x256 .bf16) (harg11 : arg11.IsWhole) (arg12 : Memref sig .tc .vmem S1x512x256 .bf16) (harg12 : arg12.IsWhole) (arg13 : Memref sig .tc .vmem S1x16x256 .bf16) (harg13 : arg13.IsWhole) (arg14 : Memref sig .tc .vmem S1024x1024 .bf16) (harg14 : arg14.IsWhole) (arg15 : Memref sig .tc .vmem S1x1x1024 .f32) (harg15 : arg15.IsWhole) (arg16 : Memref sig .tc .vmem S1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1024x5632 .bf16) (harg20 : arg20.IsWhole) (arg21 : Memref sig .tc .vmem S3x5632 .f32) (harg21 : arg21.IsWhole) (arg22 : Memref sig .tc .vmem S1x5632 .f32) (harg22 : arg22.IsWhole) (arg23 : Memref sig .tc .vmem S2816x1024 .bf16) (harg23 : arg23.IsWhole) (arg24 : Memref sig .tc .vmem S1x1024 .f32) (harg24 : arg24.IsWhole) (arg25 : Memref sig .tc .vmem S1x512x1024 .f32) (harg25 : arg25.IsWhole) (arg26 : Memref sig .tc .vmem S528x1024 .bf16) (harg26 : arg26.IsWhole) (arg27 : Memref sig .tc .vmem S2x528x512 .f32) (harg27 : arg27.IsWhole) (arg28 : Memref sig .tc .vmem S512x2816 .bf16) (harg28 : arg28.IsWhole)     (x0 : Vec F S1x8x1024 .f32) (x1 : Vec F S1x512x1024 .f32) (x2 : Vec F S1x8x1024 .f32) (x3 : Vec F S1x16x512 .bf16) (x4 : Vec F S1x512x512 .bf16) (x5 : Vec F S1x16x512 .bf16) (x6 : Vec F S1x16x256 .bf16) (x7 : Vec F S1x512x256 .bf16) (x8 : Vec F S1x16x256 .bf16) (x9 : Vec F S1x16x256 .bf16) (x10 : Vec F S1x512x256 .bf16) (x11 : Vec F S1x16x256 .bf16) (x12 : Vec F S1024x1024 .bf16) (x13 : Vec F S1x1x1024 .f32) (x14 : Vec F S1x1024 .f32) (x15 : Vec F S1x1x1024 .f32) (x16 : Vec F S1x1x1024 .f32) (x17 : Vec F S1x1x1024 .f32) (x18 : Vec F S1024x5632 .bf16) (x19 : Vec F S3x5632 .f32) (x20 : Vec F S1x5632 .f32) (x21 : Vec F S2816x1024 .bf16) (x22 : Vec F S1x1024 .f32) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22
      = last (xext x0 x1 x2 x3 x4 x5 x6 x7 x8 x9 x10 x11 x12 x13) (join (act (xe i (xext x0 x1 x2 x3 x4 x5 x6 x7 x8 x9 x10 x11 x12 x13) x14 x15 x16) x18 x19 x20)) x17 x21 x22 := by
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x8x1024) hz3, View.ld_unit_zero (S := S1x512x1024) hz3, View.ld_unit_zero (S := S1x16x512) hz3, View.ld_unit_zero (S := S1x512x512) hz3, View.ld_unit_zero (S := S1x16x256) hz3, View.ld_unit_zero (S := S1x512x256) hz3, View.ld_unit_zero (S := S1x1x1024) hz3, View.ld_unit_zero (S := S1x1024) hz2, View.ld_unit_zero (S := S2816x1024) hz2,
    View.readCov_unit_zero (S := S528x1024) _ hz2]
  simp only [read_skip _ 0 1 (by decide), read_skip _ 1 0 (by decide)]
  simp only [read_rows _ 0 7 (by decide), read_rows _ 0 8 (by decide), read_rows _ 0 9 (by decide), read_rows _ 1 7 (by decide),
    read_rows _ 1 8 (by decide), read_rows _ 1 9 (by decide)]
  rw [read_join]
  have hj : (![act (xe i (xext x0 x1 x2 x3 x4 x5 x6 x7 x8 x9 x10 x11 x12 x13) x14 x15 x16) x18 x19 x20 0, act (xe i (xext x0 x1 x2 x3 x4 x5 x6 x7 x8 x9 x10 x11 x12 x13) x14 x15 x16) x18 x19 x20 1, act (xe i (xext x0 x1 x2 x3 x4 x5 x6 x7 x8 x9 x10 x11 x12 x13) x14 x15 x16) x18 x19 x20 2, act (xe i (xext x0 x1 x2 x3 x4 x5 x6 x7 x8 x9 x10 x11 x12 x13) x14 x15 x16) x18 x19 x20 3, act (xe i (xext x0 x1 x2 x3 x4 x5 x6 x7 x8 x9 x10 x11 x12 x13) x14 x15 x16) x18 x19 x20 4, act (xe i (xext x0 x1 x2 x3 x4 x5 x6 x7 x8 x9 x10 x11 x12 x13) x14 x15 x16) x18 x19 x20 5, act (xe i (xext x0 x1 x2 x3 x4 x5 x6 x7 x8 x9 x10 x11 x12 x13) x14 x15 x16) x18 x19 x20 6, act (xe i (xext x0 x1 x2 x3 x4 x5 x6 x7 x8 x9 x10 x11 x12 x13) x14 x15 x16) x18 x19 x20 7, act (xe i (xext x0 x1 x2 x3 x4 x5 x6 x7 x8 x9 x10 x11 x12 x13) x14 x15 x16) x18 x19 x20 8, act (xe i (xext x0 x1 x2 x3 x4 x5 x6 x7 x8 x9 x10 x11 x12 x13) x14 x15 x16) x18 x19 x20 9, act (xe i (xext x0 x1 x2 x3 x4 x5 x6 x7 x8 x9 x10 x11 x12 x13) x14 x15 x16) x18 x19 x20 10] : Fin 11 → FVec F S512x256 .bf16)
      = act (xe i (xext x0 x1 x2 x3 x4 x5 x6 x7 x8 x9 x10 x11 x12 x13) x14 x15 x16) x18 x19 x20 := by
    funext k
    fin_cases k <;> rfl
  rw [← hj]
  rfl

end Cert.OutFfnIdeal.Body

end
-- ==== Proof.Ffn.Spec.lean ====
module

public import proofs.«01_k».proof.OutFfnIdeal
public import Idealize.ShloMosaic.Lib.Pipeline.ValueKit
public import Idealize.ShloMosaic.Lib.Pointwise

/-! # The output projection, the residual step and the gated feed-forward, row by row

`result` is what both programs compute for one batch: from the rows of the residual stream after the mixers (`res`), the
modulated norm and up projection of every row (`lift`, zero before the first row and after the last), three neighbouring
rows of it weighted channel by channel (`conv`), gated (`gate`), projected down and added to the row, and normed (`last`). -/

@[expose] public section

set_option maxRecDepth 16384

noncomputable section

namespace Cert.Ffn

open Idealize.ShloMosaic Cert.OutFfnIdeal

/-- The weights, and one batch's modulation rows. -/
structure Weights where
  /-- The output projection. -/
  wo : Fin 1024 → Fin 1024 → EReal
  /-- The gate on the mixers' step. -/
  g1 : Fin 1024 → EReal
  /-- The gain of the feed-forward's norm. -/
  ng : Fin 1024 → EReal
  /-- The modulation's scale. -/
  sc : Fin 1024 → EReal
  /-- The modulation's shift. -/
  sh : Fin 1024 → EReal
  /-- The gate on the feed-forward's step. -/
  g2 : Fin 1024 → EReal
  /-- The up projection. -/
  wu : Fin 1024 → Fin 5632 → EReal
  /-- The three taps of the convolution. -/
  cw : Fin 3 → Fin 5632 → EReal
  /-- The convolution's bias. -/
  cb : Fin 5632 → EReal
  /-- The down projection. -/
  wd : Fin 2816 → Fin 1024 → EReal
  /-- The gain of the last norm. -/
  fg : Fin 1024 → EReal

variable (w : Weights)

/-- Three mixers' channels, projected. -/
def mixed (a : Fin 512 → EReal) (p q : Fin 256 → EReal) (e : Fin 1024) : EReal :=
  (∑ k, a k * w.wo ⟨0 + k.val, by omega⟩ e) + (∑ k, p k * w.wo ⟨512 + k.val, by omega⟩ e) + ∑ k, q k * w.wo ⟨768 + k.val, by omega⟩ e

/-- A row of the residual stream after the mixers. -/
def res (x : Fin 1024 → EReal) (a : Fin 512 → EReal) (p q : Fin 256 → EReal) (e : Fin 1024) : EReal :=
  x e + w.g1 e * mixed w a p q e

/-- One over the root of a row's mean square. -/
def inv (f : Fin 1024 → EReal) : EReal :=
  Ideal.rsqrt (Ideal.div (∑ k, f k * f k) (Ideal.ofBits .f32 0x44800000#32) + Ideal.ofBits .f32 0x358637BD#32)

/-- A row normed and modulated. -/
def modnorm (f : Fin 1024 → EReal) (e : Fin 1024) : EReal :=
  f e * inv f * w.ng e * (1 + w.sc e) + w.sh e

/-- A row projected up. -/
def up (f : Fin 1024 → EReal) (j : Fin 5632) : EReal := ∑ e, f e * w.wu e j

/-- The rows projected up, counted from one: zero at zero and past the last. -/
def lift (R : Fin 4096 → Fin 1024 → EReal) (p : ℕ) (j : Fin 5632) : EReal :=
  if h : 1 ≤ p ∧ p ≤ 4096 then up w (modnorm w (R ⟨p - 1, by omega⟩)) j else 0

/-- Three neighbouring rows, weighted channel by channel. -/
def conv (u v z : Fin 5632 → EReal) (j : Fin 5632) : EReal :=
  w.cb j + w.cw 0 j * u j + w.cw 1 j * v j + w.cw 2 j * z j

/-- The first half of the channels, through its logistic, times the second half. -/
def gate (u v z : Fin 5632 → EReal) (j : Fin 2816) : EReal :=
  conv w u v z ⟨j.val, by omega⟩ * Ideal.logistic (conv w u v z ⟨j.val, by omega⟩) * conv w u v z ⟨2816 + j.val, by omega⟩

/-- A row after the feed-forward's step. -/
def step (r : Fin 1024 → EReal) (a : Fin 2816 → EReal) (e : Fin 1024) : EReal := r e + w.g2 e * ∑ j, a j * w.wd j e

/-- The same, normed. -/
def last (r : Fin 1024 → EReal) (a : Fin 2816 → EReal) (e : Fin 1024) : EReal := step w r a e * inv (step w r a) * w.fg e

/-- The result at row `n`. -/
def result (R : Fin 4096 → Fin 1024 → EReal) (n : Fin 4096) (e : Fin 1024) : EReal :=
  last w (R n) (gate w (lift w R n.val) (lift w R (n.val + 1)) (lift w R (n.val + 2))) e

/-- The weights as the arrays passed hold them, with batch `b`'s rows of modulation. -/
def weights (x4 : S1024x1024.Idx → EReal) (x5 : S8x1x1024.Idx → EReal) (x6 : S1024.Idx → EReal) (x7 x8 x9 : S8x1x1024.Idx → EReal)
    (x10 : S1024x5632.Idx → EReal) (x11 : S3x5632.Idx → EReal) (x12 : S5632.Idx → EReal) (x13 : S2816x1024.Idx → EReal)
    (x14 : S1024.Idx → EReal) (b : Fin 8) : Weights where
  wo k e := x4 (ix2 k e)
  g1 e := x5 (ix3 b 0 e)
  ng e := x6 (ix1 e)
  sc e := x7 (ix3 b 0 e)
  sh e := x8 (ix3 b 0 e)
  g2 e := x9 (ix3 b 0 e)
  wu e j := x10 (ix2 e j)
  cw k j := x11 (ix2 k j)
  cb j := x12 (ix1 j)
  wd j e := x13 (ix2 j e)
  fg e := x14 (ix1 e)

/-- The residual stream of batch `b` after the mixers. -/
def stream (x0 : S8x4096x1024.Idx → EReal) (x1 : S8x4096x512.Idx → EReal) (x2 x3 : S8x4096x256.Idx → EReal) (b : Fin 8)
    (n : Fin 4096) : Fin 1024 → EReal :=
  res w (fun e => x0 (ix3 b n e)) (fun k => x1 (ix3 b n k)) (fun k => x2 (ix3 b n k)) (fun k => x3 (ix3 b n k))

/-- A tile's rows between eight before and eight after. -/
def cat3 {α : Type} (f : Fin 8 → α) (g : Fin 512 → α) (h : Fin 8 → α) (r : Fin 528) : α :=
  if h0 : r.val < 8 then f ⟨r.val, h0⟩ else if h1 : r.val - 8 < 512 then g ⟨r.val - 8, h1⟩ else h ⟨r.val - 8 - 512, by omega⟩

/-- A tile's rows between its neighbours' nearest, where they lie inside the sequence, are rows of the sequence. -/
theorem cat3_rows {α : Type} (X : Fin 4096 → α) (s : ℕ) (hs : s < 8) (f : Fin 8 → α) (g : Fin 512 → α) (h : Fin 8 → α)
    (hf : ∀ (h1 : 1 ≤ s) (i : Fin 8), f i = X ⟨512 * s - 8 + i.val, by omega⟩)
    (hg : ∀ i : Fin 512, g i = X ⟨512 * s + i.val, by omega⟩)
    (hh : ∀ (h7 : s < 7) (i : Fin 8), h i = X ⟨512 * s + 512 + i.val, by omega⟩)
    (r : Fin 528) (h0 : 8 ≤ 512 * s + r.val) (h1 : 512 * s + r.val - 8 < 4096) :
    cat3 f g h r = X ⟨512 * s + r.val - 8, h1⟩ := by
  unfold cat3
  split_ifs with a b
  · rw [hf (by omega)]
    exact congrArg X (Fin.ext (by show 512 * s - 8 + r.val = 512 * s + r.val - 8; omega))
  · rw [hg]
    exact congrArg X (Fin.ext (by show 512 * s + (r.val - 8) = 512 * s + r.val - 8; omega))
  · rw [hh (by omega)]
    exact congrArg X (Fin.ext (by show 512 * s + 512 + (r.val - 8 - 512) = 512 * s + r.val - 8; omega))

/-- The word of one. -/
theorem word_one : Ideal.ofBits .f32 0x3F800000#32 = 1 := by
  rw [← EReal.coe_one]; simp [Ideal.ofBits, Ideal.ieee, -EReal.coe_mul, -EReal.coe_one]; norm_num

end Cert.Ffn

end
-- ==== Proof.Ffn.Read.lean ====
module

public import proofs.«01_k».proof.Proof.Ffn.Body
public import proofs.«01_k».proof.Proof.Ffn.Spec
public import Idealize.ShloMosaic.Lib.Pipeline.ValueKit
public import Idealize.ShloMosaic.Lib.Pointwise
public import Idealize.ShloMosaic.Lib.ValueIdx

/-! # The block's parts, read at an index -/

@[expose] public section

set_option maxRecDepth 16384

noncomputable section

namespace Cert.OutFfnIdeal.Body

open Cert.OutFfnIdeal Cert.OutFfnIdeal.Gen Idealize.ShloMosaic Idealize.ShloMosaic.TcCoe Idealize.SL.Sem
open Cert.Ffn (cat3)

/-- The first two mixers' channels, projected. -/
theorem pay2_apply (p : Vec Ideal S1x16x512 .bf16) (n : Vec Ideal S1x16x512 .bf16) (x : Vec Ideal S1x512x512 .bf16) (w : Vec Ideal S512x1024 .bf16)
    (p' : Vec Ideal S1x16x256 .bf16) (n' : Vec Ideal S1x16x256 .bf16) (x' : Vec Ideal S1x512x256 .bf16) (w' : Vec Ideal S256x1024 .bf16)
    (r : Fin 528) (e : Fin 1024) :
    k0_pay2 p n x w p' n' x' w' (ix2 r e)
      = (∑ k : Fin 512, cat3 (fun i => p (ix3 0 (⟨8 + i.val, by omega⟩ : Fin 16) k)) (fun i => x (ix3 0 i k))
          (fun i => n (ix3 0 (⟨0 + i.val, by omega⟩ : Fin 16) k)) r * w (ix2 k e))
        + ∑ k : Fin 256, cat3 (fun i => p' (ix3 0 (⟨8 + i.val, by omega⟩ : Fin 16) k)) (fun i => x' (ix3 0 i k))
          (fun i => n' (ix3 0 (⟨0 + i.val, by omega⟩ : Fin 16) k)) r * w' (ix2 k e) := by
  pointwise [k0_pay2]
  rfl

/-- The residual stream after the mixers. -/
theorem pay3_apply (a : FVec Ideal S528x1024 .f32) (p : Vec Ideal S1x16x256 .bf16) (n : Vec Ideal S1x16x256 .bf16) (x : Vec Ideal S1x512x256 .bf16)
    (w : Vec Ideal S256x1024 .bf16) (p' : Vec Ideal S1x8x1024 .f32) (x' : Vec Ideal S1x512x1024 .f32) (n' : Vec Ideal S1x8x1024 .f32)
    (g : Vec Ideal S1x1x1024 .f32) (r : Fin 528) (e : Fin 1024) :
    k0_pay3 a p n x w p' x' n' g (ix2 r e)
      = cat3 (fun i => p' (ix3 0 i e)) (fun i => x' (ix3 0 i e)) (fun i => n' (ix3 0 i e)) r
        + g (ix3 0 0 e) * (a (ix2 r e)
          + ∑ k : Fin 256, cat3 (fun i => p (ix3 0 (⟨8 + i.val, by omega⟩ : Fin 16) k)) (fun i => x (ix3 0 i k))
          (fun i => n (ix3 0 (⟨0 + i.val, by omega⟩ : Fin 16) k)) r * w (ix2 k e)) := by
  pointwise [k0_pay3]
  rfl

/-- The rows kept of the residual stream. -/
theorem pay6_apply (f : FVec Ideal S528x1024 .f32) (r : Fin 512) (e : Fin 1024) :
    k0_pay6 f (ix2 r e) = f (ix2 (⟨8 + r.val, by omega⟩ : Fin 528) e) := by
  pointwise [k0_pay6]

/-- A block of 256 columns projected up. -/
theorem pay7_apply (f : FVec Ideal S528x1024 .bf16) (w : Vec Ideal S1024x256 .bf16) (r : Fin 528) (j : Fin 256) :
    k0_pay7 f w (ix3 0 r j) = ∑ e : Fin 1024, f (ix2 r e) * w (ix2 e j) := by
  pointwise [k0_pay7]

/-- The modulated norm, zero beyond the sequence's ends. -/
theorem xe_apply (i : grid0.Coords) (f : FVec Ideal S528x1024 .f32) (g : Vec Ideal S1x1024 .f32) (s : Vec Ideal S1x1x1024 .f32)
    (h : Vec Ideal S1x1x1024 .f32) (r : Fin 528) (e : Fin 1024) :
    xe i f g s h (ix2 r e) = if (r.val < 8 ∧ (i 1).val = 0) ∨ (520 ≤ r.val ∧ (i 1).val = 7) then 0
      else f (ix2 r e) * Ffn.inv (fun k => f (ix2 r k)) * g (ix2 0 e) * (1 + s (ix3 0 0 e)) + h (ix3 0 0 e) := by
  have hi : (i 1).val < 8 := (i 1).isLt
  pointwise [xe, k0_pay5, k0_pay4]
  word_cmp
  rfl

/-- The gated activations of a block, from three rows of the up projection. -/
theorem pay11_apply (w0 w1 : Vec Ideal S3x256 .f32) (b0 b1 : Vec Ideal S1x256 .f32) (u v z : FVec Ideal S512x512 .f32)
    (r : Fin 512) (j : Fin 256) :
    k0_pay11 w0 w1 b0 b1 u v z (ix2 r j)
      = (b0 (ix2 0 j) + w0 (ix2 0 j) * u (ix2 r (⟨0 + j.val, by omega⟩ : Fin 512)) + w0 (ix2 1 j) * v (ix2 r (⟨0 + j.val, by omega⟩ : Fin 512)) + w0 (ix2 2 j) * z (ix2 r (⟨0 + j.val, by omega⟩ : Fin 512)))
        * Ideal.logistic (b0 (ix2 0 j) + w0 (ix2 0 j) * u (ix2 r (⟨0 + j.val, by omega⟩ : Fin 512)) + w0 (ix2 1 j) * v (ix2 r (⟨0 + j.val, by omega⟩ : Fin 512)) + w0 (ix2 2 j) * z (ix2 r (⟨0 + j.val, by omega⟩ : Fin 512)))
        * (b1 (ix2 0 j) + w1 (ix2 0 j) * u (ix2 r (⟨256 + j.val, by omega⟩ : Fin 512)) + w1 (ix2 1 j) * v (ix2 r (⟨256 + j.val, by omega⟩ : Fin 512)) + w1 (ix2 2 j) * z (ix2 r (⟨256 + j.val, by omega⟩ : Fin 512))) := by
  pointwise [k0_pay11]

/-- What is written: the row after the feed-forward's step, normed. -/
theorem last_apply (W : Ffn.Weights) (f : FVec Ideal S528x1024 .f32) (a : FVec Ideal S512x2816 .bf16) (g : Vec Ideal S1x1x1024 .f32)
    (d : Vec Ideal S2816x1024 .bf16) (h : Vec Ideal S1x1024 .f32) (r : Fin 512) (e : Fin 1024)
    (hg : ∀ e, g (ix3 0 0 e) = W.g2 e) (hd : ∀ j e, d (ix2 j e) = W.wd j e) (hh : ∀ e, h (ix2 0 e) = W.fg e) :
    last f a g d h (ix3 0 r e)
      = Ffn.last W (fun e => f (ix2 (⟨8 + r.val, by omega⟩ : Fin 528) e)) (fun j => a (ix2 r j)) e := by
  pointwise [last, k0_pay1, k0_pay67, k0_pay66, pay6_apply, hg, hd, hh]
  rfl

/-- A block of the first columns, read through the rows it was stored in. -/
theorem rows_lo (o : ℕ) (ho : o + 512 ≤ 528) (p q : FVec Ideal S1x528x256 .f32) (r : Fin 512) (j : Fin 256) :
    rows o ho p q (ix2 r (⟨0 + j.val, by omega⟩ : Fin 512)) = p (ix3 0 (⟨o + r.val, by omega⟩ : Fin 528) j) := by
  have h : 0 + j.val < 256 := by omega
  refine (dif_pos h).trans (congrArg p ?_)
  show ix3 (0 : Fin 1) (⟨o + r.val, _⟩ : Fin 528) (⟨0 + j.val, _⟩ : Fin 256) = _
  exact congrArg _ (Fin.ext (Nat.zero_add _))

/-- A block of the last columns, read through the rows it was stored in. -/
theorem rows_hi (o : ℕ) (ho : o + 512 ≤ 528) (p q : FVec Ideal S1x528x256 .f32) (r : Fin 512) (j : Fin 256) :
    rows o ho p q (ix2 r (⟨256 + j.val, by omega⟩ : Fin 512)) = q (ix3 0 (⟨o + r.val, by omega⟩ : Fin 528) j) := by
  have h : ¬ 256 + j.val < 256 := by omega
  refine (dif_neg h).trans (congrArg q ?_)
  show ix3 (0 : Fin 1) (⟨o + r.val, _⟩ : Fin 528) (⟨256 + j.val - 256, _⟩ : Fin 256) = _
  exact congrArg _ (Fin.ext (Nat.add_sub_cancel_left _ _))

/-- A block of the taps. -/
theorem cw_apply (x : Vec Ideal S3x5632 .f32) (n : Fin 22) (k : Fin 3) (j : Fin 256) :
    cw x n (ix2 k j) = x (ix2 k (⟨256 * n.val + j.val, by omega⟩ : Fin 5632)) := by
  pointwise [cw]

/-- A block of the bias. -/
theorem cb_apply (x : Vec Ideal S1x5632 .f32) (n : Fin 22) (j : Fin 256) :
    cb x n (ix2 0 j) = x (ix2 0 (⟨256 * n.val + j.val, by omega⟩ : Fin 5632)) := by
  pointwise [cb]

/-- A block of 256 columns of the up projection. -/
theorem up_apply (f : FVec Ideal S528x1024 .bf16) (x : Vec Ideal S1024x5632 .bf16) (n : Fin 22) (r : Fin 528) (j : Fin 256) :
    up f x n (ix3 0 r j) = ∑ e : Fin 1024, f (ix2 r e) * x (ix2 e (⟨256 * n.val + j.val, by omega⟩ : Fin 5632)) := by
  rw [up, pay7_apply]
  refine Finset.sum_congr rfl fun e _ => congrArg (f (ix2 r e) * ·) ?_
  pointwise

/-- The gated activations of a tile. -/
theorem acc_apply (W : Ffn.Weights) (f : FVec Ideal S528x1024 .bf16) (x : Vec Ideal S1024x5632 .bf16) (k : Vec Ideal S3x5632 .f32)
    (b : Vec Ideal S1x5632 .f32) (hk : ∀ i j, k (ix2 i j) = W.cw i j) (hb : ∀ j, b (ix2 0 j) = W.cb j) (r : Fin 512)
    (u v z : Fin 5632 → EReal)
    (hu : ∀ j, ∑ e : Fin 1024, f (ix2 (⟨7 + r.val, by omega⟩ : Fin 528) e) * x (ix2 e j) = u j)
    (hv : ∀ j, ∑ e : Fin 1024, f (ix2 (⟨8 + r.val, by omega⟩ : Fin 528) e) * x (ix2 e j) = v j)
    (hz : ∀ j, ∑ e : Fin 1024, f (ix2 (⟨9 + r.val, by omega⟩ : Fin 528) e) * x (ix2 e j) = z j) (j : Fin 2816) :
    join (act f x k b) (ix2 r j) = Ffn.gate W u v z j := by
  show act f x k b ⟨j.val / 256, by omega⟩ (ix2 r (⟨j.val % 256, by omega⟩ : Fin 256)) = _
  have e0 : (⟨256 * (lo ⟨j.val / 256, by omega⟩).val + j.val % 256, by show 256 * (j.val / 256) + _ < _; omega⟩ : Fin 5632)
      = ⟨j.val, by omega⟩ := Fin.ext (by show 256 * (j.val / 256) + j.val % 256 = j.val; omega)
  have e1 : (⟨256 * (hi ⟨j.val / 256, by omega⟩).val + j.val % 256, by show 256 * (11 + j.val / 256) + _ < _; omega⟩ : Fin 5632)
      = ⟨2816 + j.val, by omega⟩ := Fin.ext (by show 256 * (11 + j.val / 256) + j.val % 256 = 2816 + j.val; omega)
  have rl (o : ℕ) (ho : o + 512 ≤ 528) (p q : FVec Ideal S1x528x256 .f32) := rows_lo o ho p q r ⟨j.val % 256, by omega⟩
  have rh (o : ℕ) (ho : o + 512 ≤ 528) (p q : FVec Ideal S1x528x256 .f32) := rows_hi o ho p q r ⟨j.val % 256, by omega⟩
  rw [act, pay11_apply]
  simp only [rl, rh, cw_apply, cb_apply, up_apply, e0, e1, hu, hv, hz, hk, hb]
  rfl

/-- The residual stream after the mixers, at a row of the tile or its surroundings. -/
theorem xext_apply (W : Ffn.Weights) (x0 : Vec Ideal S1x8x1024 .f32) (x1 : Vec Ideal S1x512x1024 .f32) (x2 : Vec Ideal S1x8x1024 .f32)
    (x3 : Vec Ideal S1x16x512 .bf16) (x4 : Vec Ideal S1x512x512 .bf16) (x5 : Vec Ideal S1x16x512 .bf16)
    (x6 : Vec Ideal S1x16x256 .bf16) (x7 : Vec Ideal S1x512x256 .bf16) (x8 : Vec Ideal S1x16x256 .bf16)
    (x9 : Vec Ideal S1x16x256 .bf16) (x10 : Vec Ideal S1x512x256 .bf16) (x11 : Vec Ideal S1x16x256 .bf16)
    (x12 : Vec Ideal S1024x1024 .bf16) (x13 : Vec Ideal S1x1x1024 .f32)
    (hw : ∀ k e, x12 (ix2 k e) = W.wo k e) (hg : ∀ e, x13 (ix3 0 0 e) = W.g1 e) (r : Fin 528) (e : Fin 1024) :
    xext x0 x1 x2 x3 x4 x5 x6 x7 x8 x9 x10 x11 x12 x13 (ix2 r e)
      = Ffn.res W
          (fun e => cat3 (fun i => x0 (ix3 0 i e)) (fun i => x1 (ix3 0 i e)) (fun i => x2 (ix3 0 i e)) r)
          (fun k => cat3 (fun i => x3 (ix3 0 (⟨8 + i.val, by omega⟩ : Fin 16) k)) (fun i => x4 (ix3 0 i k))
            (fun i => x5 (ix3 0 (⟨0 + i.val, by omega⟩ : Fin 16) k)) r)
          (fun k => cat3 (fun i => x6 (ix3 0 (⟨8 + i.val, by omega⟩ : Fin 16) k)) (fun i => x7 (ix3 0 i k))
            (fun i => x8 (ix3 0 (⟨0 + i.val, by omega⟩ : Fin 16) k)) r)
          (fun k => cat3 (fun i => x9 (ix3 0 (⟨8 + i.val, by omega⟩ : Fin 16) k)) (fun i => x10 (ix3 0 i k))
            (fun i => x11 (ix3 0 (⟨0 + i.val, by omega⟩ : Fin 16) k)) r) e := by
  have hA (k : Fin 512) : woA x12 (ix2 k e) = W.wo ⟨0 + k.val, by omega⟩ e := by
    rw [← hw]
    pointwise [woA]
  have hB (k : Fin 256) : woB x12 (ix2 k e) = W.wo ⟨512 + k.val, by omega⟩ e := by
    rw [← hw]
    pointwise [woB]
  have hC (k : Fin 256) : woC x12 (ix2 k e) = W.wo ⟨768 + k.val, by omega⟩ e := by
    rw [← hw]
    pointwise [woC]
  rw [xext, pay3_apply, pay2_apply]
  simp only [hA, hB, hC, hg]
  rfl

end Cert.OutFfnIdeal.Body

end
-- ==== Proof.Ffn.Host.lean ====
module

public import proofs.«01_k».proof.Proof.Ffn.Spec
public import proofs.«01_k».proof.Proof.Gen.OutFfnIdeal.Value
public import Idealize.ShloMosaic.Lib.Pipeline.ValueKit
public import Idealize.ShloMosaic.Lib.Pointwise
public import Idealize.ShloMosaic.Lib.ValueIdx
public import Idealize.ShloMosaic.Lib.StableHlo.RunRead

/-! # The arrays the feed-forward's windows read, and where each block lies -/

@[expose] public section

set_option maxRecDepth 16384

noncomputable section

namespace Cert.OutFfnIdeal.Blocks

open Cert.OutFfnIdeal Cert.OutFfnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The residual stream is read as it is passed. -/
theorem entry_x : V m c main_arg0 = m (c, main_arg0) := by
  after_reads_simp
/-- The attention's rows are read as they are passed. -/
theorem entry_att : V m c main_v0 = (m (c, main_arg1) : FVec Ideal S8x4096x512 .f32) := by
  after_reads_simp
  rfl
/-- The second mixer's rows are read as they are passed. -/
theorem entry_ml : V m c main_v1 = (m (c, main_arg2) : FVec Ideal S8x4096x256 .f32) := by
  after_reads_simp
  rfl
/-- The third mixer's rows are read as they are passed. -/
theorem entry_hy : V m c main_v2 = (m (c, main_arg3) : FVec Ideal S8x4096x256 .f32) := by
  after_reads_simp
  rfl
/-- The output projection is read as it is passed. -/
theorem entry_wo : V m c main_v3 = (m (c, main_arg4) : FVec Ideal S1024x1024 .f32) := by
  after_reads_simp
  rfl
/-- The gate on the mixers' step is read as it is passed. -/
theorem entry_g1 : V m c main_arg5 = m (c, main_arg5) := by
  after_reads_simp
/-- The norm's gain, as a row. -/
theorem entry_ng : V m c main_v4 = shapeCast S1x1024 (m (c, main_arg6) : FVec Ideal S1024 .f32) shapeCasts_S1024_S1x1024 := by
  after_reads_simp
  rfl
/-- The modulation's scale is read as it is passed. -/
theorem entry_sc : V m c main_arg7 = m (c, main_arg7) := by
  after_reads_simp
/-- The modulation's shift is read as it is passed. -/
theorem entry_sh : V m c main_arg8 = m (c, main_arg8) := by
  after_reads_simp
/-- The gate on the feed-forward's step is read as it is passed. -/
theorem entry_g2 : V m c main_arg9 = m (c, main_arg9) := by
  after_reads_simp
/-- The up projection is read as it is passed. -/
theorem entry_wu : V m c main_v5 = (m (c, main_arg10) : FVec Ideal S1024x5632 .f32) := by
  after_reads_simp
  rfl
/-- The taps are read as they are passed. -/
theorem entry_cw : V m c main_arg11 = m (c, main_arg11) := by
  after_reads_simp
/-- The convolution's bias, as a row. -/
theorem entry_cb : V m c main_v6 = shapeCast S1x5632 (m (c, main_arg12) : FVec Ideal S5632 .f32) shapeCasts_S5632_S1x5632 := by
  after_reads_simp
  rfl
/-- The down projection is read as it is passed. -/
theorem entry_wd : V m c main_v7 = (m (c, main_arg13) : FVec Ideal S2816x1024 .f32) := by
  after_reads_simp
  rfl
/-- The last norm's gain, as a row. -/
theorem entry_fg : V m c main_v8 = shapeCast S1x1024 (m (c, main_arg14) : FVec Ideal S1024 .f32) shapeCasts_S1024_S1x1024 := by
  after_reads_simp
  rfl

/-- The windows' block indices at grid point `t` = batch, tile of 512 rows: the rows before, the tile, the rows after. -/
theorem idx_rows : ∀ t : Fin cfg0.N,
    win0_0.index t = ![t.val / 8, 64 * (t.val % 8) - 1, 0] ∧ win0_1.index t = ![t.val / 8, t.val % 8, 0]
    ∧ win0_2.index t = ![t.val / 8, min (64 * (t.val % 8) + 64) 511, 0]
    ∧ win0_3.index t = ![t.val / 8, 32 * (t.val % 8) - 1, 0] ∧ win0_4.index t = ![t.val / 8, t.val % 8, 0]
    ∧ win0_5.index t = ![t.val / 8, min (32 * (t.val % 8) + 32) 255, 0]
    ∧ win0_6.index t = ![t.val / 8, 32 * (t.val % 8) - 1, 0] ∧ win0_7.index t = ![t.val / 8, t.val % 8, 0]
    ∧ win0_8.index t = ![t.val / 8, min (32 * (t.val % 8) + 32) 255, 0]
    ∧ win0_9.index t = ![t.val / 8, 32 * (t.val % 8) - 1, 0] ∧ win0_10.index t = ![t.val / 8, t.val % 8, 0]
    ∧ win0_11.index t = ![t.val / 8, min (32 * (t.val % 8) + 32) 255, 0] :=
  (by decide +kernel : ∀ t : Fin grid0.N, _)

/-- The windows' block indices of the weights, the batch's rows and the result. -/
theorem idx_rest : ∀ t : Fin cfg0.N,
    win0_12.index t = ![0, 0] ∧ win0_13.index t = ![t.val / 8, 0, 0] ∧ win0_14.index t = ![0, 0]
    ∧ win0_15.index t = ![t.val / 8, 0, 0] ∧ win0_16.index t = ![t.val / 8, 0, 0] ∧ win0_17.index t = ![t.val / 8, 0, 0]
    ∧ win0_18.index t = ![0, 0] ∧ win0_19.index t = ![0, 0] ∧ win0_20.index t = ![0, 0] ∧ win0_21.index t = ![0, 0]
    ∧ win0_22.index t = ![0, 0] ∧ win0_23.index t = ![t.val / 8, t.val % 8, 0] :=
  (by decide +kernel : ∀ t : Fin grid0.N, _)

/-- The second coordinate of a grid point is its tile. -/
theorem tile : ∀ t : Fin cfg0.N, (grid0.coords t 1).val = t.val % 8 :=
  (by decide +kernel : ∀ t : Fin grid0.N, _)

/-- There are 64 grid points. -/
theorem lt (t : Fin cfg0.N) : t.val < 64 := t.isLt

end Cert.OutFfnIdeal.Blocks

end
-- ==== Proof.Ffn.Blocks.lean ====
module

public import proofs.«01_k».proof.Proof.Ffn.Read
public import proofs.«01_k».proof.Proof.Ffn.Host
public import Idealize.ShloMosaic.Lib.Pipeline.ValueKit
public import Idealize.ShloMosaic.Lib.Claim

/-! # The feed-forward's blocks, and its result array -/

@[expose] public section

set_option maxRecDepth 16384

noncomputable section

namespace Cert.OutFfnIdeal.Blocks

open Cert.OutFfnIdeal Cert.OutFfnIdeal.Gen Cert.OutFfnIdeal.Body Idealize.ShloMosaic Idealize.ShloMosaic.TcCoe Idealize.SL.Sem
open Idealize.ShloMosaic.Pipeline (Dat)
open Cert.Ffn (cat3)

variable (m : (ℓ : Loc nD τ sig) → Buf (Elt Ideal) ℓ) (c : Dev nD)

/-- The batch of a grid point. -/
def bat (t : Fin cfg0.N) : Fin 8 := ⟨t.val / 8, by have := lt t; omega⟩

/-- Where the residual stream's rows before the tile of a grid point lie in their array. -/
theorem read_0 (X : FVec Ideal S8x4096x1024 .f32) (t : Fin cfg0.N) (i : Fin 8) (e : Fin 1024) :
    ((cfg0.win 0).blk t).view.read (Elt Ideal) X (ix3 0 i e) = X (ix3 (bat t) (⟨8 * (64 * (t.val % 8) - 1) + i.val, by have := lt t; omega⟩ : Fin 4096) e) := by
  blk_ext [idx_rows t, bat]

/-- Where the residual stream's rows of the tile of a grid point lie in their array. -/
theorem read_1 (X : FVec Ideal S8x4096x1024 .f32) (t : Fin cfg0.N) (i : Fin 512) (e : Fin 1024) :
    ((cfg0.win 1).blk t).view.read (Elt Ideal) X (ix3 0 i e) = X (ix3 (bat t) (⟨512 * (t.val % 8) + i.val, by have := lt t; omega⟩ : Fin 4096) e) := by
  blk_ext [idx_rows t, bat]

/-- Where the residual stream's rows after the tile of a grid point lie in their array. -/
theorem read_2 (X : FVec Ideal S8x4096x1024 .f32) (t : Fin cfg0.N) (i : Fin 8) (e : Fin 1024) :
    ((cfg0.win 2).blk t).view.read (Elt Ideal) X (ix3 0 i e) = X (ix3 (bat t) (⟨8 * (min (64 * (t.val % 8) + 64) 511) + i.val, by have := lt t; omega⟩ : Fin 4096) e) := by
  blk_ext [idx_rows t, bat]

/-- The residual stream's rows around and in the tile, where they lie inside the sequence. -/
theorem rows_x (t : Fin cfg0.N) (r : Fin 528) (h0 : 8 ≤ 512 * (t.val % 8) + r.val) (h1 : 512 * (t.val % 8) + r.val - 8 < 4096)
    (e : Fin 1024) :
    cat3 (fun i => iblk m c 0 t (ix3 0 i e)) (fun i => iblk m c 1 t (ix3 0 i e)) (fun i => iblk m c 2 t (ix3 0 i e)) r
      = m (c, main_arg0) (ix3 (bat t) (⟨512 * (t.val % 8) + r.val - 8, h1⟩ : Fin 4096) e) := by
  have ht := lt t
  refine Ffn.cat3_rows (fun n : Fin 4096 => m (c, main_arg0) (ix3 (bat t) n e)) (t.val % 8) (by omega) _ _ _ ?_ ?_ ?_ r h0 h1
  · intro h i
    refine ((read_0 (V m c main_arg0) t i e).trans (congrFun (entry_x m c) _)).trans ?_
    exact congrArg (fun n => m (c, main_arg0) (ix3 (bat t) n e)) (Fin.ext (by show 8 * (64 * (t.val % 8) - 1) + i.val = 512 * (t.val % 8) - 8 + i.val; omega))
  · intro i
    exact (read_1 (V m c main_arg0) t i e).trans (congrFun (entry_x m c) _)
  · intro h i
    refine ((read_2 (V m c main_arg0) t i e).trans (congrFun (entry_x m c) _)).trans ?_
    exact congrArg (fun n => m (c, main_arg0) (ix3 (bat t) n e)) (Fin.ext (by show 8 * min (64 * (t.val % 8) + 64) 511 + i.val = 512 * (t.val % 8) + 512 + i.val; omega))

/-- Where the attention's rows before the tile of a grid point lie in their array. -/
theorem read_3 (X : FVec Ideal S8x4096x512 .bf16) (t : Fin cfg0.N) (i : Fin 16) (e : Fin 512) :
    ((cfg0.win 3).blk t).view.read (Elt Ideal) X (ix3 0 i e) = X (ix3 (bat t) (⟨16 * (32 * (t.val % 8) - 1) + i.val, by have := lt t; omega⟩ : Fin 4096) e) := by
  blk_ext [idx_rows t, bat]

/-- Where the attention's rows of the tile of a grid point lie in their array. -/
theorem read_4 (X : FVec Ideal S8x4096x512 .bf16) (t : Fin cfg0.N) (i : Fin 512) (e : Fin 512) :
    ((cfg0.win 4).blk t).view.read (Elt Ideal) X (ix3 0 i e) = X (ix3 (bat t) (⟨512 * (t.val % 8) + i.val, by have := lt t; omega⟩ : Fin 4096) e) := by
  blk_ext [idx_rows t, bat]

/-- Where the attention's rows after the tile of a grid point lie in their array. -/
theorem read_5 (X : FVec Ideal S8x4096x512 .bf16) (t : Fin cfg0.N) (i : Fin 16) (e : Fin 512) :
    ((cfg0.win 5).blk t).view.read (Elt Ideal) X (ix3 0 i e) = X (ix3 (bat t) (⟨16 * (min (32 * (t.val % 8) + 32) 255) + i.val, by have := lt t; omega⟩ : Fin 4096) e) := by
  blk_ext [idx_rows t, bat]

/-- The attention's rows around and in the tile, where they lie inside the sequence. -/
theorem rows_att (t : Fin cfg0.N) (r : Fin 528) (h0 : 8 ≤ 512 * (t.val % 8) + r.val) (h1 : 512 * (t.val % 8) + r.val - 8 < 4096)
    (e : Fin 512) :
    cat3 (fun i => iblk m c 3 t (ix3 0 (⟨8 + i.val, by omega⟩ : Fin 16) e)) (fun i => iblk m c 4 t (ix3 0 i e)) (fun i => iblk m c 5 t (ix3 0 (⟨0 + i.val, by omega⟩ : Fin 16) e)) r
      = m (c, main_arg1) (ix3 (bat t) (⟨512 * (t.val % 8) + r.val - 8, h1⟩ : Fin 4096) e) := by
  have ht := lt t
  refine Ffn.cat3_rows (fun n : Fin 4096 => m (c, main_arg1) (ix3 (bat t) n e)) (t.val % 8) (by omega) _ _ _ ?_ ?_ ?_ r h0 h1
  · intro h i
    refine ((read_3 (V m c main_v0) t (⟨8 + i.val, by omega⟩ : Fin 16) e).trans (congrFun (entry_att m c) _)).trans ?_
    exact congrArg (fun n => m (c, main_arg1) (ix3 (bat t) n e)) (Fin.ext (by show 16 * (32 * (t.val % 8) - 1) + (8 + i.val) = 512 * (t.val % 8) - 8 + i.val; omega))
  · intro i
    exact (read_4 (V m c main_v0) t i e).trans (congrFun (entry_att m c) _)
  · intro h i
    refine ((read_5 (V m c main_v0) t (⟨0 + i.val, by omega⟩ : Fin 16) e).trans (congrFun (entry_att m c) _)).trans ?_
    exact congrArg (fun n => m (c, main_arg1) (ix3 (bat t) n e)) (Fin.ext (by show 16 * min (32 * (t.val % 8) + 32) 255 + (0 + i.val) = 512 * (t.val % 8) + 512 + i.val; omega))

/-- Where the second mixer's rows before the tile of a grid point lie in their array. -/
theorem read_6 (X : FVec Ideal S8x4096x256 .bf16) (t : Fin cfg0.N) (i : Fin 16) (e : Fin 256) :
    ((cfg0.win 6).blk t).view.read (Elt Ideal) X (ix3 0 i e) = X (ix3 (bat t) (⟨16 * (32 * (t.val % 8) - 1) + i.val, by have := lt t; omega⟩ : Fin 4096) e) := by
  blk_ext [idx_rows t, bat]

/-- Where the second mixer's rows of the tile of a grid point lie in their array. -/
theorem read_7 (X : FVec Ideal S8x4096x256 .bf16) (t : Fin cfg0.N) (i : Fin 512) (e : Fin 256) :
    ((cfg0.win 7).blk t).view.read (Elt Ideal) X (ix3 0 i e) = X (ix3 (bat t) (⟨512 * (t.val % 8) + i.val, by have := lt t; omega⟩ : Fin 4096) e) := by
  blk_ext [idx_rows t, bat]

/-- Where the second mixer's rows after the tile of a grid point lie in their array. -/
theorem read_8 (X : FVec Ideal S8x4096x256 .bf16) (t : Fin cfg0.N) (i : Fin 16) (e : Fin 256) :
    ((cfg0.win 8).blk t).view.read (Elt Ideal) X (ix3 0 i e) = X (ix3 (bat t) (⟨16 * (min (32 * (t.val % 8) + 32) 255) + i.val, by have := lt t; omega⟩ : Fin 4096) e) := by
  blk_ext [idx_rows t, bat]

/-- The second mixer's rows around and in the tile, where they lie inside the sequence. -/
theorem rows_ml (t : Fin cfg0.N) (r : Fin 528) (h0 : 8 ≤ 512 * (t.val % 8) + r.val) (h1 : 512 * (t.val % 8) + r.val - 8 < 4096)
    (e : Fin 256) :
    cat3 (fun i => iblk m c 6 t (ix3 0 (⟨8 + i.val, by omega⟩ : Fin 16) e)) (fun i => iblk m c 7 t (ix3 0 i e)) (fun i => iblk m c 8 t (ix3 0 (⟨0 + i.val, by omega⟩ : Fin 16) e)) r
      = m (c, main_arg2) (ix3 (bat t) (⟨512 * (t.val % 8) + r.val - 8, h1⟩ : Fin 4096) e) := by
  have ht := lt t
  refine Ffn.cat3_rows (fun n : Fin 4096 => m (c, main_arg2) (ix3 (bat t) n e)) (t.val % 8) (by omega) _ _ _ ?_ ?_ ?_ r h0 h1
  · intro h i
    refine ((read_6 (V m c main_v1) t (⟨8 + i.val, by omega⟩ : Fin 16) e).trans (congrFun (entry_ml m c) _)).trans ?_
    exact congrArg (fun n => m (c, main_arg2) (ix3 (bat t) n e)) (Fin.ext (by show 16 * (32 * (t.val % 8) - 1) + (8 + i.val) = 512 * (t.val % 8) - 8 + i.val; omega))
  · intro i
    exact (read_7 (V m c main_v1) t i e).trans (congrFun (entry_ml m c) _)
  · intro h i
    refine ((read_8 (V m c main_v1) t (⟨0 + i.val, by omega⟩ : Fin 16) e).trans (congrFun (entry_ml m c) _)).trans ?_
    exact congrArg (fun n => m (c, main_arg2) (ix3 (bat t) n e)) (Fin.ext (by show 16 * min (32 * (t.val % 8) + 32) 255 + (0 + i.val) = 512 * (t.val % 8) + 512 + i.val; omega))

/-- Where the third mixer's rows before the tile of a grid point lie in their array. -/
theorem read_9 (X : FVec Ideal S8x4096x256 .bf16) (t : Fin cfg0.N) (i : Fin 16) (e : Fin 256) :
    ((cfg0.win 9).blk t).view.read (Elt Ideal) X (ix3 0 i e) = X (ix3 (bat t) (⟨16 * (32 * (t.val % 8) - 1) + i.val, by have := lt t; omega⟩ : Fin 4096) e) := by
  blk_ext [idx_rows t, bat]

/-- Where the third mixer's rows of the tile of a grid point lie in their array. -/
theorem read_10 (X : FVec Ideal S8x4096x256 .bf16) (t : Fin cfg0.N) (i : Fin 512) (e : Fin 256) :
    ((cfg0.win 10).blk t).view.read (Elt Ideal) X (ix3 0 i e) = X (ix3 (bat t) (⟨512 * (t.val % 8) + i.val, by have := lt t; omega⟩ : Fin 4096) e) := by
  blk_ext [idx_rows t, bat]

/-- Where the third mixer's rows after the tile of a grid point lie in their array. -/
theorem read_11 (X : FVec Ideal S8x4096x256 .bf16) (t : Fin cfg0.N) (i : Fin 16) (e : Fin 256) :
    ((cfg0.win 11).blk t).view.read (Elt Ideal) X (ix3 0 i e) = X (ix3 (bat t) (⟨16 * (min (32 * (t.val % 8) + 32) 255) + i.val, by have := lt t; omega⟩ : Fin 4096) e) := by
  blk_ext [idx_rows t, bat]

/-- The third mixer's rows around and in the tile, where they lie inside the sequence. -/
theorem rows_hy (t : Fin cfg0.N) (r : Fin 528) (h0 : 8 ≤ 512 * (t.val % 8) + r.val) (h1 : 512 * (t.val % 8) + r.val - 8 < 4096)
    (e : Fin 256) :
    cat3 (fun i => iblk m c 9 t (ix3 0 (⟨8 + i.val, by omega⟩ : Fin 16) e)) (fun i => iblk m c 10 t (ix3 0 i e)) (fun i => iblk m c 11 t (ix3 0 (⟨0 + i.val, by omega⟩ : Fin 16) e)) r
      = m (c, main_arg3) (ix3 (bat t) (⟨512 * (t.val % 8) + r.val - 8, h1⟩ : Fin 4096) e) := by
  have ht := lt t
  refine Ffn.cat3_rows (fun n : Fin 4096 => m (c, main_arg3) (ix3 (bat t) n e)) (t.val % 8) (by omega) _ _ _ ?_ ?_ ?_ r h0 h1
  · intro h i
    refine ((read_9 (V m c main_v2) t (⟨8 + i.val, by omega⟩ : Fin 16) e).trans (congrFun (entry_hy m c) _)).trans ?_
    exact congrArg (fun n => m (c, main_arg3) (ix3 (bat t) n e)) (Fin.ext (by show 16 * (32 * (t.val % 8) - 1) + (8 + i.val) = 512 * (t.val % 8) - 8 + i.val; omega))
  · intro i
    exact (read_10 (V m c main_v2) t i e).trans (congrFun (entry_hy m c) _)
  · intro h i
    refine ((read_11 (V m c main_v2) t (⟨0 + i.val, by omega⟩ : Fin 16) e).trans (congrFun (entry_hy m c) _)).trans ?_
    exact congrArg (fun n => m (c, main_arg3) (ix3 (bat t) n e)) (Fin.ext (by show 16 * min (32 * (t.val % 8) + 32) 255 + (0 + i.val) = 512 * (t.val % 8) + 512 + i.val; omega))

/-- The batch's row of the gate on the mixers' step. -/
theorem blk_g1 (t : Fin cfg0.N) (e : Fin 1024) : iblk m c 13 t (ix3 0 0 e) = m (c, main_arg5) (ix3 (bat t) 0 e) := by
  have h (X : FVec Ideal S8x1x1024 .f32) : ((cfg0.win 13).blk t).view.read (Elt Ideal) X (ix3 0 0 e) = X (ix3 (bat t) 0 e) := by
    blk_ext [idx_rest t, bat]
  exact (h (V m c main_arg5)).trans (congrFun (entry_g1 m c) _)

/-- The batch's row of the modulation's scale. -/
theorem blk_sc (t : Fin cfg0.N) (e : Fin 1024) : iblk m c 15 t (ix3 0 0 e) = m (c, main_arg7) (ix3 (bat t) 0 e) := by
  have h (X : FVec Ideal S8x1x1024 .f32) : ((cfg0.win 15).blk t).view.read (Elt Ideal) X (ix3 0 0 e) = X (ix3 (bat t) 0 e) := by
    blk_ext [idx_rest t, bat]
  exact (h (V m c main_arg7)).trans (congrFun (entry_sc m c) _)

/-- The batch's row of the modulation's shift. -/
theorem blk_sh (t : Fin cfg0.N) (e : Fin 1024) : iblk m c 16 t (ix3 0 0 e) = m (c, main_arg8) (ix3 (bat t) 0 e) := by
  have h (X : FVec Ideal S8x1x1024 .f32) : ((cfg0.win 16).blk t).view.read (Elt Ideal) X (ix3 0 0 e) = X (ix3 (bat t) 0 e) := by
    blk_ext [idx_rest t, bat]
  exact (h (V m c main_arg8)).trans (congrFun (entry_sh m c) _)

/-- The batch's row of the gate on the feed-forward's step. -/
theorem blk_g2 (t : Fin cfg0.N) (e : Fin 1024) : iblk m c 17 t (ix3 0 0 e) = m (c, main_arg9) (ix3 (bat t) 0 e) := by
  have h (X : FVec Ideal S8x1x1024 .f32) : ((cfg0.win 17).blk t).view.read (Elt Ideal) X (ix3 0 0 e) = X (ix3 (bat t) 0 e) := by
    blk_ext [idx_rest t, bat]
  exact (h (V m c main_arg9)).trans (congrFun (entry_g2 m c) _)

/-- The output projection. -/
theorem blk_wo (t : Fin cfg0.N) (k : Fin 1024) (e : Fin 1024) : iblk m c 12 t (ix2 k e) = m (c, main_arg4) (ix2 k e) := by
  have h (X : FVec Ideal S1024x1024 .bf16) : ((cfg0.win 12).blk t).view.read (Elt Ideal) X (ix2 k e) = X (ix2 k e) := by
    blk_ext [idx_rest t, bat]
  exact (h (V m c main_v3)).trans (congrFun (entry_wo m c) _)

/-- The up projection. -/
theorem blk_wu (t : Fin cfg0.N) (k : Fin 1024) (e : Fin 5632) : iblk m c 18 t (ix2 k e) = m (c, main_arg10) (ix2 k e) := by
  have h (X : FVec Ideal S1024x5632 .bf16) : ((cfg0.win 18).blk t).view.read (Elt Ideal) X (ix2 k e) = X (ix2 k e) := by
    blk_ext [idx_rest t, bat]
  exact (h (V m c main_v5)).trans (congrFun (entry_wu m c) _)

/-- The taps. -/
theorem blk_cw (t : Fin cfg0.N) (k : Fin 3) (e : Fin 5632) : iblk m c 19 t (ix2 k e) = m (c, main_arg11) (ix2 k e) := by
  have h (X : FVec Ideal S3x5632 .f32) : ((cfg0.win 19).blk t).view.read (Elt Ideal) X (ix2 k e) = X (ix2 k e) := by
    blk_ext [idx_rest t, bat]
  exact (h (V m c main_arg11)).trans (congrFun (entry_cw m c) _)

/-- The down projection. -/
theorem blk_wd (t : Fin cfg0.N) (k : Fin 2816) (e : Fin 1024) : iblk m c 21 t (ix2 k e) = m (c, main_arg13) (ix2 k e) := by
  have h (X : FVec Ideal S2816x1024 .bf16) : ((cfg0.win 21).blk t).view.read (Elt Ideal) X (ix2 k e) = X (ix2 k e) := by
    blk_ext [idx_rest t, bat]
  exact (h (V m c main_v7)).trans (congrFun (entry_wd m c) _)

/-- The gain of the feed-forward's norm. -/
theorem blk_ng (t : Fin cfg0.N) (e : Fin 1024) : iblk m c 14 t (ix2 0 e) = m (c, main_arg6) (ix1 e) := by
  have h (X : FVec Ideal S1x1024 .f32) : ((cfg0.win 14).blk t).view.read (Elt Ideal) X (ix2 0 e) = X (ix2 0 e) := by
    blk_ext [idx_rest t, bat]
  have h' (X : FVec Ideal S1024 .f32) : shapeCast S1x1024 X shapeCasts_S1024_S1x1024 (ix2 0 e) = X (ix1 e) := by
    pointwise
  exact ((h (V m c main_v4)).trans (congrFun (entry_ng m c) _)).trans (h' _)

/-- The convolution's bias. -/
theorem blk_cb (t : Fin cfg0.N) (e : Fin 5632) : iblk m c 20 t (ix2 0 e) = m (c, main_arg12) (ix1 e) := by
  have h (X : FVec Ideal S1x5632 .f32) : ((cfg0.win 20).blk t).view.read (Elt Ideal) X (ix2 0 e) = X (ix2 0 e) := by
    blk_ext [idx_rest t, bat]
  have h' (X : FVec Ideal S5632 .f32) : shapeCast S1x5632 X shapeCasts_S5632_S1x5632 (ix2 0 e) = X (ix1 e) := by
    pointwise
  exact ((h (V m c main_v6)).trans (congrFun (entry_cb m c) _)).trans (h' _)

/-- The gain of the last norm. -/
theorem blk_fg (t : Fin cfg0.N) (e : Fin 1024) : iblk m c 22 t (ix2 0 e) = m (c, main_arg14) (ix1 e) := by
  have h (X : FVec Ideal S1x1024 .f32) : ((cfg0.win 22).blk t).view.read (Elt Ideal) X (ix2 0 e) = X (ix2 0 e) := by
    blk_ext [idx_rest t, bat]
  have h' (X : FVec Ideal S1024 .f32) : shapeCast S1x1024 X shapeCasts_S1024_S1x1024 (ix2 0 e) = X (ix1 e) := by
    pointwise
  exact ((h (V m c main_v8)).trans (congrFun (entry_fg m c) _)).trans (h' _)

/-- The weights as the launch memory holds them. -/
def wts (b : Fin 8) : Ffn.Weights :=
  Ffn.weights (m (c, main_arg4)) (m (c, main_arg5)) (m (c, main_arg6)) (m (c, main_arg7)) (m (c, main_arg8)) (m (c, main_arg9))
    (m (c, main_arg10)) (m (c, main_arg11)) (m (c, main_arg12)) (m (c, main_arg13)) (m (c, main_arg14)) b

/-- The residual stream after the mixers, from the launch memory. -/
def str (b : Fin 8) : Fin 4096 → Fin 1024 → EReal :=
  Ffn.stream (wts m c b) (m (c, main_arg0)) (m (c, main_arg1)) (m (c, main_arg2)) (m (c, main_arg3)) b

/-- The residual stream over a tile and its surroundings. -/
def ext (t : Fin cfg0.N) : FVec Ideal S528x1024 .f32 :=
  xext (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)

/-- Inside the sequence it is the residual stream's row. -/
theorem ext_apply (t : Fin cfg0.N) (r : Fin 528) (h0 : 8 ≤ 512 * (t.val % 8) + r.val) (h1 : 512 * (t.val % 8) + r.val - 8 < 4096)
    (e : Fin 1024) : ext m c t (ix2 r e) = str m c (bat t) ⟨512 * (t.val % 8) + r.val - 8, h1⟩ e := by
  rw [ext, xext_apply (wts m c (bat t)) _ _ _ _ _ _ _ _ _ _ _ _ _ _ (blk_wo m c t) (blk_g1 m c t)]
  simp only [rows_x m c t r h0 h1, rows_att m c t r h0 h1, rows_ml m c t r h0 h1, rows_hy m c t r h0 h1]
  rfl

/-- A row of the tile or its surroundings projected up: the sequence's row, or zero beyond its ends. -/
theorem up_ext (t : Fin cfg0.N) (r : Fin 528) (h0 : 7 ≤ r.val) (h1 : r.val ≤ 520) (j : Fin 5632) :
    ∑ e : Fin 1024, xe (grid0.coords t) (ext m c t) (iblk m c 14 t) (iblk m c 15 t) (iblk m c 16 t) (ix2 r e) * iblk m c 18 t (ix2 e j)
      = Ffn.lift (wts m c (bat t)) (str m c (bat t)) (512 * (t.val % 8) + r.val - 7) j := by
  have ht := lt t
  by_cases hp : (r.val < 8 ∧ t.val % 8 = 0) ∨ (520 ≤ r.val ∧ t.val % 8 = 7)
  · simp only [xe_apply, tile t, if_pos hp, zero_mul, Finset.sum_const_zero]
    rw [Ffn.lift, dif_neg (by omega)]
  · simp only [xe_apply, tile t, if_neg hp]
    rw [Ffn.lift, dif_pos (by omega)]
    have a0 : 8 ≤ 512 * (t.val % 8) + r.val := by omega
    have a1 : 512 * (t.val % 8) + r.val - 8 < 4096 := by omega
    simp only [ext_apply m c t r a0 a1, blk_ng, blk_sc, blk_sh, blk_wu]
    have en : (⟨512 * (t.val % 8) + r.val - 8, a1⟩ : Fin 4096) = ⟨512 * (t.val % 8) + r.val - 7 - 1, by omega⟩ := Fin.ext (by
      show 512 * (t.val % 8) + r.val - 8 = 512 * (t.val % 8) + r.val - 7 - 1; omega)
    rw [en]
    rfl

/-- What grid point `t` leaves in its output block. -/
theorem point (t : Fin cfg0.N) (r : Fin 512) (e : Fin 1024) :
    last (ext m c t) (join (act (xe (grid0.coords t) (ext m c t) (iblk m c 14 t) (iblk m c 15 t) (iblk m c 16 t))
        (iblk m c 18 t) (iblk m c 19 t) (iblk m c 20 t))) (iblk m c 17 t) (iblk m c 21 t) (iblk m c 22 t) (ix3 0 r e)
      = Ffn.result (wts m c (bat t)) (str m c (bat t)) (⟨512 * (t.val % 8) + r.val, by omega⟩ : Fin 4096) e := by
  have ht := lt t
  rw [last_apply (wts m c (bat t)) _ _ _ _ _ r e (blk_g2 m c t) (blk_wd m c t) (blk_fg m c t)]
  simp only [acc_apply (wts m c (bat t)) _ _ _ _ (blk_cw m c t) (blk_cb m c t) r _ _ _
    (up_ext m c t ⟨7 + r.val, by omega⟩ (by show 7 ≤ 7 + r.val; omega) (by show 7 + r.val ≤ 520; omega))
    (up_ext m c t ⟨8 + r.val, by omega⟩ (by show 7 ≤ 8 + r.val; omega) (by show 8 + r.val ≤ 520; omega))
    (up_ext m c t ⟨9 + r.val, by omega⟩ (by show 7 ≤ 9 + r.val; omega) (by show 9 + r.val ≤ 520; omega)),
    ext_apply m c t ⟨8 + r.val, by omega⟩ (by show 8 ≤ 512 * (t.val % 8) + (8 + r.val); omega)
      (by show 512 * (t.val % 8) + (8 + r.val) - 8 < 4096; omega)]
  have e0 : (⟨512 * (t.val % 8) + (8 + r.val) - 8, by omega⟩ : Fin 4096) = ⟨512 * (t.val % 8) + r.val, by omega⟩ :=
    Fin.ext (by show 512 * (t.val % 8) + (8 + r.val) - 8 = 512 * (t.val % 8) + r.val; omega)
  have e1 : 512 * (t.val % 8) + (7 + r.val) - 7 = 512 * (t.val % 8) + r.val := by omega
  have e2 : 512 * (t.val % 8) + (8 + r.val) - 7 = 512 * (t.val % 8) + r.val + 1 := by omega
  have e3 : 512 * (t.val % 8) + (9 + r.val) - 7 = 512 * (t.val % 8) + r.val + 2 := by omega
  rw [e0, e1, e2, e3]
  rfl

/-- Where the output block of a grid point lies in its array. -/
theorem read_23 (X : FVec Ideal S8x4096x1024 .f32) (t : Fin cfg0.N) (i : Fin 512) (e : Fin 1024) :
    ((cfg0.win 23).blk t).view.read (Elt Ideal) X (ix3 0 i e) = X (ix3 (bat t) (⟨512 * (t.val % 8) + i.val, by have := lt t; omega⟩ : Fin 4096) e) := by
  blk_ext [idx_rest t, bat]

/-- The kernel's result array. -/
theorem result_eq : (dats m 0 c).arrAt 23 cfg0.N = fun i : S8x4096x1024.Idx => Ffn.result (wts m c (i 0)) (str m c (i 0)) (i 1) (i 2) := by
  refine (dats m 0 c).arrAt_eq_of_covers 23 _ (by decide +kernel) fun t _ y => ?_
  blk_simp
  rw [after0_23]
  idx_vars y
  obtain rfl : y0 = 0 := Subsingleton.elim _ _
  unfold outsAt0
  rw [out_eq]
  exact (point m c t y1 y2).trans (read_23 (fun i : S8x4096x1024.Idx => Ffn.result (wts m c (i 0)) (str m c (i 0)) (i 1) (i 2)) t y1 y2).symm

end Cert.OutFfnIdeal.Blocks

end
-- ==== Proof.Ffn.Ref.lean ====
module

public import proofs.«01_k».proof.Proof.Gen.OutFfnReferenceIdeal.Read
public import proofs.«01_k».proof.Proof.Ffn.Spec

/-! # The reference's output projection and feed-forward -/

@[expose] public section

set_option maxRecDepth 16384

noncomputable section

namespace Cert.OutFfnReferenceIdeal.Ffn

open Cert.OutFfnReferenceIdeal Cert.OutFfnReferenceIdeal.Gen Cert.OutFfnReferenceIdeal.Read Idealize.ShloMosaic Idealize.ShloMosaic.TcCoe Idealize.SL.Sem

/-- A sum over the joined channels is the three mixers' sums. -/
theorem sum_split (f : Fin 1024 → EReal) :
    ∑ k, f k = (∑ k : Fin 512, f ⟨0 + k.val, by omega⟩) + (∑ k : Fin 256, f ⟨512 + k.val, by omega⟩) + ∑ k : Fin 256, f ⟨768 + k.val, by omega⟩ := by
  rw [show ∑ k, f k = _ from Fin.sum_univ_add (a := 512 + 256) (b := 256) f, Fin.sum_univ_add]
  refine congrArg₂ _ (congrArg₂ _ (Finset.sum_congr rfl fun k _ => ?_) (Finset.sum_congr rfl fun k _ => ?_)) (Finset.sum_congr rfl fun k _ => ?_)
  · exact congrArg f (Fin.ext (by show k.val = 0 + k.val; omega))
  · exact congrArg f (Fin.ext (by show 512 + k.val = 512 + k.val; omega))
  · exact congrArg f (Fin.ext (by show 512 + 256 + k.val = 768 + k.val; omega))

variable (x0 : FVec Ideal S8x4096x1024 .f32) (x1 : FVec Ideal S8x4096x512 .f32) (x2 x3 : FVec Ideal S8x4096x256 .f32)
  (x4 : FVec Ideal S1024x1024 .f32) (x5 : FVec Ideal S8x1x1024 .f32) (x6 : FVec Ideal S1024 .f32) (x7 x8 x9 : FVec Ideal S8x1x1024 .f32)
  (x10 : FVec Ideal S1024x5632 .f32) (x11 : FVec Ideal S3x5632 .f32) (x12 : FVec Ideal S5632 .f32) (x13 : FVec Ideal S2816x1024 .f32)
  (x14 : FVec Ideal S1024 .f32)

/-- The joined channels: the attention's first. -/
theorem v0_att (b : Fin 8) (n : Fin 4096) (k : Fin 512) :
    val_main_v0 (F := Ideal) x1 x2 x3 (ix3 b n (⟨0 + k.val, by omega⟩ : Fin 1024)) = x1 (ix3 b n k) := by
  pointwise [val_main_v0]

/-- Then the second mixer's. -/
theorem v0_ml (b : Fin 8) (n : Fin 4096) (k : Fin 256) :
    val_main_v0 (F := Ideal) x1 x2 x3 (ix3 b n (⟨512 + k.val, by omega⟩ : Fin 1024)) = x2 (ix3 b n k) := by
  pointwise [val_main_v0]

/-- Then the third mixer's. -/
theorem v0_hy (b : Fin 8) (n : Fin 4096) (k : Fin 256) :
    val_main_v0 (F := Ideal) x1 x2 x3 (ix3 b n (⟨768 + k.val, by omega⟩ : Fin 1024)) = x3 (ix3 b n k) := by
  pointwise [val_main_v0]
  rw [dif_neg (by omega), dif_neg (by omega)]
  exact congrArg (fun k => x3 (ix3 b n k)) (Fin.ext (by show 768 + k.val - 512 - 256 = k.val; omega))

/-- The residual stream after the mixers, as the joined channels projected. -/
theorem v4_read (b : Fin 8) (n : Fin 4096) (e : Fin 1024) :
    val_main_v4 (F := Ideal) x0 x1 x2 x3 x4 x5 (ix3 b n e)
      = x0 (ix3 b n e) + x5 (ix3 b 0 e) * ∑ k : Fin 1024, val_main_v0 (F := Ideal) x1 x2 x3 (ix3 b n k) * x4 (ix2 k e) := by
  pointwise [val_main_v4, val_main_v3, val_main_v2, val_main_v1]

/-- The weights and the residual stream of a batch. -/
def wts (b : Fin 8) : Cert.Ffn.Weights := Cert.Ffn.weights x4 x5 x6 x7 x8 x9 x10 x11 x12 x13 x14 b

/-- The residual stream after the mixers. -/
theorem v4_apply (b : Fin 8) (n : Fin 4096) (e : Fin 1024) :
    val_main_v4 (F := Ideal) x0 x1 x2 x3 x4 x5 (ix3 b n e)
      = Cert.Ffn.stream (wts x4 x5 x6 x7 x8 x9 x10 x11 x12 x13 x14 b) x0 x1 x2 x3 b n e := by
  rw [v4_read, sum_split]
  simp only [v0_att, v0_ml, v0_hy]
  rfl

/-- A row normed and modulated. -/
theorem v23_apply (b : Fin 8) (n : Fin 4096) (e : Fin 1024) :
    val_main_v23 (F := Ideal) x0 x1 x2 x3 x4 x5 x6 x7 x8 (ix3 b n e)
      = Cert.Ffn.modnorm (wts x4 x5 x6 x7 x8 x9 x10 x11 x12 x13 x14 b) (fun e => val_main_v4 (F := Ideal) x0 x1 x2 x3 x4 x5 (ix3 b n e)) e := by
  pointwise [val_main_v23, val_main_v22, val_main_v21, val_main_v20, val_main_v19, val_main_v18, val_main_cst_2, val_main_v17,
    val_main_v16, val_main_v15, val_main_v14, val_main_v13, val_main_v12, val_main_v11, val_main_v10, val_main_cst_1, val_main_v9,
    val_main_v8, val_main_cst_0, val_main_v7, val_main_v6, val_main_cst, val_main_v5]
  rw [Cert.Ffn.modnorm, ← Cert.Ffn.word_one]
  rfl

/-- A row projected up. -/
theorem v24_apply (b : Fin 8) (n : Fin 4096) (j : Fin 5632) :
    val_main_v24 (F := Ideal) x0 x1 x2 x3 x4 x5 x6 x7 x8 x10 (ix3 b n j)
      = ∑ e : Fin 1024, val_main_v23 (F := Ideal) x0 x1 x2 x3 x4 x5 x6 x7 x8 (ix3 b n e) * x10 (ix2 e j) := by
  pointwise [val_main_v24]

/-- The rows projected up, with a row of zeros before and after. -/
theorem v25_read (b : Fin 8) (p : Fin 4098) (j : Fin 5632) :
    val_main_v25 (F := Ideal) x0 x1 x2 x3 x4 x5 x6 x7 x8 x10 (ix3 b p j)
      = if h : 1 ≤ p.val ∧ p.val ≤ 4096 then val_main_v24 (F := Ideal) x0 x1 x2 x3 x4 x5 x6 x7 x8 x10 (ix3 b (⟨p.val - 1, by omega⟩ : Fin 4096) j) else 0 := by
  pointwise [val_main_v25, val_main_call0_v0, val_main_c]
  by_cases h : 1 ≤ p.val ∧ p.val ≤ 4096
  · rw [dif_pos h, dif_pos ⟨h.1, by omega⟩]
  · rw [dif_neg h, dif_neg (by omega)]
    show (((0#32 : BitVec 32).toInt : ℝ) : EReal) = 0
    simp

/-- The convolution over neighbouring rows. -/
theorem v48_apply (b : Fin 8) (n : Fin 4096) (j : Fin 5632) :
    val_main_v48 (F := Ideal) x0 x1 x2 x3 x4 x5 x6 x7 x8 x10 x11 x12 (ix3 b n j)
      = x12 (ix1 j) + val_main_v25 (F := Ideal) x0 x1 x2 x3 x4 x5 x6 x7 x8 x10 (ix3 b (⟨n.val, by omega⟩ : Fin 4098) j) * x11 (ix2 0 j)
        + val_main_v25 (F := Ideal) x0 x1 x2 x3 x4 x5 x6 x7 x8 x10 (ix3 b (⟨1 + n.val, by omega⟩ : Fin 4098) j) * x11 (ix2 1 j)
        + val_main_v25 (F := Ideal) x0 x1 x2 x3 x4 x5 x6 x7 x8 x10 (ix3 b (⟨2 + n.val, by omega⟩ : Fin 4098) j) * x11 (ix2 2 j) := by
  pointwise [val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26]

/-- The gated channels. -/
theorem v52_apply (b : Fin 8) (n : Fin 4096) (j : Fin 2816) :
    val_main_v52 (F := Ideal) x0 x1 x2 x3 x4 x5 x6 x7 x8 x10 x11 x12 (ix3 b n j)
      = val_main_v48 (F := Ideal) x0 x1 x2 x3 x4 x5 x6 x7 x8 x10 x11 x12 (ix3 b n (⟨j.val, by omega⟩ : Fin 5632))
          * Ideal.logistic (val_main_v48 (F := Ideal) x0 x1 x2 x3 x4 x5 x6 x7 x8 x10 x11 x12 (ix3 b n (⟨j.val, by omega⟩ : Fin 5632)))
          * val_main_v48 (F := Ideal) x0 x1 x2 x3 x4 x5 x6 x7 x8 x10 x11 x12 (ix3 b n (⟨2816 + j.val, by omega⟩ : Fin 5632)) := by
  pointwise [val_main_v52, val_main_v51, val_main_v50, val_main_v49, val_main_call1_v5, val_main_call1_v4, val_main_call1_cst_0,
    val_main_call1_v3, val_main_call1_v2, val_main_call1_cst, val_main_call1_v1, val_main_call1_v0]
  rw [Ideal.logistic, ← Cert.Ffn.word_one]

/-- A row after the feed-forward's step. -/
theorem v56_apply (b : Fin 8) (n : Fin 4096) (e : Fin 1024) :
    val_main_v56 (F := Ideal) x0 x1 x2 x3 x4 x5 x6 x7 x8 x9 x10 x11 x12 x13 (ix3 b n e)
      = val_main_v4 (F := Ideal) x0 x1 x2 x3 x4 x5 (ix3 b n e)
        + x9 (ix3 b 0 e) * ∑ j : Fin 2816, val_main_v52 (F := Ideal) x0 x1 x2 x3 x4 x5 x6 x7 x8 x10 x11 x12 (ix3 b n j) * x13 (ix2 j e) := by
  pointwise [val_main_v56, val_main_v55, val_main_v54, val_main_v53]

/-- The result: that row normed. -/
theorem v69_read (b : Fin 8) (n : Fin 4096) (e : Fin 1024) :
    val_main_v69 (F := Ideal) x0 x1 x2 x3 x4 x5 x6 x7 x8 x9 x10 x11 x12 x13 x14 (ix3 b n e)
      = val_main_v56 (F := Ideal) x0 x1 x2 x3 x4 x5 x6 x7 x8 x9 x10 x11 x12 x13 (ix3 b n e)
        * Cert.Ffn.inv (fun e => val_main_v56 (F := Ideal) x0 x1 x2 x3 x4 x5 x6 x7 x8 x9 x10 x11 x12 x13 (ix3 b n e)) * x14 (ix1 e) := by
  pointwise [val_main_v69, val_main_v68, val_main_v67, val_main_v66, val_main_v65, val_main_v64, val_main_v63, val_main_v62,
    val_main_v61, val_main_v60, val_main_v59, val_main_v58, val_main_v57, val_main_cst_3, val_main_cst_4, val_main_cst_5]
  rfl

/-- The rows projected up, counted from one. -/
theorem v25_apply (b : Fin 8) (p : Fin 4098) (j : Fin 5632) :
    val_main_v25 (F := Ideal) x0 x1 x2 x3 x4 x5 x6 x7 x8 x10 (ix3 b p j)
      = Cert.Ffn.lift (wts x4 x5 x6 x7 x8 x9 x10 x11 x12 x13 x14 b)
          (Cert.Ffn.stream (wts x4 x5 x6 x7 x8 x9 x10 x11 x12 x13 x14 b) x0 x1 x2 x3 b) p.val j := by
  rw [v25_read, Cert.Ffn.lift]
  split_ifs with h
  · rw [v24_apply]
    simp only [v23_apply x0 x1 x2 x3 x4 x5 x6 x7 x8 x9 x10 x11 x12 x13 x14, v4_apply x0 x1 x2 x3 x4 x5 x6 x7 x8 x9 x10 x11 x12 x13 x14]
    rfl
  · rfl

/-- The convolution at a row. -/
theorem conv_apply (b : Fin 8) (n : Fin 4096) (j : Fin 5632) :
    val_main_v48 (F := Ideal) x0 x1 x2 x3 x4 x5 x6 x7 x8 x10 x11 x12 (ix3 b n j)
      = Cert.Ffn.conv (wts x4 x5 x6 x7 x8 x9 x10 x11 x12 x13 x14 b)
          (Cert.Ffn.lift (wts x4 x5 x6 x7 x8 x9 x10 x11 x12 x13 x14 b)
            (Cert.Ffn.stream (wts x4 x5 x6 x7 x8 x9 x10 x11 x12 x13 x14 b) x0 x1 x2 x3 b) n.val)
          (Cert.Ffn.lift (wts x4 x5 x6 x7 x8 x9 x10 x11 x12 x13 x14 b)
            (Cert.Ffn.stream (wts x4 x5 x6 x7 x8 x9 x10 x11 x12 x13 x14 b) x0 x1 x2 x3 b) (n.val + 1))
          (Cert.Ffn.lift (wts x4 x5 x6 x7 x8 x9 x10 x11 x12 x13 x14 b)
            (Cert.Ffn.stream (wts x4 x5 x6 x7 x8 x9 x10 x11 x12 x13 x14 b) x0 x1 x2 x3 b) (n.val + 2)) j := by
  rw [v48_apply]
  simp only [v25_apply x0 x1 x2 x3 x4 x5 x6 x7 x8 x9 x10 x11 x12 x13 x14]
  rw [mul_comm _ (x11 (ix2 0 j)), mul_comm _ (x11 (ix2 1 j)), mul_comm _ (x11 (ix2 2 j)), Nat.add_comm n.val 1, Nat.add_comm n.val 2]
  rfl

/-- The reference's result. -/
theorem result_apply (b : Fin 8) (n : Fin 4096) (e : Fin 1024) :
    val_main_v69 (F := Ideal) x0 x1 x2 x3 x4 x5 x6 x7 x8 x9 x10 x11 x12 x13 x14 (ix3 b n e)
      = Cert.Ffn.result (wts x4 x5 x6 x7 x8 x9 x10 x11 x12 x13 x14 b)
          (Cert.Ffn.stream (wts x4 x5 x6 x7 x8 x9 x10 x11 x12 x13 x14 b) x0 x1 x2 x3 b) n e := by
  rw [v69_read]
  simp only [v56_apply, v52_apply, conv_apply x0 x1 x2 x3 x4 x5 x6 x7 x8 x9 x10 x11 x12 x13 x14,
    v4_apply x0 x1 x2 x3 x4 x5 x6 x7 x8 x9 x10 x11 x12 x13 x14]
  rfl

end Cert.OutFfnReferenceIdeal.Ffn

end
-- ==== Proof.Mix.Parts.lean ====
module

public import proofs.«01_k».proof.Proof.Gen.MixerInIdeal.Skeleton
public import Idealize.ShloMosaic.Lib.Pipeline.ValueKit
public import Idealize.ShloMosaic.Lib.ValueIdx

/-! # What one grid point of the projections into the mixers computes, part by part -/

@[expose] public section

set_option maxRecDepth 16384

noncomputable section

namespace Cert.MixerInIdeal.Body

open Cert.MixerInIdeal Cert.MixerInIdeal.Gen Idealize.ShloMosaic Idealize.ShloMosaic.TcCoe Idealize.SL.Sem

variable {F : FTy → Type} [FloatOps F]

/-- Three blocks of 768 columns side by side. -/
def scr (p : Fin 3 → FVec F S528x768 .f32) : FVec F S528x2304 .f32 := fun y =>
  p ⟨(y 1).val / 768, by have : (y 1).val < 2304 := (y 1).isLt; omega⟩
    (ValueIdx.ix2 (⟨(y 0).val, (y 0).isLt⟩ : Fin 528) (⟨(y 1).val % 768, Nat.mod_lt _ (by decide)⟩ : Fin 768))

/-- The tile's rows and eight at either end, normed and modulated, zero beyond the sequence's ends. -/
def nx (i : grid0.Coords) (x0 : Vec F S1x8x1024 .f32) (x1 : Vec F S1x512x1024 .f32) (x2 : Vec F S1x8x1024 .f32) (x3 : Vec F S1x1024 .f32)
    (x4 : Vec F S1x1x1024 .f32) (x5 : Vec F S1x1x1024 .f32) : FVec F S528x1024 .bf16 :=
  k0_pay6 (BitVec.ofNat 32 (i 1).val) (k0_pay4 x0 x1 x2 x3 x4 x5) (iota .tc S528x1 32 [0] iota_S528x1_d0_w32) k0_pay5
    (Scalar.cmpi .eq (BitVec.ofNat 32 (i 1).val) 0#32)

/-- The `n`-th 768 columns of the projection. -/
def wc (x6 : Vec F S1024x2304 .bf16) (n : Fin 3) : Vec F S1024x768 .bf16 :=
  View.ld x6 (Rect.unit (s := S1024x2304) ![0, 768 * n.val] S1024x768.size (by
    intro a
    fin_cases a
    · exact le_refl 1024
    · show 768 * n.val + 768 ≤ 2304; omega))

/-- The same rows projected, 768 columns at a time. -/
def xi (i : grid0.Coords) (x0 : Vec F S1x8x1024 .f32) (x1 : Vec F S1x512x1024 .f32) (x2 : Vec F S1x8x1024 .f32) (x3 : Vec F S1x1024 .f32)
    (x4 : Vec F S1x1x1024 .f32) (x5 : Vec F S1x1x1024 .f32) (x6 : Vec F S1024x2304 .bf16) : FVec F S528x2304 .f32 :=
  scr fun n => k0_pay7 (BitVec.ofNat 32 (i 1).val) (k0_pay4 x0 x1 x2 x3 x4 x5) (iota .tc S528x1 32 [0] iota_S528x1_d0_w32) k0_pay5
    (Scalar.cmpi .eq (BitVec.ofNat 32 (i 1).val) 0#32) (wc x6 n)

variable (s : FVec F S528x2304 .f32)

/-- The latent rows of the queries. -/
def sq : Vec F S512x384 .f32 := View.ld s (Rect.unit (s := S528x2304) ![8, 0] S512x384.size (by decide))
/-- The latent rows of keys and values. -/
def skv : Vec F S512x256 .f32 := View.ld s (Rect.unit (s := S528x2304) ![8, 384] S512x256.size (by decide))
/-- The rows turned for the keys. -/
def skr : Vec F S512x128 .f32 := View.ld s (Rect.unit (s := S528x2304) ![8, 640] S512x128.size (by decide))
/-- The rows of the matrix LSTM's values. -/
def sv : Vec F S512x256 .f32 := View.ld s (Rect.unit (s := S528x2304) ![8, 1024] S512x256.size (by decide))
/-- The rows of its output gates. -/
def so : Vec F S512x256 .f32 := View.ld s (Rect.unit (s := S528x2304) ![8, 1280] S512x256.size (by decide))
/-- The rows of its features, before the tile's by one. -/
def su7 : Vec F S512x256 .f32 := View.ld s (Rect.unit (s := S528x2304) ![7, 768] S512x256.size (by decide))
/-- The rows of its features. -/
def su8 : Vec F S512x256 .f32 := View.ld s (Rect.unit (s := S528x2304) ![8, 768] S512x256.size (by decide))
/-- The rows of its features, after the tile's by one. -/
def su9 : Vec F S512x256 .f32 := View.ld s (Rect.unit (s := S528x2304) ![9, 768] S512x256.size (by decide))
/-- The rows of the Hyena mixer, before the tile's by one. -/
def sh7 : Vec F S512x768 .f32 := View.ld s (Rect.unit (s := S528x2304) ![7, 1536] S512x768.size (by decide))
/-- The rows of the Hyena mixer. -/
def sh8 : Vec F S512x768 .f32 := View.ld s (Rect.unit (s := S528x2304) ![8, 1536] S512x768.size (by decide))
/-- The rows of the Hyena mixer, after the tile's by one. -/
def sh9 : Vec F S512x768 .f32 := View.ld s (Rect.unit (s := S528x2304) ![9, 1536] S512x768.size (by decide))

/-- The queries. -/
def oq (x7 : Vec F S1x384 .f32) (x9 x10 : Vec F S384x1024 .bf16) (x13 x14 : Vec F S512x128 .f32) : FVec F S1x512x1024 .bf16 :=
  k0_pay12 (k0_pay10 x13) (k0_pay11 x14) (sq s) x7 x9 x10
/-- The keys. -/
def ok (x8 : Vec F S1x256 .f32) (x11 : Vec F S256x1024 .bf16) (x13 x14 : Vec F S512x128 .f32) : FVec F S1x512x1024 .bf16 :=
  k0_pay23 (k0_pay11 x14) (k0_pay16 (skv s) (k0_pay13 (skv s)) k0_pay14 x8 x11) (k0_pay18 (skr s)) (k0_pay19 (k0_pay10 x13) (skr s))
    (Scalar.select (Scalar.cmpi .eq 128#32 0#32) 1#32 128#32) k0_pay20 k0_pay21 k0_pay22
/-- The values. -/
def ov (x8 : Vec F S1x256 .f32) (x12 : Vec F S256x512 .bf16) : FVec F S1x512x512 .bf16 :=
  k0_pay17 (skv s) (k0_pay13 (skv s)) k0_pay14 x8 x12
/-- The matrix LSTM's keys. -/
def omk (x15 : Vec F S3x256 .f32) (x16 : Vec F S1x256 .f32) (x18 : Vec F S256x256 .bf16) : FVec F S1x512x256 .bf16 :=
  k0_pay27 (k0_pay24 x15 x16 (su7 s) (su8 s)) (k0_pay25 x15) (su9 s) x18
/-- The matrix LSTM's queries, transposed. -/
def omq (x15 : Vec F S3x256 .f32) (x16 : Vec F S1x256 .f32) (x17 : Vec F S256x256 .bf16) : FVec F S256x512 .f32 :=
  k0_pay28 (k0_pay24 x15 x16 (su7 s) (su8 s)) (k0_pay25 x15) (su9 s) x17
/-- The four chunks of 128 columns of a transposed tile, one under the other. -/
def chunks (f : FVec F S256x512 .f32) : FVec F S1x4x256x128 .bf16 := fun y =>
  ![k0_pay47 f, k0_pay52 f, k0_pay57 f, k0_pay62 f] ⟨(y 1).val, (y 1).isLt⟩
    (ValueIdx.ix4 (0 : Fin 1) (0 : Fin 1) (⟨(y 2).val, (y 2).isLt⟩ : Fin 256) (⟨(y 3).val, (y 3).isLt⟩ : Fin 128))
/-- The output gates. -/
def oo : FVec F S1x512x256 .bf16 := k0_pay30 (so s)
/-- The Hyena mixer's first part. -/
def ox (x20 : Vec F S3x768 .f32) (x21 : Vec F S1x768 .f32) : FVec F S1x512x256 .bf16 :=
  k0_pay2 (k0_pay64 x20 x21 (sh7 s) (sh8 s)) (k0_pay65 x20) (sh9 s)
/-- The product of its other two parts. -/
def oz (x20 : Vec F S3x768 .f32) (x21 : Vec F S1x768 .f32) : FVec F S512x256 .bf16 :=
  k0_pay3 (k0_pay64 x20 x21 (sh7 s) (sh8 s)) (k0_pay65 x20) (sh9 s)

end Cert.MixerInIdeal.Body

end
-- ==== Proof.Mix.Body.lean ====
module

public import proofs.«01_k».proof.Proof.Mix.MixerInIdealRun
public import proofs.«01_k».proof.Proof.Mix.Parts

/-! # What one grid point of the projections into the mixers leaves in its blocks -/

@[expose] public section

set_option maxRecDepth 16384

noncomputable section

namespace Cert.MixerInIdeal.Body

open Cert.MixerInIdeal Cert.MixerInIdeal.Gen Idealize.ShloMosaic Idealize.ShloMosaic.TcCoe Idealize.SL.Sem

variable {F : FTy → Type} [FloatOps F]

/-- The zero offsets of a matrix. -/
theorem hz2 : (![0, 0] : Fin 2 → Nat) = fun _ => 0 := funext fun a => by fin_cases a <;> rfl
/-- The zero offsets of a block of a batch. -/
theorem hz3 : (![0, 0, 0] : Fin 3 → Nat) = fun _ => 0 := funext fun a => by fin_cases a <;> rfl

/-- The `k`-th of three blocks of 768 columns lies inside 2304 columns. -/
theorem scr_bound (k : Fin 3) : ∀ a, (![0, 768 * k.val] : Fin 2 → ℕ) a + S528x768.size a ≤ S528x2304.size a := by
  intro a
  fin_cases a
  · exact le_refl 528
  · show 768 * k.val + 768 ≤ 2304; omega

/-- The canon of three blocks side by side, the last stored first. -/
theorem canon_scr (p : Fin 3 → FVec F S528x768 .f32) (y : S528x2304.Idx) :
    View.canon (List.ofFn fun k : Fin 3 => (⟨Rect.unit ![0, 768 * k.rev.val] S528x768.size (scr_bound k.rev), p k.rev⟩ :
      View.Piece (Elt F) S528x2304 .f32)) y = scr p y := by
  have b0 : (y 0).val < 528 := (y 0).isLt
  have b1 : (y 1).val < 2304 := (y 1).isLt
  refine View.canon_ofFn_unit_eq_of_forall (S := S528x2304) (Val := Elt F) (e := .f32) (fun k : Fin 3 => ![0, 768 * k.rev.val]) S528x768.size
    (fun k => scr_bound k.rev) (fun k => p k.rev) y _ ?_ ?_
  · refine ⟨Fin.rev ⟨(y 1).val / 768, by omega⟩, fun a => ?_⟩
    simp only [Fin.rev_rev]
    fin_cases a
    · exact ⟨Nat.zero_le _, by show (y 0).val < 0 + 528; omega⟩
    · exact ⟨by show 768 * ((y 1).val / 768) ≤ (y 1).val; omega, by show (y 1).val < 768 * ((y 1).val / 768) + 768; omega⟩
  · intro k' x hx
    have e0 : (y 0).val = 0 + (x 0).val := hx 0
    have e1 : (y 1).val = 768 * k'.rev.val + (x 1).val := hx 1
    clear hx
    show p k'.rev x = _
    generalize k'.rev = k at e1 ⊢
    have l1 : (x 1).val < 768 := (x 1).isLt
    unfold scr
    have ek : (⟨(y 1).val / 768, by omega⟩ : Fin 3) = k := Fin.ext (by show (y 1).val / 768 = k.val; omega)
    rw [ek]
    refine congrArg (p k) (funext fun a => Fin.ext ?_)
    fin_cases a
    · show (x 0).val = (y 0).val; omega
    · show (x 1).val = (y 1).val % 768; omega

/-- A load of the scratch reads the three blocks side by side. -/
theorem read_scr {sig' : RefSig} {κ : Kind} {sp : Space} (v : View sig' κ sp S528x2304 .f32) (p0 p1 p2 : FVec F S528x768 .f32)
    (i0 : ∀ a, (![0, 0] : Fin 2 → ℕ) a + S528x768.size a ≤ S528x2304.size a) (i1 : ∀ a, (![0, 768] : Fin 2 → ℕ) a + S528x768.size a ≤ S528x2304.size a)
    (i2 : ∀ a, (![0, 1536] : Fin 2 → ℕ) a + S528x768.size a ≤ S528x2304.size a) (R : LoadRect S528x2304) :
    v.readCov (Val := Elt F) [⟨Rect.unit ![0, 1536] S528x768.size i2, p2⟩, ⟨Rect.unit ![0, 768] S528x768.size i1, p1⟩, ⟨Rect.unit ![0, 0] S528x768.size i0, p0⟩] R
      = fun y => scr ![p0, p1, p2] (R.idx y) := by
  rw [View.readCov_eq_canon']
  funext y
  exact canon_scr ![p0, p1, p2] _

/-- The same for a plain rectangle of 512 rows. -/
theorem read_ld {sig' : RefSig} {κ : Kind} {sp : Space} (v : View sig' κ sp S528x2304 .f32) (p0 p1 p2 : FVec F S528x768 .f32)
    (i0 : ∀ a, (![0, 0] : Fin 2 → ℕ) a + S528x768.size a ≤ S528x2304.size a) (i1 : ∀ a, (![0, 768] : Fin 2 → ℕ) a + S528x768.size a ≤ S528x2304.size a)
    (i2 : ∀ a, (![0, 1536] : Fin 2 → ℕ) a + S528x768.size a ≤ S528x2304.size a) (k n : ℕ)
    (i3 : ∀ a, (![8, k] : Fin 2 → ℕ) a + (![512, n] : Fin 2 → ℕ) a ≤ S528x2304.size a) :
    v.readCov (Val := Elt F) [⟨Rect.unit ![0, 1536] S528x768.size i2, p2⟩, ⟨Rect.unit ![0, 768] S528x768.size i1, p1⟩, ⟨Rect.unit ![0, 0] S528x768.size i0, p0⟩]
        (Rect.unit (s := S528x2304) ![8, k] ![512, n] i3).toLoadRect
      = View.ld (scr ![p0, p1, p2]) (Rect.unit (s := S528x2304) ![8, k] ![512, n] i3) :=
  read_scr v p0 p1 p2 i0 i1 i2 _

/-- The same for 512 rows of a slice of the scratch's columns. -/
theorem read_within {sig' : RefSig} {κ : Kind} {sp : Space} (v : View sig' κ sp S528x2304 .f32) (p0 p1 p2 : FVec F S528x768 .f32)
    (i0 : ∀ a, (![0, 0] : Fin 2 → ℕ) a + S528x768.size a ≤ S528x2304.size a) (i1 : ∀ a, (![0, 768] : Fin 2 → ℕ) a + S528x768.size a ≤ S528x2304.size a)
    (i2 : ∀ a, (![0, 1536] : Fin 2 → ℕ) a + S528x768.size a ≤ S528x2304.size a) (k o n : ℕ)
    (i3 : ∀ a, (![0, k] : Fin 2 → ℕ) a + (![528, n] : Fin 2 → ℕ) a ≤ S528x2304.size a)
    (i4 : ∀ a, (![o, 0] : Fin 2 → ℕ) a + (![512, n] : Fin 2 → ℕ) a ≤ (⟨2, ![528, n]⟩ : Shape).size a) (h)
    (i5 : ∀ a, (![o, k] : Fin 2 → ℕ) a + (![512, n] : Fin 2 → ℕ) a ≤ S528x2304.size a) :
    v.readCov (Val := Elt F) [⟨Rect.unit ![0, 1536] S528x768.size i2, p2⟩, ⟨Rect.unit ![0, 768] S528x768.size i1, p1⟩, ⟨Rect.unit ![0, 0] S528x768.size i0, p0⟩]
        ((Rect.unit (s := S528x2304) ![0, k] ![528, n] i3).withinL (Rect.unit (s := ⟨2, ![528, n]⟩) ![o, 0] ![512, n] i4).toLoadRect h)
      = View.ld (scr ![p0, p1, p2]) (Rect.unit (s := S528x2304) ![o, k] ![512, n] i5) := by
  rw [read_scr]
  funext y
  refine congrArg (scr ![p0, p1, p2]) (funext fun a => Fin.ext ?_)
  rw [LoadRect.idx_apply]
  show _ = (![o, k] : Fin 2 → ℕ) a + 1 * (y a).val
  fin_cases a
  · show 0 + o + 1 * (y 0).val = o + 1 * (y 0).val; omega
  · show k + 0 + 1 * (y 1).val = k + 1 * (y 1).val; omega

/-- The three blocks of the projected rows, as they are stored. -/
theorem xi_eq (i : grid0.Coords) (x0 : Vec F S1x8x1024 .f32) (x1 : Vec F S1x512x1024 .f32) (x2 : Vec F S1x8x1024 .f32) (x3 : Vec F S1x1024 .f32)
    (x4 : Vec F S1x1x1024 .f32) (x5 : Vec F S1x1x1024 .f32) (x6 : Vec F S1024x2304 .bf16) (i0) (i1) (i2) :
    scr ![k0_pay7 (BitVec.ofNat 32 (i 1).val) (k0_pay4 x0 x1 x2 x3 x4 x5) (iota .tc S528x1 32 [0] iota_S528x1_d0_w32) k0_pay5
          (Scalar.cmpi .eq (BitVec.ofNat 32 (i 1).val) 0#32) (View.ld x6 (Rect.unit (s := S1024x2304) ![0, 0] S1024x768.size i0)),
        k0_pay8 (BitVec.ofNat 32 (i 1).val) (k0_pay4 x0 x1 x2 x3 x4 x5) (iota .tc S528x1 32 [0] iota_S528x1_d0_w32) k0_pay5
          (Scalar.cmpi .eq (BitVec.ofNat 32 (i 1).val) 0#32) (View.ld x6 (Rect.unit (s := S1024x2304) ![0, 768] S1024x768.size i1)),
        k0_pay9 (BitVec.ofNat 32 (i 1).val) (k0_pay4 x0 x1 x2 x3 x4 x5) (iota .tc S528x1 32 [0] iota_S528x1_d0_w32) k0_pay5
          (Scalar.cmpi .eq (BitVec.ofNat 32 (i 1).val) 0#32) (View.ld x6 (Rect.unit (s := S1024x2304) ![0, 1536] S1024x768.size i2))]
      = xi i x0 x1 x2 x3 x4 x5 x6 := by
  unfold xi
  congr 1
  funext n
  fin_cases n <;> rfl

/-- The `k`-th of four chunks lies inside the block of four. -/
theorem chunk_bound (k : Fin 4) : ∀ a, (![0, k.val, 0, 0] : Fin 4 → ℕ) a + S1x1x256x128.size a ≤ S1x4x256x128.size a := by
  intro a
  fin_cases a
  · exact le_refl 1
  · show k.val + 1 ≤ 4; omega
  · exact le_refl 256
  · exact le_refl 128

/-- The canon of four chunks, the last stored first. -/
theorem canon_chunk (p : Fin 4 → FVec F S1x1x256x128 .bf16) (y : S1x4x256x128.Idx) :
    View.canon (List.ofFn fun k : Fin 4 => (⟨Rect.unit ![0, k.rev.val, 0, 0] S1x1x256x128.size (chunk_bound k.rev), p k.rev⟩ :
      View.Piece (Elt F) S1x4x256x128 .bf16)) y
      = p ⟨(y 1).val, (y 1).isLt⟩ (ValueIdx.ix4 (0 : Fin 1) (0 : Fin 1) (⟨(y 2).val, (y 2).isLt⟩ : Fin 256) (⟨(y 3).val, (y 3).isLt⟩ : Fin 128)) := by
  have b0 : (y 0).val < 1 := (y 0).isLt
  have b1 : (y 1).val < 4 := (y 1).isLt
  have b2 : (y 2).val < 256 := (y 2).isLt
  have b3 : (y 3).val < 128 := (y 3).isLt
  refine View.canon_ofFn_unit_eq_of_forall (S := S1x4x256x128) (Val := Elt F) (e := .bf16) (fun k : Fin 4 => ![0, k.rev.val, 0, 0]) S1x1x256x128.size
    (fun k => chunk_bound k.rev) (fun k => p k.rev) y _ ?_ ?_
  · refine ⟨Fin.rev ⟨(y 1).val, b1⟩, fun a => ?_⟩
    simp only [Fin.rev_rev]
    fin_cases a
    · exact ⟨Nat.zero_le _, by show (y 0).val < 0 + 1; omega⟩
    · exact ⟨by show (y 1).val ≤ (y 1).val; omega, by show (y 1).val < (y 1).val + 1; omega⟩
    · exact ⟨Nat.zero_le _, by show (y 2).val < 0 + 256; omega⟩
    · exact ⟨Nat.zero_le _, by show (y 3).val < 0 + 128; omega⟩
  · intro k' x hx
    have e1 : (y 1).val = k'.rev.val + (x 1).val := hx 1
    have e2 : (y 2).val = 0 + (x 2).val := hx 2
    have e3 : (y 3).val = 0 + (x 3).val := hx 3
    clear hx
    show p k'.rev x = _
    generalize k'.rev = k at e1 ⊢
    have l0 : (x 0).val < 1 := (x 0).isLt
    have l1 : (x 1).val < 1 := (x 1).isLt
    have ek : (⟨(y 1).val, b1⟩ : Fin 4) = k := Fin.ext (by show (y 1).val = k.val; omega)
    rw [ek]
    refine congrArg (p k) (funext fun a => Fin.ext ?_)
    fin_cases a
    · show (x 0).val = 0; omega
    · show (x 1).val = 0; omega
    · show (x 2).val = (y 2).val; omega
    · show (x 3).val = (y 3).val; omega

/-- Four stores of chunks leave the four chunks one under the other. -/
theorem canon_chunks (f : FVec F S256x512 .f32) (p0 p1 p2 p3 : FVec F S1x1x256x128 .bf16)
    (e0 : p0 = k0_pay47 f) (e1 : p1 = k0_pay52 f) (e2 : p2 = k0_pay57 f) (e3 : p3 = k0_pay62 f)
    (i0 : ∀ a, (![0, 0, 0, 0] : Fin 4 → ℕ) a + S1x1x256x128.size a ≤ S1x4x256x128.size a) (i1 : ∀ a, (![0, 1, 0, 0] : Fin 4 → ℕ) a + S1x1x256x128.size a ≤ S1x4x256x128.size a)
    (i2 : ∀ a, (![0, 2, 0, 0] : Fin 4 → ℕ) a + S1x1x256x128.size a ≤ S1x4x256x128.size a) (i3 : ∀ a, (![0, 3, 0, 0] : Fin 4 → ℕ) a + S1x1x256x128.size a ≤ S1x4x256x128.size a) :
    View.canon (s := S1x4x256x128) (Val := Elt F) (e := .bf16) [⟨Rect.unit ![0, 3, 0, 0] S1x1x256x128.size i3, p3⟩, ⟨Rect.unit (s := S1x4x256x128) ![0, 2, 0, 0] S1x1x256x128.size i2, p2⟩,
        ⟨Rect.unit (s := S1x4x256x128) ![0, 1, 0, 0] S1x1x256x128.size i1, p1⟩, ⟨Rect.unit (s := S1x4x256x128) ![0, 0, 0, 0] S1x1x256x128.size i0, p0⟩]
      = chunks f := by
  subst e0 e1 e2 e3
  funext y
  exact canon_chunk ![k0_pay47 f, k0_pay52 f, k0_pay57 f, k0_pay62 f] y

/-! ## The stores -/

variable (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x2304 .bf16) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1024 .bf16) (harg11 : arg11.IsWhole) (arg12 : Memref sig .tc .vmem S384x1024 .bf16) (harg12 : arg12.IsWhole) (arg13 : Memref sig .tc .vmem S256x1024 .bf16) (harg13 : arg13.IsWhole) (arg14 : Memref sig .tc .vmem S256x512 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S3x256 .f32) (harg17 : arg17.IsWhole) (arg18 : Memref sig .tc .vmem S1x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S1x128 .f32) (harg21 : arg21.IsWhole) (arg22 : Memref sig .tc .vmem S3x768 .f32) (harg22 : arg22.IsWhole) (arg23 : Memref sig .tc .vmem S1x768 .f32) (harg23 : arg23.IsWhole) (arg24 : Memref sig .tc .vmem S1x512x1024 .bf16) (harg24 : arg24.IsWhole) (arg25 : Memref sig .tc .vmem S1x512x1024 .bf16) (harg25 : arg25.IsWhole) (arg26 : Memref sig .tc .vmem S1x512x512 .bf16) (harg26 : arg26.IsWhole) (arg27 : Memref sig .tc .vmem S1x512x256 .bf16) (harg27 : arg27.IsWhole) (arg28 : Memref sig .tc .vmem S1x4x256x128 .bf16) (harg28 : arg28.IsWhole) (arg29 : Memref sig .tc .vmem S1x4x256x128 .bf16) (harg29 : arg29.IsWhole) (arg30 : Memref sig .tc .vmem S1x512x128 .f32) (harg30 : arg30.IsWhole) (arg31 : Memref sig .tc .vmem S1x4x128x128 .f32) (harg31 : arg31.IsWhole) (arg32 : Memref sig .tc .vmem S1x512x256 .bf16) (harg32 : arg32.IsWhole) (arg33 : Memref sig .tc .vmem S1x512x256 .bf16) (harg33 : arg33.IsWhole) (arg34 : Memref sig .tc .vmem S512x256 .bf16) (harg34 : arg34.IsWhole) (arg35 : Memref sig .tc .vmem S528x2304 .f32) (harg35 : arg35.IsWhole)     (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32)

/-- What a grid point stores of the queries. -/
theorem canon_22 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).1 = oq (xi i x0 x1 x2 x3 x4 x5 x6) x7 x9 x10 x13 x14 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz3]
  simp only [read_ld _ _ _ _ _ _ _ 0 384]
  rw [← xi_eq i x0 x1 x2 x3 x4 x5 x6 inb_S1024x2304_S1024x768_0_0 inb_S1024x2304_S1024x768_0_768 inb_S1024x2304_S1024x768_0_1536]
  rfl

/-- What a grid point stores of the keys. -/
theorem canon_23 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.1 = ok (xi i x0 x1 x2 x3 x4 x5 x6) x8 x11 x13 x14 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz3]
  simp only [read_ld _ _ _ _ _ _ _ 384 256, read_ld _ _ _ _ _ _ _ 640 128]
  rw [← xi_eq i x0 x1 x2 x3 x4 x5 x6 inb_S1024x2304_S1024x768_0_0 inb_S1024x2304_S1024x768_0_768 inb_S1024x2304_S1024x768_0_1536]
  rfl

/-- What a grid point stores of the values. -/
theorem canon_24 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.1 = ov (xi i x0 x1 x2 x3 x4 x5 x6) x8 x12 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz3]
  simp only [read_ld _ _ _ _ _ _ _ 384 256]
  rw [← xi_eq i x0 x1 x2 x3 x4 x5 x6 inb_S1024x2304_S1024x768_0_0 inb_S1024x2304_S1024x768_0_768 inb_S1024x2304_S1024x768_0_1536]
  rfl

/-- What a grid point stores of the matrix LSTM's keys. -/
theorem canon_25 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.2.1 = omk (xi i x0 x1 x2 x3 x4 x5 x6) x15 x16 x18 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz3]
  simp only [read_within _ _ _ _ _ _ _ 768 7 256 _ _ _ (by decide), read_within _ _ _ _ _ _ _ 768 8 256 _ _ _ (by decide), read_within _ _ _ _ _ _ _ 768 9 256 _ _ _ (by decide)]
  rw [← xi_eq i x0 x1 x2 x3 x4 x5 x6 inb_S1024x2304_S1024x768_0_0 inb_S1024x2304_S1024x768_0_768 inb_S1024x2304_S1024x768_0_1536]
  rfl

/-- What a grid point stores of the matrix LSTM's queries. -/
theorem canon_26 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.2.2.1 = chunks (omq (xi i x0 x1 x2 x3 x4 x5 x6) x15 x16 x17) := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  simp only [read_within _ _ _ _ _ _ _ 768 7 256 _ _ _ (by decide), read_within _ _ _ _ _ _ _ 768 8 256 _ _ _ (by decide), read_within _ _ _ _ _ _ _ 768 9 256 _ _ _ (by decide)]
  rw [← xi_eq i x0 x1 x2 x3 x4 x5 x6 inb_S1024x2304_S1024x768_0_0 inb_S1024x2304_S1024x768_0_768 inb_S1024x2304_S1024x768_0_1536]
  exact canon_chunks _ _ _ _ _ rfl rfl rfl rfl _ _ _ _

/-- What a grid point stores of the matrix LSTM's values. -/
theorem canon_27 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.2.2.2.1 = chunks (k0_pay29 (sv (xi i x0 x1 x2 x3 x4 x5 x6))) := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  simp only [read_ld _ _ _ _ _ _ _ 1024 256]
  rw [← xi_eq i x0 x1 x2 x3 x4 x5 x6 inb_S1024x2304_S1024x768_0_0 inb_S1024x2304_S1024x768_0_768 inb_S1024x2304_S1024x768_0_1536]
  exact canon_chunks _ _ _ _ _ rfl rfl rfl rfl _ _ _ _

/-- What a grid point stores of the output gates. -/
theorem canon_30 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.2.2.2.2.2.2.1 = oo (xi i x0 x1 x2 x3 x4 x5 x6) := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz3]
  simp only [read_ld _ _ _ _ _ _ _ 1280 256]
  rw [← xi_eq i x0 x1 x2 x3 x4 x5 x6 inb_S1024x2304_S1024x768_0_0 inb_S1024x2304_S1024x768_0_768 inb_S1024x2304_S1024x768_0_1536]
  rfl

/-- What a grid point stores of the Hyena mixer's first part. -/
theorem canon_31 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.2.2.2.2.2.2.2.1 = ox (xi i x0 x1 x2 x3 x4 x5 x6) x20 x21 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz3]
  simp only [read_within _ _ _ _ _ _ _ 1536 7 768 _ _ _ (by decide), read_within _ _ _ _ _ _ _ 1536 8 768 _ _ _ (by decide), read_within _ _ _ _ _ _ _ 1536 9 768 _ _ _ (by decide)]
  rw [← xi_eq i x0 x1 x2 x3 x4 x5 x6 inb_S1024x2304_S1024x768_0_0 inb_S1024x2304_S1024x768_0_768 inb_S1024x2304_S1024x768_0_1536]
  rfl

/-- What a grid point stores of the product of its other two parts. -/
theorem canon_32 :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21).2.2.2.2.2.2.2.2.2.2.1 = oz (xi i x0 x1 x2 x3 x4 x5 x6) x20 x21 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1x8x1024) hz3, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x1024) hz2, View.ld_unit_zero (S := S256x1024) hz2, View.ld_unit_zero (S := S256x512) hz2, View.ld_unit_zero (S := S512x128) hz2, View.ld_unit_zero (S := S3x256) hz2, View.ld_unit_zero (S := S256x256) hz2, View.ld_unit_zero (S := S3x768) hz2, View.ld_unit_zero (S := S1x768) hz2]
  rw [View.canon_unit_zero hz2]
  simp only [read_within _ _ _ _ _ _ _ 1536 7 768 _ _ _ (by decide), read_within _ _ _ _ _ _ _ 1536 8 768 _ _ _ (by decide), read_within _ _ _ _ _ _ _ 1536 9 768 _ _ _ (by decide)]
  rw [← xi_eq i x0 x1 x2 x3 x4 x5 x6 inb_S1024x2304_S1024x768_0_0 inb_S1024x2304_S1024x768_0_768 inb_S1024x2304_S1024x768_0_1536]
  rfl

end Cert.MixerInIdeal.Body

end
-- ==== Proof.Mix.Spec.lean ====
module

public import proofs.«01_k».proof.MixerInIdeal
public import proofs.«01_k».proof.Proof.Ffn.Spec
public import Idealize.ShloMosaic.Lib.Pipeline.ValueKit
public import Idealize.ShloMosaic.Lib.Pointwise

/-! # The projections into the mixers, row by row

What both programs compute of one batch: every row normed, modulated and projected (`proj`), and from the projected rows the
attention's queries, keys and values (`q`, `k`, `v`), the matrix LSTM's features (`mk`, `mq`) and the Hyena mixer's
convolved channels (`hconv`). -/

@[expose] public section

set_option maxRecDepth 16384

noncomputable section

namespace Cert.Mix

open Idealize.ShloMosaic Cert.MixerInIdeal

/-- One batch's rows and modulation, and the weights. -/
structure Args where
  /-- The rows. -/
  x : Fin 4096 → Fin 1024 → EReal
  /-- The gain of the rows' norm. -/
  g : Fin 1024 → EReal
  /-- The modulation's scale. -/
  sc : Fin 1024 → EReal
  /-- The modulation's shift. -/
  sh : Fin 1024 → EReal
  /-- The projection into the mixers. -/
  wi : Fin 1024 → Fin 2224 → EReal
  /-- The gain of the queries' latent norm. -/
  gq : Fin 384 → EReal
  /-- The gain of the keys' latent norm. -/
  gkv : Fin 256 → EReal
  /-- The queries' weight. -/
  wq : Fin 384 → Fin 768 → EReal
  /-- The keys' and values' weight. -/
  wkv : Fin 256 → Fin 1024 → EReal
  /-- The rotary cosines. -/
  cos : Fin 4096 → Fin 16 → EReal
  /-- The rotary sines. -/
  sin : Fin 4096 → Fin 16 → EReal
  /-- The taps of the matrix LSTM's convolution. -/
  mcw : Fin 3 → Fin 256 → EReal
  /-- Its bias. -/
  mcb : Fin 256 → EReal
  /-- The heads' query weights. -/
  mwq : Fin 4 → Fin 64 → Fin 64 → EReal
  /-- The heads' key weights. -/
  mwk : Fin 4 → Fin 64 → Fin 64 → EReal
  /-- The taps of the Hyena mixer's convolution. -/
  hcw : Fin 3 → Fin 768 → EReal
  /-- Its bias. -/
  hcb : Fin 768 → EReal

variable (a : Args)

/-- A row normed and modulated. -/
def row (f : Fin 1024 → EReal) (e : Fin 1024) : EReal := f e * Ffn.inv f * a.g e * (1 + a.sc e) + a.sh e

/-- A row projected. -/
def proj (n : Fin 4096) (j : Fin 2224) : EReal := ∑ e, row a (a.x n) e * a.wi e j

/-- The projected rows counted from one: zero at zero and past the last. -/
def lift (p : ℕ) (j : Fin 2224) : EReal := if h : 1 ≤ p ∧ p ≤ 4096 then proj a ⟨p - 1, by omega⟩ j else 0

/-- A row normed, with the word of its length and its gain. -/
def rms {d : ℕ} (c : EReal) (g f : Fin d → EReal) (k : Fin d) : EReal :=
  f k * Ideal.rsqrt (Ideal.div (∑ k, f k * f k) c + Ideal.ofBits .f32 0x358637BD#32) * g k

/-- The keys' and values' latent row, normed. -/
def kvn (n : Fin 4096) : Fin 256 → EReal :=
  rms (Ideal.ofBits .f32 0x43800000#32) a.gkv fun k => proj a n ⟨384 + k.val, by omega⟩

/-- Keys and values of a row, head by head. -/
def kv (n : Fin 4096) (j : Fin 1024) : EReal := ∑ k, kvn a n k * a.wkv k j

/-- The queries' latent row, normed. -/
def qn (n : Fin 4096) : Fin 384 → EReal :=
  rms (Ideal.ofBits .f32 0x43C00000#32) a.gq fun k => proj a n ⟨0 + k.val, by omega⟩

/-- Queries of a row, head by head. -/
def qs (n : Fin 4096) (j : Fin 768) : EReal := ∑ k, qn a n k * a.wq k j

/-- Values of a row. -/
def v (n : Fin 4096) (j : Fin 512) : EReal := kv a n ⟨128 * (j.val / 64) + 64 + j.val % 64, by omega⟩

/-- A pair of halves, turned. -/
def rope (n : Fin 4096) (y : Fin 32 → EReal) (r : Fin 32) : EReal :=
  if h : r.val < 16 then y ⟨r.val, by omega⟩ * a.cos n ⟨r.val, h⟩ - y ⟨16 + r.val, by omega⟩ * a.sin n ⟨r.val, h⟩
  else y ⟨r.val - 16, by omega⟩ * a.sin n ⟨r.val - 16, by omega⟩ + y ⟨r.val, by omega⟩ * a.cos n ⟨r.val - 16, by omega⟩

/-- Keys of a row: per head 64 lanes, 32 turned lanes common to the heads, 32 zeros. -/
def k (n : Fin 4096) (j : Fin 1024) : EReal :=
  if h : j.val % 128 < 64 then kv a n j
  else if h' : j.val % 128 < 96 then rope a n (fun r => proj a n ⟨640 + r.val, by omega⟩) ⟨j.val % 128 - 64, by omega⟩ else 0

/-- Queries of a row: per head 64 lanes, 32 turned lanes, 32 zeros, scaled. -/
def q (n : Fin 4096) (j : Fin 1024) : EReal :=
  (if h : j.val % 128 < 64 then qs a n ⟨96 * (j.val / 128) + j.val % 128, by omega⟩
  else if h' : j.val % 128 < 96 then rope a n (fun r => qs a n ⟨96 * (j.val / 128) + 64 + r.val, by omega⟩) ⟨j.val % 128 - 64, by omega⟩ else 0)
    * Ideal.ofBits .f32 0x3E16C740#32

/-- The matrix LSTM's channels, three neighbouring rows weighted. -/
def mconv (n : Fin 4096) (j : Fin 256) : EReal :=
  a.mcb j + a.mcw 0 j * lift a n.val ⟨672 + j.val, by omega⟩ + a.mcw 1 j * lift a (n.val + 1) ⟨672 + j.val, by omega⟩
    + a.mcw 2 j * lift a (n.val + 2) ⟨672 + j.val, by omega⟩

/-- The same, gated by their logistic. -/
def u (n : Fin 4096) (j : Fin 256) : EReal := mconv a n j * Ideal.logistic (mconv a n j)

/-- A row's channels through one matrix per head. -/
def heads (w : Fin 4 → Fin 64 → Fin 64 → EReal) (n : Fin 4096) (j : Fin 256) : EReal :=
  ∑ d : Fin 64, u a n ⟨64 * (j.val / 64) + d.val, by omega⟩ * w ⟨j.val / 64, by omega⟩ d ⟨j.val % 64, by omega⟩

/-- The Hyena mixer's channels, three neighbouring rows weighted. -/
def hconv (n : Fin 4096) (j : Fin 768) : EReal :=
  a.hcb j + a.hcw 0 j * lift a n.val ⟨1456 + j.val, by omega⟩ + a.hcw 1 j * lift a (n.val + 1) ⟨1456 + j.val, by omega⟩
    + a.hcw 2 j * lift a (n.val + 2) ⟨1456 + j.val, by omega⟩

/-- The product of the Hyena mixer's second and third parts. -/
def z (n : Fin 4096) (j : Fin 256) : EReal := hconv a n ⟨256 + j.val, by omega⟩ * hconv a n ⟨512 + j.val, by omega⟩

/-- The arguments as the arrays passed hold them, for batch `b`. -/
def args (x0 : S8x4096x1024.Idx → EReal) (x1 : S1024.Idx → EReal) (x2 x3 : S8x1x1024.Idx → EReal) (x4 : S1024x2224.Idx → EReal)
    (x5 : S384.Idx → EReal) (x6 : S256.Idx → EReal) (x7 : S384x768.Idx → EReal) (x8 : S256x1024.Idx → EReal)
    (x9 x10 : S4096x16.Idx → EReal) (x11 : S3x256.Idx → EReal) (x12 : S256.Idx → EReal) (x13 x14 : S4x64x64.Idx → EReal)
    (x16 : S3x768.Idx → EReal) (x17 : S768.Idx → EReal) (b : Fin 8) : Args where
  x n e := x0 (ix3 b n e)
  g e := x1 (ix1 e)
  sc e := x2 (ix3 b 0 e)
  sh e := x3 (ix3 b 0 e)
  wi e j := x4 (ix2 e j)
  gq j := x5 (ix1 j)
  gkv j := x6 (ix1 j)
  wq e j := x7 (ix2 e j)
  wkv e j := x8 (ix2 e j)
  cos n r := x9 (ix2 n r)
  sin n r := x10 (ix2 n r)
  mcw i j := x11 (ix2 i j)
  mcb j := x12 (ix1 j)
  mwq h d e := x13 (ix3 h d e)
  mwk h d e := x14 (ix3 h d e)
  hcw i j := x16 (ix2 i j)
  hcb j := x17 (ix1 j)

end Cert.Mix

end
-- ==== Proof.Mix.Read.lean ====
module

public import proofs.«01_k».proof.Proof.Mix.Parts
public import proofs.«01_k».proof.Proof.Mix.Spec
public import Idealize.ShloMosaic.Lib.Pointwise
public import Idealize.ShloMosaic.Lib.WordCmp

/-! # The parts read at an index -/

@[expose] public section

set_option maxRecDepth 16384

noncomputable section

namespace Cert.MixerInIdeal.Body

open Cert.MixerInIdeal Cert.MixerInIdeal.Gen Idealize.ShloMosaic Idealize.ShloMosaic.TcCoe Idealize.SL.Sem
open Cert.Ffn (cat3)

/-- The rows normed and modulated, zero beyond the sequence's ends. -/
theorem nx_apply (i : grid0.Coords) (x0 : Vec Ideal S1x8x1024 .f32) (x1 : Vec Ideal S1x512x1024 .f32) (x2 : Vec Ideal S1x8x1024 .f32)
    (x3 : Vec Ideal S1x1024 .f32) (x4 x5 : Vec Ideal S1x1x1024 .f32) (f : Fin 528 → Fin 1024 → EReal)
    (hf : ∀ r e, cat3 (fun i => x0 (ix3 0 i e)) (fun i => x1 (ix3 0 i e)) (fun i => x2 (ix3 0 i e)) r = f r e) (r : Fin 528) (e : Fin 1024) :
    nx i x0 x1 x2 x3 x4 x5 (ix2 r e) = if (r.val < 8 ∧ (i 1).val = 0) ∨ (520 ≤ r.val ∧ (i 1).val = 7) then 0
      else f r e * Ffn.inv (f r) * x3 (ix2 0 e) * (1 + x4 (ix3 0 0 e)) + x5 (ix3 0 0 e) := by
  obtain rfl : f = fun r e => cat3 (fun i => x0 (ix3 0 i e)) (fun i => x1 (ix3 0 i e)) (fun i => x2 (ix3 0 i e)) r :=
    funext fun r => funext fun e => (hf r e).symm
  have hi : (i 1).val < 8 := (i 1).isLt
  pointwise [nx, k0_pay6, k0_pay5, k0_pay4]
  word_cmp
  rfl

/-- A block of 768 columns projected. -/
theorem pay7_apply (i : grid0.Coords) (x0 : Vec Ideal S1x8x1024 .f32) (x1 : Vec Ideal S1x512x1024 .f32) (x2 : Vec Ideal S1x8x1024 .f32)
    (x3 : Vec Ideal S1x1024 .f32) (x4 x5 : Vec Ideal S1x1x1024 .f32) (w : Vec Ideal S1024x768 .bf16) (r : Fin 528) (j : Fin 768) :
    k0_pay7 (BitVec.ofNat 32 (i 1).val) (k0_pay4 x0 x1 x2 x3 x4 x5) (iota .tc S528x1 32 [0] iota_S528x1_d0_w32) k0_pay5
      (Scalar.cmpi .eq (BitVec.ofNat 32 (i 1).val) 0#32) w (ix2 r j) = ∑ e : Fin 1024, nx i x0 x1 x2 x3 x4 x5 (ix2 r e) * w (ix2 e j) := by
  have h (f : FVec Ideal S528x1024 .bf16) (hf : k0_pay6 (BitVec.ofNat 32 (i 1).val) (k0_pay4 x0 x1 x2 x3 x4 x5)
      (iota .tc S528x1 32 [0] iota_S528x1_d0_w32) k0_pay5 (Scalar.cmpi .eq (BitVec.ofNat 32 (i 1).val) 0#32) = f) :
      k0_pay7 (BitVec.ofNat 32 (i 1).val) (k0_pay4 x0 x1 x2 x3 x4 x5) (iota .tc S528x1 32 [0] iota_S528x1_d0_w32) k0_pay5
        (Scalar.cmpi .eq (BitVec.ofNat 32 (i 1).val) 0#32) w (ix2 r j) = ∑ e : Fin 1024, f (ix2 r e) * w (ix2 e j) := by
    unfold k0_pay7
    rw [hf]
    pointwise
  exact h _ rfl

/-- A row projected. -/
theorem xi_apply (i : grid0.Coords) (x0 : Vec Ideal S1x8x1024 .f32) (x1 : Vec Ideal S1x512x1024 .f32) (x2 : Vec Ideal S1x8x1024 .f32)
    (x3 : Vec Ideal S1x1024 .f32) (x4 x5 : Vec Ideal S1x1x1024 .f32) (x6 : Vec Ideal S1024x2304 .bf16) (r : Fin 528) (j : Fin 2304) :
    xi i x0 x1 x2 x3 x4 x5 x6 (ix2 r j) = ∑ e : Fin 1024, nx i x0 x1 x2 x3 x4 x5 (ix2 r e) * x6 (ix2 e j) := by
  refine (pay7_apply i x0 x1 x2 x3 x4 x5 (wc x6 ⟨j.val / 768, by omega⟩) r ⟨j.val % 768, by omega⟩).trans ?_
  refine Finset.sum_congr rfl fun e _ => congrArg (nx i x0 x1 x2 x3 x4 x5 (ix2 r e) * ·) ?_
  have h (n : Fin 3) (l : Fin 768) : wc x6 n (ix2 e l) = x6 (ix2 e (⟨768 * n.val + l.val, by omega⟩ : Fin 2304)) := by
    pointwise [wc]
  rw [h]
  exact congrArg (fun j => x6 (ix2 e j)) (Fin.ext (show 768 * (j.val / 768) + j.val % 768 = j.val by omega))

variable (s : FVec Ideal S528x2304 .f32)

/-- The queries' latent rows. -/
theorem sq_apply (r : Fin 512) (j : Fin 384) : sq s (ix2 r j) = s (ix2 (⟨8 + r.val, by omega⟩ : Fin 528) (⟨0 + j.val, by omega⟩ : Fin 2304)) := by
  pointwise [sq]
/-- The latent rows of keys and values. -/
theorem skv_apply (r : Fin 512) (j : Fin 256) : skv s (ix2 r j) = s (ix2 (⟨8 + r.val, by omega⟩ : Fin 528) (⟨384 + j.val, by omega⟩ : Fin 2304)) := by
  pointwise [skv]
/-- The rows turned for the keys. -/
theorem skr_apply (r : Fin 512) (j : Fin 128) : skr s (ix2 r j) = s (ix2 (⟨8 + r.val, by omega⟩ : Fin 528) (⟨640 + j.val, by omega⟩ : Fin 2304)) := by
  pointwise [skr]
/-- The rows of the matrix LSTM's values. -/
theorem sv_apply (r : Fin 512) (j : Fin 256) : sv s (ix2 r j) = s (ix2 (⟨8 + r.val, by omega⟩ : Fin 528) (⟨1024 + j.val, by omega⟩ : Fin 2304)) := by
  pointwise [sv]
/-- The rows of its features, three in a row. -/
theorem su_apply (r : Fin 512) (j : Fin 256) : su7 s (ix2 r j) = s (ix2 (⟨7 + r.val, by omega⟩ : Fin 528) (⟨768 + j.val, by omega⟩ : Fin 2304))
    ∧ su8 s (ix2 r j) = s (ix2 (⟨8 + r.val, by omega⟩ : Fin 528) (⟨768 + j.val, by omega⟩ : Fin 2304))
    ∧ su9 s (ix2 r j) = s (ix2 (⟨9 + r.val, by omega⟩ : Fin 528) (⟨768 + j.val, by omega⟩ : Fin 2304)) := by
  refine ⟨?_, ?_, ?_⟩ <;> pointwise [su7, su8, su9]
/-- The rows of the Hyena mixer, three in a row. -/
theorem sh_apply (r : Fin 512) (j : Fin 768) : sh7 s (ix2 r j) = s (ix2 (⟨7 + r.val, by omega⟩ : Fin 528) (⟨1536 + j.val, by omega⟩ : Fin 2304))
    ∧ sh8 s (ix2 r j) = s (ix2 (⟨8 + r.val, by omega⟩ : Fin 528) (⟨1536 + j.val, by omega⟩ : Fin 2304))
    ∧ sh9 s (ix2 r j) = s (ix2 (⟨9 + r.val, by omega⟩ : Fin 528) (⟨1536 + j.val, by omega⟩ : Fin 2304)) := by
  refine ⟨?_, ?_, ?_⟩ <;> pointwise [sh7, sh8, sh9]

/-- The output gates. -/
theorem oo_apply (r : Fin 512) (j : Fin 256) : oo s (ix3 0 r j) = s (ix2 (⟨8 + r.val, by omega⟩ : Fin 528) (⟨1280 + j.val, by omega⟩ : Fin 2304)) := by
  pointwise [oo, so, k0_pay30]

/-- A chunk of a transposed tile. -/
theorem chunks_apply (f : FVec Ideal S256x512 .f32) (n : Fin 4) (j : Fin 256) (r : Fin 128) :
    chunks f (ix4 0 n j r) = f (ix2 j (⟨128 * n.val + r.val, by omega⟩ : Fin 512)) := by
  show ![k0_pay47 f, k0_pay52 f, k0_pay57 f, k0_pay62 f] n (ix4 0 0 j r) = _
  fin_cases n
  · show k0_pay47 f (ix4 0 0 j r) = f (ix2 j (⟨0 + r.val, _⟩ : Fin 512))
    pointwise [k0_pay47]
  · show k0_pay52 f (ix4 0 0 j r) = f (ix2 j (⟨128 + r.val, _⟩ : Fin 512))
    pointwise [k0_pay52]
  · show k0_pay57 f (ix4 0 0 j r) = f (ix2 j (⟨256 + r.val, _⟩ : Fin 512))
    pointwise [k0_pay57]
  · show k0_pay62 f (ix4 0 0 j r) = f (ix2 j (⟨384 + r.val, _⟩ : Fin 512))
    pointwise [k0_pay62]

/-- The matrix LSTM's values, transposed. -/
theorem pay29_apply (f : FVec Ideal S512x256 .f32) (j : Fin 256) (r : Fin 512) : k0_pay29 f (ix2 j r) = f (ix2 r j) := by
  pointwise [k0_pay29]

/-- The second to last chunks are cut as the first is. -/
theorem chunk_names (f : FVec Ideal S256x512 .f32) : ![k0_pay48 f, k0_pay53 f, k0_pay58 f, k0_pay63 f] = ![k0_pay47 f, k0_pay52 f, k0_pay57 f, k0_pay62 f] := rfl

/-- The Hyena mixer's convolution. -/
theorem pay1_apply (w : Vec Ideal S3x768 .f32) (b : Vec Ideal S1x768 .f32) (x y z : Vec Ideal S512x768 .f32) (r : Fin 512) (j : Fin 768) :
    k0_pay1 (k0_pay64 w b x y) (k0_pay65 w) z (ix2 r j)
      = b (ix2 0 j) + w (ix2 0 j) * x (ix2 r j) + w (ix2 1 j) * y (ix2 r j) + w (ix2 2 j) * z (ix2 r j) := by
  pointwise [k0_pay1, k0_pay64, k0_pay65]

/-- Its first part. -/
theorem ox_apply (w : Vec Ideal S3x768 .f32) (b : Vec Ideal S1x768 .f32) (r : Fin 512) (j : Fin 256) :
    ox s w b (ix3 0 r j) = k0_pay1 (k0_pay64 w b (sh7 s) (sh8 s)) (k0_pay65 w) (sh9 s) (ix2 r (⟨0 + j.val, by omega⟩ : Fin 768)) := by
  unfold ox k0_pay2
  generalize k0_pay1 (k0_pay64 w b (sh7 s) (sh8 s)) (k0_pay65 w) (sh9 s) = f
  pointwise

/-- The product of the other two. -/
theorem oz_apply (w : Vec Ideal S3x768 .f32) (b : Vec Ideal S1x768 .f32) (r : Fin 512) (j : Fin 256) :
    oz s w b (ix2 r j) = k0_pay1 (k0_pay64 w b (sh7 s) (sh8 s)) (k0_pay65 w) (sh9 s) (ix2 r (⟨256 + j.val, by omega⟩ : Fin 768))
      * k0_pay1 (k0_pay64 w b (sh7 s) (sh8 s)) (k0_pay65 w) (sh9 s) (ix2 r (⟨512 + j.val, by omega⟩ : Fin 768)) := by
  unfold oz k0_pay3
  generalize k0_pay1 (k0_pay64 w b (sh7 s) (sh8 s)) (k0_pay65 w) (sh9 s) = f
  pointwise

/-- The latent rows of keys and values, normed. -/
theorem pay15_apply (f : Vec Ideal S512x256 .f32) (g : Vec Ideal S1x256 .f32) (r : Fin 512) (k : Fin 256) :
    k0_pay15 f (k0_pay13 f) k0_pay14 g (ix2 r k)
      = Mix.rms (Ideal.ofBits .f32 0x43800000#32) (fun k => g (ix2 0 k)) (fun k => f (ix2 r k)) k := by
  pointwise [k0_pay15, k0_pay13, k0_pay14]
  rfl

/-- The values. -/
theorem ov_apply (g : Vec Ideal S1x256 .f32) (w : Vec Ideal S256x512 .bf16) (r : Fin 512) (j : Fin 512) :
    ov s g w (ix3 0 r j) = ∑ k : Fin 256, Mix.rms (Ideal.ofBits .f32 0x43800000#32) (fun k => g (ix2 0 k)) (fun k => skv s (ix2 r k)) k * w (ix2 k j) := by
  have h (f : FVec Ideal S512x256 .bf16) (hf : k0_pay15 (skv s) (k0_pay13 (skv s)) k0_pay14 g = f) :
      ov s g w (ix3 0 r j) = ∑ k : Fin 256, f (ix2 r k) * w (ix2 k j) := by
    unfold ov k0_pay17
    rw [hf]
    pointwise
  simp only [h _ rfl, pay15_apply]

/-- The matrix LSTM's gated features. -/
theorem pay26_apply (w : Vec Ideal S3x256 .f32) (b : Vec Ideal S1x256 .f32) (x y z : Vec Ideal S512x256 .f32) (r : Fin 512) (j : Fin 256) :
    k0_pay26 (k0_pay24 w b x y) (k0_pay25 w) z (ix2 r j)
      = (b (ix2 0 j) + w (ix2 0 j) * x (ix2 r j) + w (ix2 1 j) * y (ix2 r j) + w (ix2 2 j) * z (ix2 r j))
        * Ideal.logistic (b (ix2 0 j) + w (ix2 0 j) * x (ix2 r j) + w (ix2 1 j) * y (ix2 r j) + w (ix2 2 j) * z (ix2 r j)) := by
  pointwise [k0_pay26, k0_pay24, k0_pay25]

/-- The matrix LSTM's keys. -/
theorem omk_apply (c : Vec Ideal S3x256 .f32) (b : Vec Ideal S1x256 .f32) (w : Vec Ideal S256x256 .bf16) (r : Fin 512) (j : Fin 256) :
    omk s c b w (ix3 0 r j) = ∑ k : Fin 256, k0_pay26 (k0_pay24 c b (su7 s) (su8 s)) (k0_pay25 c) (su9 s) (ix2 r k) * w (ix2 k j) := by
  unfold omk k0_pay27
  generalize k0_pay26 (k0_pay24 c b (su7 s) (su8 s)) (k0_pay25 c) (su9 s) = f
  pointwise

/-- The matrix LSTM's queries. -/
theorem omq_apply (c : Vec Ideal S3x256 .f32) (b : Vec Ideal S1x256 .f32) (w : Vec Ideal S256x256 .bf16) (j : Fin 256) (r : Fin 512) :
    omq s c b w (ix2 j r) = ∑ k : Fin 256, k0_pay26 (k0_pay24 c b (su7 s) (su8 s)) (k0_pay25 c) (su9 s) (ix2 r k) * w (ix2 k j) := by
  unfold omq k0_pay28
  generalize k0_pay26 (k0_pay24 c b (su7 s) (su8 s)) (k0_pay25 c) (su9 s) = f
  pointwise

/-- A block of 128 lanes, once for each of the eight heads. -/
def tile8 (p : FVec Ideal S512x128 .f32) : FVec Ideal S512x1024 .f32 := fun y =>
  p (ix2 (⟨(y 0).val, (y 0).isLt⟩ : Fin 512) (⟨(y 1).val % 128, Nat.mod_lt _ (by decide)⟩ : Fin 128))

/-- Eight copies side by side. -/
theorem tile8_eq (p : FVec Ideal S512x128 .f32) (h) :
    concatenate S512x1024 1 [⟨S512x128, p⟩, ⟨S512x128, p⟩, ⟨S512x128, p⟩, ⟨S512x128, p⟩, ⟨S512x128, p⟩, ⟨S512x128, p⟩, ⟨S512x128, p⟩, ⟨S512x128, p⟩] h
      = tile8 p := by
  funext y
  idx_vars y
  show _ = p (ix2 y0 (⟨y1.val % 128, _⟩ : Fin 128))
  pointwise
  split_ifs <;> exact congrArg (fun l => p (ix2 y0 l)) (Fin.ext (by dsimp only; omega))

/-- The queries. -/
theorem oq_apply (g : Vec Ideal S1x384 .f32) (w u : Vec Ideal S384x1024 .bf16) (p q : Vec Ideal S512x128 .f32) (r : Fin 512) (j : Fin 1024) :
    oq s g w u p q (ix3 0 r j)
      = ((∑ k : Fin 384, Mix.rms (Ideal.ofBits .f32 0x43C00000#32) (fun k => g (ix2 0 k)) (fun k => sq s (ix2 r k)) k * w (ix2 k j))
          * p (ix2 r (⟨j.val % 128, by omega⟩ : Fin 128))
        + (∑ k : Fin 384, Mix.rms (Ideal.ofBits .f32 0x43C00000#32) (fun k => g (ix2 0 k)) (fun k => sq s (ix2 r k)) k * u (ix2 k j))
          * q (ix2 r (⟨j.val % 128, by omega⟩ : Fin 128))) * Ideal.ofBits .f32 0x3E16C740#32 := by
  unfold oq k0_pay12
  generalize sq s = f
  simp only [tile8_eq]
  pointwise [k0_pay10, k0_pay11, tile8]
  rfl

/-- The rows turned for the keys, moved up by 64 lanes and cut off after 32. -/
theorem pay18_apply (f : Vec Ideal S512x128 .f32) (r : Fin 512) (l : Fin 128) :
    k0_pay18 f (ix2 r l) = if h : 64 ≤ l.val ∧ l.val < 96 then f (ix2 r (⟨l.val - 64, by omega⟩ : Fin 128)) else 0 := by
  pointwise [k0_pay18]
  word_cmp
  by_cases h : 64 ≤ l.val ∧ l.val < 96
  · rw [dif_pos h, if_pos (by omega)]
    exact congrArg (fun l => f (ix2 r l)) (Fin.ext (by dsimp only; omega))
  · rw [dif_neg h, if_neg (by omega)]

/-- The test of a lane against 80, as the words decide it. -/
theorem lane_bit : ∀ l : Fin 128, IntOp.cmpi CmpIPredicate.slt
      (Scalar.select
        (IntOp.andi
          (IntOp.xori (IntOp.cmpi CmpIPredicate.slt (IntOp.remsi ArithUnit.vector (BitVec.ofNat 32 l.val) 128#32) 0#32)
            (Scalar.cmpi CmpIPredicate.slt (128#32) 0#32))
          (IntOp.cmpi CmpIPredicate.ne (IntOp.remsi ArithUnit.vector (BitVec.ofNat 32 l.val) 128#32) 0#32))
        (IntOp.addi (IntOp.remsi ArithUnit.vector (BitVec.ofNat 32 l.val) 128#32) 128#32)
        (IntOp.remsi ArithUnit.vector (BitVec.ofNat 32 l.val) 128#32))
      80#32 = BitVec.ofBool (decide (l.val < 80)) := by
  decide +kernel

/-- The lanes turned for the keys: each lane with its cosine, and with its sine the lane sixteen above or below it. -/
theorem turn_apply (R : FVec Ideal S512x128 .f32) (K : FVec Ideal S512x1024 .f32) (p q : Vec Ideal S512x128 .f32) (r : Fin 512) (j : Fin 1024) :
    k0_pay23 (k0_pay11 q) K R (mulf R (k0_pay10 p)) (Scalar.select (Scalar.cmpi .eq 128#32 0#32) 1#32 128#32) k0_pay20 k0_pay21 k0_pay22 (ix3 0 r j)
      = K (ix2 r j) + (R (ix2 r (⟨j.val % 128, by omega⟩ : Fin 128)) * p (ix2 r (⟨j.val % 128, by omega⟩ : Fin 128))
        + (if j.val % 128 < 80 then R (ix2 r (⟨(j.val % 128 + 16) % 128, by omega⟩ : Fin 128))
            else R (ix2 r (⟨(j.val % 128 + 112) % 128, by omega⟩ : Fin 128))) * q (ix2 r (⟨j.val % 128, by omega⟩ : Fin 128))) := by
  unfold k0_pay23
  simp only [tile8_eq]
  pointwise [tile8, k0_pay20, k0_pay21, k0_pay22, k0_pay10, k0_pay11]
  have e : Scalar.select (Scalar.cmpi .eq 128#32 0#32) 1#32 128#32 = 128#32 := by decide
  simp only [e]
  have hb := lane_bit ⟨j.val % 128, Nat.mod_lt _ (by decide)⟩
  dsimp only at hb
  rw [hb]
  have e1 : (j.val % 128 + 128 - 112) % 128 = (j.val % 128 + 16) % 128 := by omega
  have e2 : (j.val % 128 + 128 - 16) % 128 = (j.val % 128 + 112) % 128 := by omega
  simp only [e1, e2]
  by_cases h : j.val % 128 < 80
  · simp [Scalar.select, h]
  · simp [Scalar.select, h]

/-- Keys without positions. -/
theorem pay16_apply (f : Vec Ideal S512x256 .f32) (g : Vec Ideal S1x256 .f32) (w : Vec Ideal S256x1024 .bf16) (r : Fin 512) (j : Fin 1024) :
    k0_pay16 f (k0_pay13 f) k0_pay14 g w (ix2 r j)
      = ∑ k : Fin 256, Mix.rms (Ideal.ofBits .f32 0x43800000#32) (fun k => g (ix2 0 k)) (fun k => f (ix2 r k)) k * w (ix2 k j) := by
  have h (a : FVec Ideal S512x256 .bf16) (ha : k0_pay15 f (k0_pay13 f) k0_pay14 g = a) :
      k0_pay16 f (k0_pay13 f) k0_pay14 g w (ix2 r j) = ∑ k : Fin 256, a (ix2 r k) * w (ix2 k j) := by
    unfold k0_pay16
    rw [ha]
    pointwise
  simp only [h _ rfl, pay15_apply]

/-- The keys. -/
theorem ok_apply (g : Vec Ideal S1x256 .f32) (w : Vec Ideal S256x1024 .bf16) (p q : Vec Ideal S512x128 .f32) (r : Fin 512) (j : Fin 1024) :
    ok s g w p q (ix3 0 r j)
      = (∑ k : Fin 256, Mix.rms (Ideal.ofBits .f32 0x43800000#32) (fun k => g (ix2 0 k)) (fun k => skv s (ix2 r k)) k * w (ix2 k j))
        + (k0_pay18 (skr s) (ix2 r (⟨j.val % 128, by omega⟩ : Fin 128)) * p (ix2 r (⟨j.val % 128, by omega⟩ : Fin 128))
        + (if j.val % 128 < 80 then k0_pay18 (skr s) (ix2 r (⟨(j.val % 128 + 16) % 128, by omega⟩ : Fin 128))
            else k0_pay18 (skr s) (ix2 r (⟨(j.val % 128 + 112) % 128, by omega⟩ : Fin 128))) * q (ix2 r (⟨j.val % 128, by omega⟩ : Fin 128))) := by
  rw [← pay16_apply]
  unfold ok k0_pay19
  exact turn_apply _ _ p q r j

end Cert.MixerInIdeal.Body

end
-- ==== Proof.Mix.Host.lean ====
module

public import proofs.«01_k».proof.Proof.Mix.Spec
public import proofs.«01_k».proof.Proof.Gen.MixerInIdeal.Frame.Runs
public import Idealize.ShloMosaic.Lib.Pipeline.ValueKit
public import Idealize.ShloMosaic.Lib.Pointwise
public import Idealize.ShloMosaic.Lib.ValueIdx
public import Idealize.ShloMosaic.Lib.WordCmp
public import Idealize.ShloMosaic.Lib.StableHlo.RunRead

/-! # The arrays the windows of the projections into the mixers read, and where each block lies -/

@[expose] public section

set_option maxRecDepth 16384

noncomputable section

namespace Cert.MixerInIdeal.Blocks

open Cert.MixerInIdeal Cert.MixerInIdeal.Gen Idealize.ShloMosaic Idealize.ShloMosaic.TcCoe Idealize.SL.Sem
open Idealize.ShloMosaic.Pipeline (Dat)

/-! ## The weights as they are laid out for the kernel -/

/-- The projection into the mixers, its gates' columns and 80 zeros put after the latents' columns. -/
def packIn (w : FVec Ideal S1024x2224 .f32) : FVec Ideal S1024x2304 .bf16 :=
  truncf .bf16 (concatenate S1024x2304 1
    [⟨S1024x672, extractStridedSlice S1024x672 ![0, 0] w slices_S1024x2224_S1024x672_0_0⟩,
      ⟨S1024x16, extractStridedSlice S1024x16 ![0, 1440] w slices_S1024x2224_S1024x16_0_1440⟩,
      ⟨S1024x80, broadcastInDim S1024x80 ![] bcast_S_S1024x80 (constant S_ .f32 0x00000000#32)⟩,
      ⟨S1024x768, extractStridedSlice S1024x768 ![0, 672] w slices_S1024x2224_S1024x768_0_672⟩,
      ⟨S1024x768, extractStridedSlice S1024x768 ![0, 1456] w slices_S1024x2224_S1024x768_0_1456⟩]
    concatenates_S1024x672_S1024x16_S1024x80_S1024x768_S1024x768_S1024x2304_d1) bitsLt_bf16_f32

/-- The keys' weight: per head its 64 columns and 64 of zeros. -/
def packK (w : FVec Ideal S256x1024 .f32) : FVec Ideal S256x1024 .bf16 :=
  truncf .bf16 (shapeCast S256x1024 (concatenate S256x8x128 2
    [⟨S256x8x64, extractStridedSlice S256x8x64 ![0, 0, 0] (shapeCast S256x8x128 w shapeCasts_S256x1024_S256x8x128) slices_S256x8x128_S256x8x64_0_0_0⟩,
      ⟨S256x8x64, broadcastInDim S256x8x64 ![] bcast_S_S256x8x64 (constant S_ .f32 0x00000000#32)⟩]
    concatenates_S256x8x64_S256x8x64_S256x8x128_d2) shapeCasts_S256x8x128_S256x1024) bitsLt_bf16_f32

/-- The values' weight: per head its 64 columns. -/
def packV (w : FVec Ideal S256x1024 .f32) : FVec Ideal S256x512 .bf16 :=
  truncf .bf16 (shapeCast S256x512 (extractStridedSlice S256x8x64 ![0, 0, 64] (shapeCast S256x8x128 w shapeCasts_S256x1024_S256x8x128)
    slices_S256x8x128_S256x8x64_0_0_64) shapeCasts_S256x8x64_S256x512) bitsLt_bf16_f32

/-- The queries' weight: per head its 96 columns and 32 of zeros. -/
def packQ (w : FVec Ideal S384x768 .f32) : FVec Ideal S384x1024 .bf16 :=
  truncf .bf16 (shapeCast S384x1024 (concatenate S384x8x128 2
    [⟨S384x8x96, shapeCast S384x8x96 w shapeCasts_S384x768_S384x8x96⟩,
      ⟨S384x8x32, broadcastInDim S384x8x32 ![] bcast_S_S384x8x32 (constant S_ .f32 0x00000000#32)⟩]
    concatenates_S384x8x96_S384x8x32_S384x8x128_d2) shapeCasts_S384x8x128_S384x1024) bitsLt_bf16_f32

/-- The queries' weight with the halves of each head's turned columns exchanged, zero elsewhere. -/
def swapQ (w : FVec Ideal S384x768 .f32) : FVec Ideal S384x1024 .bf16 :=
  truncf .bf16 (shapeCast S384x1024 (concatenate S384x8x128 2
    [⟨S384x8x64, broadcastInDim S384x8x64 ![] bcast_S_S384x8x64 (constant S_ .f32 0x00000000#32)⟩,
      ⟨S384x8x16, extractStridedSlice S384x8x16 ![0, 0, 80] (shapeCast S384x8x96 w shapeCasts_S384x768_S384x8x96) slices_S384x8x96_S384x8x16_0_0_80⟩,
      ⟨S384x8x16, extractStridedSlice S384x8x16 ![0, 0, 64] (shapeCast S384x8x96 w shapeCasts_S384x768_S384x8x96) slices_S384x8x96_S384x8x16_0_0_64⟩,
      ⟨S384x8x32, broadcastInDim S384x8x32 ![] bcast_S_S384x8x32 (constant S_ .f32 0x00000000#32)⟩]
    concatenates_S384x8x64_S384x8x16_S384x8x16_S384x8x32_S384x8x128_d2) shapeCasts_S384x8x128_S384x1024) bitsLt_bf16_f32

/-- The cosines per lane: 64 ones, the cosines twice, 32 zeros. -/
def cosT (a : FVec Ideal S4096x16 .f32) : FVec Ideal S4096x128 .f32 :=
  concatenate S4096x128 1
    [⟨S4096x64, broadcastInDim S4096x64 ![] bcast_S_S4096x64 (constant S_ .f32 0x3F800000#32)⟩, ⟨S4096x16, a⟩, ⟨S4096x16, a⟩,
      ⟨S4096x32, broadcastInDim S4096x32 ![] bcast_S_S4096x32 (constant S_ .f32 0x00000000#32)⟩]
    concatenates_S4096x64_S4096x16_S4096x16_S4096x32_S4096x128_d1

/-- The sines per lane: 64 zeros, the sines negated, the sines, 32 zeros. -/
def sinT (a : FVec Ideal S4096x16 .f32) : FVec Ideal S4096x128 .f32 :=
  concatenate S4096x128 1
    [⟨S4096x64, broadcastInDim S4096x64 ![] bcast_S_S4096x64 (constant S_ .f32 0x00000000#32)⟩, ⟨S4096x16, Host.negf a⟩, ⟨S4096x16, a⟩,
      ⟨S4096x32, broadcastInDim S4096x32 ![] bcast_S_S4096x32 (constant S_ .f32 0x00000000#32)⟩]
    concatenates_S4096x64_S4096x16_S4096x16_S4096x32_S4096x128_d1

/-- One matrix per head, on the diagonal of a matrix over all heads. -/
def diag (w : FVec Ideal S4x64x64 .f32) : FVec Ideal S256x256 .f32 :=
  shapeCast S256x256 (mulf
    (broadcastInDim S4x64x4x64 ![0, 1, 2, 3] bcast_S4x64x1x64_S4x64x4x64_0_1_2_3 (broadcastInDim S4x64x1x64 ![0, 1, 3] bcast_S4x64x64_S4x64x1x64_0_1_3 w))
    (broadcastInDim S4x64x4x64 ![0, 1, 2, 3] bcast_S4x1x4x1_S4x64x4x64_0_1_2_3 (broadcastInDim S4x1x4x1 ![0, 2] bcast_S4x4_S4x1x4x1_0_2
      (uitofp (F := Ideal) .f32 (cmpi .eq (addi (iotaInDim S4x4 32 0) (broadcastInDim S4x4 ![] bcast_S_S4x4 (constantI S_ 32 0#32))) (iotaInDim S4x4 32 1))))))
    shapeCasts_S4x64x4x64_S256x256

/-- The original column of a laid-out one. -/
theorem packIn_apply (w : FVec Ideal S1024x2224 .f32) (e : Fin 1024) (j : Fin 2304) (k : Fin 2224)
    (h : (j.val < 672 ∧ k.val = j.val) ∨ (768 ≤ j.val ∧ j.val < 1536 ∧ k.val + 96 = j.val) ∨ (1536 ≤ j.val ∧ k.val + 80 = j.val)) :
    packIn w (ix2 e j) = w (ix2 e k) := by
  pointwise [packIn]
  split_ifs
  all_goals first
    | exact congrArg (fun l => w (ix2 e l)) (Fin.ext (by dsimp only; omega))
    | (exfalso; omega)

/-- A head's keys' columns. -/
theorem packK_apply (w : FVec Ideal S256x1024 .f32) (k : Fin 256) (j : Fin 1024) :
    packK w (ix2 k j) = if j.val % 128 < 64 then w (ix2 k j) else 0 := by
  pointwise [packK]
  split_ifs
  all_goals first
    | rfl
    | exact congrArg (fun l => w (ix2 k l)) (Fin.ext (by dsimp only; omega))

/-- A head's values' columns. -/
theorem packV_apply (w : FVec Ideal S256x1024 .f32) (k : Fin 256) (j : Fin 512) :
    packV w (ix2 k j) = w (ix2 k (⟨128 * (j.val / 64) + 64 + j.val % 64, by omega⟩ : Fin 1024)) := by
  pointwise [packV]
  exact congrArg (fun l => w (ix2 k l)) (Fin.ext (by dsimp only; omega))

/-- A head's queries' columns. -/
theorem packQ_apply (w : FVec Ideal S384x768 .f32) (k : Fin 384) (j : Fin 1024) :
    packQ w (ix2 k j) = if h : j.val % 128 < 96 then w (ix2 k (⟨96 * (j.val / 128) + j.val % 128, by omega⟩ : Fin 768)) else 0 := by
  pointwise [packQ]
  split_ifs
  · exact congrArg (fun l => w (ix2 k l)) (Fin.ext (by dsimp only; omega))
  all_goals rfl

/-- The same with the turned columns' halves exchanged. -/
theorem swapQ_apply (w : FVec Ideal S384x768 .f32) (k : Fin 384) (j : Fin 1024) :
    swapQ w (ix2 k j) = if h : 64 ≤ j.val % 128 ∧ j.val % 128 < 80 then w (ix2 k (⟨96 * (j.val / 128) + 16 + j.val % 128, by omega⟩ : Fin 768))
      else if h : 80 ≤ j.val % 128 ∧ j.val % 128 < 96 then w (ix2 k (⟨96 * (j.val / 128) + (j.val % 128 - 16), by omega⟩ : Fin 768)) else 0 := by
  pointwise [swapQ]
  by_cases h1 : j.val % 128 < 64
  · rw [dif_pos h1, dif_neg (show ¬ (64 ≤ j.val % 128 ∧ j.val % 128 < 80) by omega), dif_neg (show ¬ (80 ≤ j.val % 128 ∧ j.val % 128 < 96) by omega)]
  rw [dif_neg h1]
  by_cases h2 : j.val % 128 < 80
  · rw [dif_pos (show j.val % 128 - 64 < 16 by omega), dif_pos (show 64 ≤ j.val % 128 ∧ j.val % 128 < 80 by omega)]
    exact congrArg (fun l => w (ix2 k l)) (Fin.ext (show j.val / 128 * 96 + (80 + (j.val % 128 - 64)) = 96 * (j.val / 128) + 16 + j.val % 128 by omega))
  rw [dif_neg (show ¬ j.val % 128 - 64 < 16 by omega), dif_neg (show ¬ (64 ≤ j.val % 128 ∧ j.val % 128 < 80) by omega)]
  by_cases h3 : j.val % 128 < 96
  · rw [dif_pos (show j.val % 128 - 64 - 16 < 16 by omega), dif_pos (show 80 ≤ j.val % 128 ∧ j.val % 128 < 96 by omega)]
    exact congrArg (fun l => w (ix2 k l)) (Fin.ext (show j.val / 128 * 96 + (64 + (j.val % 128 - 64 - 16)) = 96 * (j.val / 128) + (j.val % 128 - 16) by omega))
  rw [dif_neg (show ¬ j.val % 128 - 64 - 16 < 16 by omega), dif_neg (show ¬ (80 ≤ j.val % 128 ∧ j.val % 128 < 96) by omega)]

/-- The cosine of a lane. -/
theorem cosT_apply (a : FVec Ideal S4096x16 .f32) (n : Fin 4096) (l : Fin 128) :
    cosT a (ix2 n l) = if h : l.val < 64 then 1 else if h : l.val < 80 then a (ix2 n (⟨l.val - 64, by omega⟩ : Fin 16))
      else if h : l.val < 96 then a (ix2 n (⟨l.val - 80, by omega⟩ : Fin 16)) else 0 := by
  pointwise [cosT]
  by_cases h1 : l.val < 64
  · rw [dif_pos h1, dif_pos h1]
  rw [dif_neg h1, dif_neg h1]
  by_cases h2 : l.val < 80
  · rw [dif_pos (show l.val - 64 < 16 by omega), dif_pos h2]
  rw [dif_neg (show ¬ l.val - 64 < 16 by omega), dif_neg h2]
  by_cases h3 : l.val < 96
  · rw [dif_pos (show l.val - 64 - 16 < 16 by omega), dif_pos h3]
    exact congrArg (fun l => a (ix2 n l)) (Fin.ext (show l.val - 64 - 16 = l.val - 80 by omega))
  rw [dif_neg (show ¬ l.val - 64 - 16 < 16 by omega), dif_neg h3]

/-- The sine of a lane, with its sign. -/
theorem sinT_apply (a : FVec Ideal S4096x16 .f32) (n : Fin 4096) (l : Fin 128) :
    sinT a (ix2 n l) = if h : l.val < 64 then 0 else if h : l.val < 80 then -a (ix2 n (⟨l.val - 64, by omega⟩ : Fin 16))
      else if h : l.val < 96 then a (ix2 n (⟨l.val - 80, by omega⟩ : Fin 16)) else 0 := by
  pointwise [sinT]
  by_cases h1 : l.val < 64
  · rw [dif_pos h1, dif_pos h1]
  rw [dif_neg h1, dif_neg h1]
  by_cases h2 : l.val < 80
  · rw [dif_pos (show l.val - 64 < 16 by omega), dif_pos h2]
  rw [dif_neg (show ¬ l.val - 64 < 16 by omega), dif_neg h2]
  by_cases h3 : l.val < 96
  · rw [dif_pos (show l.val - 64 - 16 < 16 by omega), dif_pos h3]
    exact congrArg (fun l => a (ix2 n l)) (Fin.ext (show l.val - 64 - 16 = l.val - 80 by omega))
  rw [dif_neg (show ¬ l.val - 64 - 16 < 16 by omega), dif_neg h3]

/-- A matrix per head where row and column are of one head, zero elsewhere. -/
theorem diag_apply (w : FVec Ideal S4x64x64 .f32) (k j : Fin 256) :
    diag w (ix2 k j) = if k.val / 64 = j.val / 64 then w (ix3 (⟨k.val / 64, by omega⟩ : Fin 4) (⟨k.val % 64, by omega⟩ : Fin 64) (⟨j.val % 64, by omega⟩ : Fin 64)) else 0 := by
  pointwise [diag]
  word_cmp
  have e : (IntOp.addi (BitVec.ofNat 32 (k.val / 64)) 0#32).toNat = k.val / 64 := by
    show (BitVec.ofNat 32 (k.val / 64) + 0#32).toNat = k.val / 64
    rw [BitVec.add_zero, BitVec.toNat_ofNat]
    omega
  rw [e]
  by_cases h : k.val / 64 = j.val / 64
  · simp [h, FloatOps.uitofp]
  · simp [h, FloatOps.uitofp]

variable (m : (ℓ : Loc nD τ sig) → Buf (Elt Ideal) ℓ) (c : Dev nD)

/-! ## The windows' arrays -/

/-- The rows are read as they are passed. -/
theorem entry_x : V m c main_arg0 = m (c, main_arg0) := by
  after_reads_simp
/-- The rows' norm's gain, as a row. -/
theorem entry_g : V m c main_v47 = shapeCast S1x1024 (m (c, main_arg1) : FVec Ideal S1024 .f32) shapeCasts_S1024_S1x1024 := by
  after_reads_simp
  rfl
/-- The modulation's scale is read as it is passed. -/
theorem entry_sc : V m c main_arg2 = m (c, main_arg2) := by
  after_reads_simp
/-- The modulation's shift is read as it is passed. -/
theorem entry_sh : V m c main_arg3 = m (c, main_arg3) := by
  after_reads_simp
/-- The projection into the mixers, laid out. -/
theorem entry_wi : V m c main_v54 = packIn (m (c, main_arg4)) := by
  after_reads_simp
  rfl
/-- The queries' latent norm's gain, as a row. -/
theorem entry_gq : V m c main_v55 = shapeCast S1x384 (m (c, main_arg5) : FVec Ideal S384 .f32) shapeCasts_S384_S1x384 := by
  after_reads_simp
  rfl
/-- The keys' latent norm's gain, as a row. -/
theorem entry_gkv : V m c main_v56 = shapeCast S1x256 (m (c, main_arg6) : FVec Ideal S256 .f32) shapeCasts_S256_S1x256 := by
  after_reads_simp
  rfl
/-- The queries' weight, laid out. -/
theorem entry_wq : V m c main_v61 = packQ (m (c, main_arg7)) := by
  after_reads_simp
  rfl
/-- The queries' weight, laid out with halves exchanged. -/
theorem entry_ws : V m c main_v69 = swapQ (m (c, main_arg7)) := by
  after_reads_simp
  rfl
/-- The keys' weight, laid out. -/
theorem entry_wk : V m c main_v13 = packK (m (c, main_arg8)) := by
  after_reads_simp
  rfl
/-- The values' weight, laid out. -/
theorem entry_wv : V m c main_v14 = packV (m (c, main_arg8)) := by
  after_reads_simp
  rfl
/-- The cosines, laid out. -/
theorem entry_cos : V m c main_v3 = cosT (m (c, main_arg9)) := by
  after_reads_simp
  rfl
/-- The sines, laid out. -/
theorem entry_sin : V m c main_v5 = sinT (m (c, main_arg10)) := by
  after_reads_simp
  rfl
/-- The taps of the matrix LSTM's convolution are read as they are passed. -/
theorem entry_mcw : V m c main_arg11 = m (c, main_arg11) := by
  after_reads_simp
/-- Its bias, as a row. -/
theorem entry_mcb : V m c main_v70 = shapeCast S1x256 (m (c, main_arg12) : FVec Ideal S256 .f32) shapeCasts_S256_S1x256 := by
  after_reads_simp
  rfl
/-- The matrix LSTM's query weights, on the diagonal. -/
theorem entry_mwq : V m c main_v27 = diag (m (c, main_arg13)) := by
  after_reads_simp
  rfl
/-- The matrix LSTM's key weights, on the diagonal and scaled. -/
theorem entry_mwk : V m c main_v42 = mulf (diag (m (c, main_arg14))) (broadcastInDim S256x256 ![] bcast_S_S256x256 (constant (F := Ideal) S_ .f32 0x3E000000#32)) := by
  after_reads_simp
  rfl
/-- The taps of the Hyena mixer's convolution are read as they are passed. -/
theorem entry_hcw : V m c main_arg16 = m (c, main_arg16) := by
  after_reads_simp
/-- Its bias, as a row. -/
theorem entry_hcb : V m c main_v71 = shapeCast S1x768 (m (c, main_arg17) : FVec Ideal S768 .f32) shapeCasts_S768_S1x768 := by
  after_reads_simp
  rfl

/-! ## Where the blocks lie -/

/-- The windows' block indices at grid point `t` = batch, tile of 512 rows. -/
theorem idx_rows : ∀ t : Fin cfg0.N,
    win0_0.index t = ![t.val / 8, 64 * (t.val % 8) - 1, 0] ∧ win0_1.index t = ![t.val / 8, t.val % 8, 0]
    ∧ win0_2.index t = ![t.val / 8, min (64 * (t.val % 8) + 64) 511, 0]
    ∧ win0_4.index t = ![t.val / 8, 0, 0] ∧ win0_5.index t = ![t.val / 8, 0, 0]
    ∧ win0_13.index t = ![t.val % 8, 0] ∧ win0_14.index t = ![t.val % 8, 0] :=
  (by decide +kernel : ∀ t : Fin grid0.N, _)

/-- The windows' block indices of the weights. -/
theorem idx_rest : ∀ t : Fin cfg0.N,
    win0_3.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_15.index t = ![0, 0]
    ∧ win0_16.index t = ![0, 0] ∧ win0_17.index t = ![0, 0] ∧ win0_18.index t = ![0, 0] ∧ win0_20.index t = ![0, 0] ∧ win0_21.index t = ![0, 0] :=
  (by decide +kernel : ∀ t : Fin grid0.N, _)

/-- The windows' block indices of the results. -/
theorem idx_out : ∀ t : Fin cfg0.N,
    win0_22.index t = ![t.val / 8, t.val % 8, 0] ∧ win0_23.index t = ![t.val / 8, t.val % 8, 0] ∧ win0_24.index t = ![t.val / 8, t.val % 8, 0]
    ∧ win0_25.index t = ![t.val / 8, t.val % 8, 0] ∧ win0_26.index t = ![t.val / 8, t.val % 8, 0, 0] ∧ win0_27.index t = ![t.val / 8, t.val % 8, 0, 0]
    ∧ win0_30.index t = ![t.val / 8, t.val % 8, 0] ∧ win0_31.index t = ![t.val / 8, t.val % 8, 0] ∧ win0_32.index t = ![t.val % 8, t.val / 8] :=
  (by decide +kernel : ∀ t : Fin grid0.N, _)

/-- The second coordinate of a grid point is its tile. -/
theorem tile : ∀ t : Fin cfg0.N, (grid0.coords t 1).val = t.val % 8 :=
  (by decide +kernel : ∀ t : Fin grid0.N, _)

/-- There are 64 grid points. -/
theorem lt (t : Fin cfg0.N) : t.val < 64 := t.isLt

end Cert.MixerInIdeal.Blocks

end
-- ==== Proof.Mix.Blocks.lean ====
module

public import proofs.«01_k».proof.Proof.Mix.Read
public import proofs.«01_k».proof.Proof.Mix.Host
public import Idealize.ShloMosaic.Lib.Pipeline.ValueKit
public import Idealize.ShloMosaic.Lib.Claim

/-! # The blocks of the projections into the mixers, and what one grid point computes from them -/

@[expose] public section

set_option maxRecDepth 16384

noncomputable section

namespace Cert.MixerInIdeal.Blocks

open Cert.MixerInIdeal Cert.MixerInIdeal.Gen Cert.MixerInIdeal.Body Idealize.ShloMosaic Idealize.ShloMosaic.TcCoe Idealize.SL.Sem
open Idealize.ShloMosaic.Pipeline (Dat)
open Cert.Ffn (cat3)

/-! ## Sums over heads -/

/-- A sum over 256 channels is one over four heads of 64. -/
theorem sum_heads (f : Fin 256 → EReal) : ∑ k, f k = ∑ h : Fin 4, ∑ d : Fin 64, f ⟨64 * h.val + d.val, by omega⟩ := by
  refine (Fintype.sum_equiv (finProdFinEquiv (m := 4) (n := 64)) (fun p => f ⟨64 * p.1.val + p.2.val, by omega⟩) f
    (fun p => congrArg f (Fin.ext (show 64 * p.1.val + p.2.val = p.2.val + 64 * p.1.val by omega)))).symm.trans ?_
  exact Fintype.sum_prod_type _

/-- Against a matrix per head only the head's own channels remain. -/
theorem sum_diag (f : Fin 256 → EReal) (w : FVec Ideal S4x64x64 .f32) (j : Fin 256) :
    ∑ k, f k * diag w (ix2 k j)
      = ∑ d : Fin 64, f ⟨64 * (j.val / 64) + d.val, by omega⟩ * w (ix3 (⟨j.val / 64, by omega⟩ : Fin 4) d (⟨j.val % 64, by omega⟩ : Fin 64)) := by
  rw [sum_heads]
  refine (Finset.sum_eq_single (⟨j.val / 64, by omega⟩ : Fin 4) ?_ ?_).trans ?_
  · intro h _ hh
    refine Finset.sum_eq_zero fun d _ => ?_
    rw [diag_apply, if_neg, mul_zero]
    intro e
    refine hh (Fin.ext ?_)
    have e' : (64 * h.val + d.val) / 64 = j.val / 64 := e
    show h.val = j.val / 64
    omega
  · intro h
    exact absurd (Finset.mem_univ _) h
  · refine Finset.sum_congr rfl fun d _ => ?_
    rw [diag_apply, if_pos (show (64 * (j.val / 64) + d.val) / 64 = j.val / 64 by omega)]
    have a : (⟨(64 * (j.val / 64) + d.val) / 64, by omega⟩ : Fin 4) = ⟨j.val / 64, by omega⟩ :=
      Fin.ext (show (64 * (j.val / 64) + d.val) / 64 = j.val / 64 by omega)
    have b : (⟨(64 * (j.val / 64) + d.val) % 64, by omega⟩ : Fin 64) = d :=
      Fin.ext (show (64 * (j.val / 64) + d.val) % 64 = d.val by omega)
    show _ * w (ix3 (⟨(64 * (j.val / 64) + d.val) / 64, _⟩ : Fin 4) (⟨(64 * (j.val / 64) + d.val) % 64, _⟩ : Fin 64) _) = _
    rw [a, b]

/-- The scale of the matrix LSTM's keys is an eighth. -/
theorem word_eighth : Ideal.ofBits .f32 0x3E000000#32 = ((1 / 8 : ℝ) : EReal) := by
  simp [Ideal.ofBits, Ideal.ieee, -EReal.coe_mul, -EReal.coe_one]
  norm_num

/-- A positive finite factor of every term is one of the sum. -/
theorem sum_scale {n : ℕ} (f g : Fin n → EReal) (s : EReal) (h0 : 0 ≤ s) (h1 : s ≠ ⊤) :
    ∑ k, f k * (g k * s) = (∑ k, f k * g k) * s := by
  have h (t : Finset (Fin n)) : ∑ k ∈ t, f k * (g k * s) = (∑ k ∈ t, f k * g k) * s := by
    induction t using Finset.induction_on with
    | empty => simp
    | insert a t ha ih => rw [Finset.sum_insert ha, Finset.sum_insert ha, EReal.right_distrib_of_nonneg_of_ne_top h0 h1, ih, mul_assoc]
  exact h _

variable (m : (ℓ : Loc nD τ sig) → Buf (Elt Ideal) ℓ) (c : Dev nD)

/-! ## The blocks -/

/-- The batch of a grid point. -/
def bat (t : Fin cfg0.N) : Fin 8 := ⟨t.val / 8, by have := lt t; omega⟩

/-- The row of a grid point's tile. -/
def row (t : Fin cfg0.N) (r : Fin 512) : Fin 4096 := ⟨512 * (t.val % 8) + r.val, by omega⟩

/-- The weights as the launch memory holds them, and a batch's rows. -/
def wts (b : Fin 8) : Mix.Args :=
  Mix.args (m (c, main_arg0)) (m (c, main_arg1)) (m (c, main_arg2)) (m (c, main_arg3)) (m (c, main_arg4)) (m (c, main_arg5))
    (m (c, main_arg6)) (m (c, main_arg7)) (m (c, main_arg8)) (m (c, main_arg9)) (m (c, main_arg10)) (m (c, main_arg11))
    (m (c, main_arg12)) (m (c, main_arg13)) (m (c, main_arg14)) (m (c, main_arg16)) (m (c, main_arg17)) b

/-- Where the rows before the tile of a grid point lie in their array. -/
theorem read_0 (X : FVec Ideal S8x4096x1024 .f32) (t : Fin cfg0.N) (i : Fin 8) (e : Fin 1024) :
    ((cfg0.win 0).blk t).view.read (Elt Ideal) X (ix3 0 i e) = X (ix3 (bat t) (⟨8 * (64 * (t.val % 8) - 1) + i.val, by have := lt t; omega⟩ : Fin 4096) e) := by
  blk_ext [idx_rows t, bat]

/-- Where the rows of the tile of a grid point lie in their array. -/
theorem read_1 (X : FVec Ideal S8x4096x1024 .f32) (t : Fin cfg0.N) (i : Fin 512) (e : Fin 1024) :
    ((cfg0.win 1).blk t).view.read (Elt Ideal) X (ix3 0 i e) = X (ix3 (bat t) (⟨512 * (t.val % 8) + i.val, by have := lt t; omega⟩ : Fin 4096) e) := by
  blk_ext [idx_rows t, bat]

/-- Where the rows after the tile of a grid point lie in their array. -/
theorem read_2 (X : FVec Ideal S8x4096x1024 .f32) (t : Fin cfg0.N) (i : Fin 8) (e : Fin 1024) :
    ((cfg0.win 2).blk t).view.read (Elt Ideal) X (ix3 0 i e) = X (ix3 (bat t) (⟨8 * (min (64 * (t.val % 8) + 64) 511) + i.val, by have := lt t; omega⟩ : Fin 4096) e) := by
  blk_ext [idx_rows t, bat]

/-- The rows around and in the tile, where they lie inside the sequence. -/
theorem rows_x (t : Fin cfg0.N) (r : Fin 528) (h0 : 8 ≤ 512 * (t.val % 8) + r.val) (h1 : 512 * (t.val % 8) + r.val - 8 < 4096)
    (e : Fin 1024) :
    cat3 (fun i => iblk m c 0 t (ix3 0 i e)) (fun i => iblk m c 1 t (ix3 0 i e)) (fun i => iblk m c 2 t (ix3 0 i e)) r
      = m (c, main_arg0) (ix3 (bat t) (⟨512 * (t.val % 8) + r.val - 8, h1⟩ : Fin 4096) e) := by
  have ht := lt t
  refine Ffn.cat3_rows (fun n : Fin 4096 => m (c, main_arg0) (ix3 (bat t) n e)) (t.val % 8) (by omega) _ _ _ ?_ ?_ ?_ r h0 h1
  · intro h i
    refine ((read_0 (V m c main_arg0) t i e).trans (congrFun (entry_x m c) _)).trans ?_
    exact congrArg (fun n => m (c, main_arg0) (ix3 (bat t) n e)) (Fin.ext (by show 8 * (64 * (t.val % 8) - 1) + i.val = 512 * (t.val % 8) - 8 + i.val; omega))
  · intro i
    exact (read_1 (V m c main_arg0) t i e).trans (congrFun (entry_x m c) _)
  · intro h i
    refine ((read_2 (V m c main_arg0) t i e).trans (congrFun (entry_x m c) _)).trans ?_
    exact congrArg (fun n => m (c, main_arg0) (ix3 (bat t) n e)) (Fin.ext (by show 8 * min (64 * (t.val % 8) + 64) 511 + i.val = 512 * (t.val % 8) + 512 + i.val; omega))

/-- The batch's row of the modulation's scale. -/
theorem blk_sc (t : Fin cfg0.N) (e : Fin 1024) : iblk m c 4 t (ix3 0 0 e) = m (c, main_arg2) (ix3 (bat t) 0 e) := by
  have h (X : FVec Ideal S8x1x1024 .f32) : ((cfg0.win 4).blk t).view.read (Elt Ideal) X (ix3 0 0 e) = X (ix3 (bat t) 0 e) := by
    blk_ext [idx_rows t, bat]
  exact (h (V m c main_arg2)).trans (congrFun (entry_sc m c) _)

/-- The batch's row of the modulation's shift. -/
theorem blk_sh (t : Fin cfg0.N) (e : Fin 1024) : iblk m c 5 t (ix3 0 0 e) = m (c, main_arg3) (ix3 (bat t) 0 e) := by
  have h (X : FVec Ideal S8x1x1024 .f32) : ((cfg0.win 5).blk t).view.read (Elt Ideal) X (ix3 0 0 e) = X (ix3 (bat t) 0 e) := by
    blk_ext [idx_rows t, bat]
  exact (h (V m c main_arg3)).trans (congrFun (entry_sh m c) _)

/-- The gain of the rows' norm. -/
theorem blk_g (t : Fin cfg0.N) (e : Fin 1024) : iblk m c 3 t (ix2 0 e) = m (c, main_arg1) (ix1 e) := by
  have h (X : FVec Ideal S1x1024 .f32) : ((cfg0.win 3).blk t).view.read (Elt Ideal) X (ix2 0 e) = X (ix2 0 e) := by
    blk_ext [idx_rest t, bat]
  have h' (X : FVec Ideal S1024 .f32) : shapeCast S1x1024 X shapeCasts_S1024_S1x1024 (ix2 0 e) = X (ix1 e) := by
    pointwise
  exact ((h (V m c main_v47)).trans (congrFun (entry_g m c) _)).trans (h' _)

/-- The gain of the queries' latent norm. -/
theorem blk_gq (t : Fin cfg0.N) (e : Fin 384) : iblk m c 7 t (ix2 0 e) = m (c, main_arg5) (ix1 e) := by
  have h (X : FVec Ideal S1x384 .f32) : ((cfg0.win 7).blk t).view.read (Elt Ideal) X (ix2 0 e) = X (ix2 0 e) := by
    blk_ext [idx_rest t, bat]
  have h' (X : FVec Ideal S384 .f32) : shapeCast S1x384 X shapeCasts_S384_S1x384 (ix2 0 e) = X (ix1 e) := by
    pointwise
  exact ((h (V m c main_v55)).trans (congrFun (entry_gq m c) _)).trans (h' _)

/-- The gain of the keys' latent norm. -/
theorem blk_gkv (t : Fin cfg0.N) (e : Fin 256) : iblk m c 8 t (ix2 0 e) = m (c, main_arg6) (ix1 e) := by
  have h (X : FVec Ideal S1x256 .f32) : ((cfg0.win 8).blk t).view.read (Elt Ideal) X (ix2 0 e) = X (ix2 0 e) := by
    blk_ext [idx_rest t, bat]
  have h' (X : FVec Ideal S256 .f32) : shapeCast S1x256 X shapeCasts_S256_S1x256 (ix2 0 e) = X (ix1 e) := by
    pointwise
  exact ((h (V m c main_v56)).trans (congrFun (entry_gkv m c) _)).trans (h' _)

/-- The bias of the matrix LSTM's convolution. -/
theorem blk_mcb (t : Fin cfg0.N) (e : Fin 256) : iblk m c 16 t (ix2 0 e) = m (c, main_arg12) (ix1 e) := by
  have h (X : FVec Ideal S1x256 .f32) : ((cfg0.win 16).blk t).view.read (Elt Ideal) X (ix2 0 e) = X (ix2 0 e) := by
    blk_ext [idx_rest t, bat]
  have h' (X : FVec Ideal S256 .f32) : shapeCast S1x256 X shapeCasts_S256_S1x256 (ix2 0 e) = X (ix1 e) := by
    pointwise
  exact ((h (V m c main_v70)).trans (congrFun (entry_mcb m c) _)).trans (h' _)

/-- The bias of the Hyena mixer's convolution. -/
theorem blk_hcb (t : Fin cfg0.N) (e : Fin 768) : iblk m c 21 t (ix2 0 e) = m (c, main_arg17) (ix1 e) := by
  have h (X : FVec Ideal S1x768 .f32) : ((cfg0.win 21).blk t).view.read (Elt Ideal) X (ix2 0 e) = X (ix2 0 e) := by
    blk_ext [idx_rest t, bat]
  have h' (X : FVec Ideal S768 .f32) : shapeCast S1x768 X shapeCasts_S768_S1x768 (ix2 0 e) = X (ix1 e) := by
    pointwise
  exact ((h (V m c main_v71)).trans (congrFun (entry_hcb m c) _)).trans (h' _)

/-- The projection into the mixers, laid out. -/
theorem blk_wi (t : Fin cfg0.N) (k : Fin 1024) (e : Fin 2304) : iblk m c 6 t (ix2 k e) = packIn (m (c, main_arg4)) (ix2 k e) := by
  have h (X : FVec Ideal S1024x2304 .bf16) : ((cfg0.win 6).blk t).view.read (Elt Ideal) X (ix2 k e) = X (ix2 k e) := by
    blk_ext [idx_rest t, bat]
  exact (h (V m c main_v54)).trans (congrFun (entry_wi m c) _)

/-- The queries' weight, laid out. -/
theorem blk_wq (t : Fin cfg0.N) (k : Fin 384) (e : Fin 1024) : iblk m c 9 t (ix2 k e) = packQ (m (c, main_arg7)) (ix2 k e) := by
  have h (X : FVec Ideal S384x1024 .bf16) : ((cfg0.win 9).blk t).view.read (Elt Ideal) X (ix2 k e) = X (ix2 k e) := by
    blk_ext [idx_rest t, bat]
  exact (h (V m c main_v61)).trans (congrFun (entry_wq m c) _)

/-- The queries' weight, laid out with halves exchanged. -/
theorem blk_ws (t : Fin cfg0.N) (k : Fin 384) (e : Fin 1024) : iblk m c 10 t (ix2 k e) = swapQ (m (c, main_arg7)) (ix2 k e) := by
  have h (X : FVec Ideal S384x1024 .bf16) : ((cfg0.win 10).blk t).view.read (Elt Ideal) X (ix2 k e) = X (ix2 k e) := by
    blk_ext [idx_rest t, bat]
  exact (h (V m c main_v69)).trans (congrFun (entry_ws m c) _)

/-- The keys' weight, laid out. -/
theorem blk_wk (t : Fin cfg0.N) (k : Fin 256) (e : Fin 1024) : iblk m c 11 t (ix2 k e) = packK (m (c, main_arg8)) (ix2 k e) := by
  have h (X : FVec Ideal S256x1024 .bf16) : ((cfg0.win 11).blk t).view.read (Elt Ideal) X (ix2 k e) = X (ix2 k e) := by
    blk_ext [idx_rest t, bat]
  exact (h (V m c main_v13)).trans (congrFun (entry_wk m c) _)

/-- The values' weight, laid out. -/
theorem blk_wv (t : Fin cfg0.N) (k : Fin 256) (e : Fin 512) : iblk m c 12 t (ix2 k e) = packV (m (c, main_arg8)) (ix2 k e) := by
  have h (X : FVec Ideal S256x512 .bf16) : ((cfg0.win 12).blk t).view.read (Elt Ideal) X (ix2 k e) = X (ix2 k e) := by
    blk_ext [idx_rest t, bat]
  exact (h (V m c main_v14)).trans (congrFun (entry_wv m c) _)

/-- The taps of the matrix LSTM's convolution. -/
theorem blk_mcw (t : Fin cfg0.N) (k : Fin 3) (e : Fin 256) : iblk m c 15 t (ix2 k e) = m (c, main_arg11) (ix2 k e) := by
  have h (X : FVec Ideal S3x256 .f32) : ((cfg0.win 15).blk t).view.read (Elt Ideal) X (ix2 k e) = X (ix2 k e) := by
    blk_ext [idx_rest t, bat]
  exact (h (V m c main_arg11)).trans (congrFun (entry_mcw m c) _)

/-- The taps of the Hyena mixer's convolution. -/
theorem blk_hcw (t : Fin cfg0.N) (k : Fin 3) (e : Fin 768) : iblk m c 20 t (ix2 k e) = m (c, main_arg16) (ix2 k e) := by
  have h (X : FVec Ideal S3x768 .f32) : ((cfg0.win 20).blk t).view.read (Elt Ideal) X (ix2 k e) = X (ix2 k e) := by
    blk_ext [idx_rest t, bat]
  exact (h (V m c main_arg16)).trans (congrFun (entry_hcw m c) _)

/-- The matrix LSTM's query weights, on the diagonal. -/
theorem blk_mwq (t : Fin cfg0.N) (k : Fin 256) (e : Fin 256) : iblk m c 17 t (ix2 k e) = diag (m (c, main_arg13)) (ix2 k e) := by
  have h (X : FVec Ideal S256x256 .bf16) : ((cfg0.win 17).blk t).view.read (Elt Ideal) X (ix2 k e) = X (ix2 k e) := by
    blk_ext [idx_rest t, bat]
  exact (h (V m c main_v27)).trans (congrFun (entry_mwq m c) _)

/-- The matrix LSTM's key weights, on the diagonal and scaled. -/
theorem blk_mwk (t : Fin cfg0.N) (k : Fin 256) (e : Fin 256) :
    iblk m c 18 t (ix2 k e) = diag (m (c, main_arg14)) (ix2 k e) * Ideal.ofBits .f32 0x3E000000#32 := by
  have h (X : FVec Ideal S256x256 .bf16) : ((cfg0.win 18).blk t).view.read (Elt Ideal) X (ix2 k e) = X (ix2 k e) := by
    blk_ext [idx_rest t, bat]
  have h' (X : FVec Ideal S256x256 .f32) :
      mulf X (broadcastInDim S256x256 ![] bcast_S_S256x256 (constant (F := Ideal) S_ .f32 0x3E000000#32)) (ix2 k e)
        = X (ix2 k e) * Ideal.ofBits .f32 0x3E000000#32 := by
    pointwise
  exact ((h (V m c main_v42)).trans (congrFun (entry_mwk m c) _)).trans (h' _)

/-- The tile's rows of the cosines, laid out. -/
theorem blk_cos (t : Fin cfg0.N) (r : Fin 512) (l : Fin 128) : iblk m c 13 t (ix2 r l) = cosT (m (c, main_arg9)) (ix2 (row t r) l) := by
  have h (X : FVec Ideal S4096x128 .f32) : ((cfg0.win 13).blk t).view.read (Elt Ideal) X (ix2 r l) = X (ix2 (row t r) l) := by
    blk_ext [idx_rows t, row]
  exact (h (V m c main_v3)).trans (congrFun (entry_cos m c) _)

/-- The tile's rows of the sines, laid out. -/
theorem blk_sin (t : Fin cfg0.N) (r : Fin 512) (l : Fin 128) : iblk m c 14 t (ix2 r l) = sinT (m (c, main_arg10)) (ix2 (row t r) l) := by
  have h (X : FVec Ideal S4096x128 .f32) : ((cfg0.win 14).blk t).view.read (Elt Ideal) X (ix2 r l) = X (ix2 (row t r) l) := by
    blk_ext [idx_rows t, row]
  exact (h (V m c main_v5)).trans (congrFun (entry_sin m c) _)

/-! ## The projected rows -/

/-- A grid point's projected rows. -/
def X (t : Fin cfg0.N) : FVec Ideal S528x2304 .f32 :=
  xi (grid0.coords t) (iblk m c 0 t) (iblk m c 1 t) (iblk m c 2 t) (iblk m c 3 t) (iblk m c 4 t) (iblk m c 5 t) (iblk m c 6 t)

/-- A row of the tile or its surroundings projected: the sequence's row, or zero beyond its ends. -/
theorem X_lift (t : Fin cfg0.N) (r : Fin 528) (h0 : 7 ≤ r.val) (h1 : r.val ≤ 520) (j : Fin 2304) (k : Fin 2224)
    (h : (j.val < 672 ∧ k.val = j.val) ∨ (768 ≤ j.val ∧ j.val < 1536 ∧ k.val + 96 = j.val) ∨ (1536 ≤ j.val ∧ k.val + 80 = j.val)) :
    X m c t (ix2 r j) = Mix.lift (wts m c (bat t)) (512 * (t.val % 8) + r.val - 7) k := by
  have ht := lt t
  have hn := fun e : Fin 1024 => nx_apply (grid0.coords t) (iblk m c 0 t) (iblk m c 1 t) (iblk m c 2 t) (iblk m c 3 t) (iblk m c 4 t)
    (iblk m c 5 t) (fun r e => cat3 (fun i => iblk m c 0 t (ix3 0 i e)) (fun i => iblk m c 1 t (ix3 0 i e)) (fun i => iblk m c 2 t (ix3 0 i e)) r)
    (fun _ _ => rfl) r e
  rw [X, xi_apply]
  by_cases hp : (r.val < 8 ∧ t.val % 8 = 0) ∨ (520 ≤ r.val ∧ t.val % 8 = 7)
  · simp only [hn, tile t, if_pos hp, zero_mul, Finset.sum_const_zero]
    rw [Mix.lift, dif_neg (by omega)]
  · simp only [hn, tile t, if_neg hp]
    rw [Mix.lift, dif_pos (by omega)]
    have a0 : 8 ≤ 512 * (t.val % 8) + r.val := by omega
    have a1 : 512 * (t.val % 8) + r.val - 8 < 4096 := by omega
    simp only [rows_x m c t r a0 a1, blk_g, blk_sc, blk_sh, blk_wi, packIn_apply _ _ j k h]
    have en : (⟨512 * (t.val % 8) + r.val - 8, a1⟩ : Fin 4096) = ⟨512 * (t.val % 8) + r.val - 7 - 1, by omega⟩ := Fin.ext (by
      show 512 * (t.val % 8) + r.val - 8 = 512 * (t.val % 8) + r.val - 7 - 1; omega)
    rw [en]
    rfl

/-- A row of the tile projected. -/
theorem X_proj (t : Fin cfg0.N) (r : Fin 512) (j : Fin 2304) (k : Fin 2224)
    (h : (j.val < 672 ∧ k.val = j.val) ∨ (768 ≤ j.val ∧ j.val < 1536 ∧ k.val + 96 = j.val) ∨ (1536 ≤ j.val ∧ k.val + 80 = j.val)) :
    X m c t (ix2 (⟨8 + r.val, by omega⟩ : Fin 528) j) = Mix.proj (wts m c (bat t)) (row t r) k := by
  have ht := lt t
  rw [X_lift m c t ⟨8 + r.val, by omega⟩ (by show 7 ≤ 8 + r.val; omega) (by show 8 + r.val ≤ 520; omega) j k h]
  show Mix.lift _ (512 * (t.val % 8) + (8 + r.val) - 7) k = _
  rw [Mix.lift, dif_pos (by omega)]
  exact congrArg (fun n => Mix.proj (wts m c (bat t)) n k)
    (Fin.ext (show 512 * (t.val % 8) + (8 + r.val) - 7 - 1 = 512 * (t.val % 8) + r.val by omega))

/-- Three neighbouring rows of the tile, projected. -/
theorem X_three (t : Fin cfg0.N) (r : Fin 512) (j : Fin 2304) (k : Fin 2224)
    (h : (j.val < 672 ∧ k.val = j.val) ∨ (768 ≤ j.val ∧ j.val < 1536 ∧ k.val + 96 = j.val) ∨ (1536 ≤ j.val ∧ k.val + 80 = j.val)) :
    X m c t (ix2 (⟨7 + r.val, by omega⟩ : Fin 528) j) = Mix.lift (wts m c (bat t)) (row t r).val k
    ∧ X m c t (ix2 (⟨8 + r.val, by omega⟩ : Fin 528) j) = Mix.lift (wts m c (bat t)) ((row t r).val + 1) k
    ∧ X m c t (ix2 (⟨9 + r.val, by omega⟩ : Fin 528) j) = Mix.lift (wts m c (bat t)) ((row t r).val + 2) k := by
  have e0 : 512 * (t.val % 8) + (7 + r.val) - 7 = 512 * (t.val % 8) + r.val := by omega
  have e1 : 512 * (t.val % 8) + (8 + r.val) - 7 = 512 * (t.val % 8) + r.val + 1 := by omega
  have e2 : 512 * (t.val % 8) + (9 + r.val) - 7 = 512 * (t.val % 8) + r.val + 2 := by omega
  have a0 := X_lift m c t ⟨7 + r.val, by omega⟩ (by show 7 ≤ 7 + r.val; omega) (by show 7 + r.val ≤ 520; omega) j k h
  have a1 := X_lift m c t ⟨8 + r.val, by omega⟩ (by show 7 ≤ 8 + r.val; omega) (by show 8 + r.val ≤ 520; omega) j k h
  have a2 := X_lift m c t ⟨9 + r.val, by omega⟩ (by show 7 ≤ 9 + r.val; omega) (by show 9 + r.val ≤ 520; omega) j k h
  exact ⟨a0.trans (congrArg (fun p => Mix.lift (wts m c (bat t)) p k) e0), a1.trans (congrArg (fun p => Mix.lift (wts m c (bat t)) p k) e1),
    a2.trans (congrArg (fun p => Mix.lift (wts m c (bat t)) p k) e2)⟩

/-! ## What one grid point computes -/

/-- The output gates. -/
theorem og_point (t : Fin cfg0.N) (r : Fin 512) (j : Fin 256) :
    oo (X m c t) (ix3 0 r j) = Mix.proj (wts m c (bat t)) (row t r) ⟨1184 + j.val, by omega⟩ :=
  (oo_apply _ r j).trans (X_proj m c t r _ _ (by dsimp only; omega))

/-- The values of the matrix LSTM, chunk by chunk, transposed. -/
theorem mvt_point (t : Fin cfg0.N) (ch : Fin 4) (j : Fin 256) (r : Fin 128) :
    chunks (k0_pay29 (sv (X m c t))) (ix4 0 ch j r)
      = Mix.proj (wts m c (bat t)) ⟨128 * (4 * (t.val % 8) + ch.val) + r.val, by omega⟩ ⟨928 + j.val, by omega⟩ := by
  rw [chunks_apply, pay29_apply, sv_apply, X_proj m c t ⟨128 * ch.val + r.val, by omega⟩ ⟨1024 + j.val, by omega⟩ ⟨928 + j.val, by omega⟩ (by dsimp only; omega)]
  exact congrArg (fun n => Mix.proj (wts m c (bat t)) n ⟨928 + j.val, by omega⟩)
    (Fin.ext (show 512 * (t.val % 8) + (128 * ch.val + r.val) = 128 * (4 * (t.val % 8) + ch.val) + r.val by omega))

/-- The Hyena mixer's convolution. -/
theorem hconv_point (t : Fin cfg0.N) (r : Fin 512) (j : Fin 768) :
    k0_pay1 (k0_pay64 (iblk m c 20 t) (iblk m c 21 t) (sh7 (X m c t)) (sh8 (X m c t))) (k0_pay65 (iblk m c 20 t)) (sh9 (X m c t)) (ix2 r j)
      = Mix.hconv (wts m c (bat t)) (row t r) j := by
  obtain ⟨a0, a1, a2⟩ := X_three m c t r ⟨1536 + j.val, by omega⟩ ⟨1456 + j.val, by omega⟩ (by dsimp only; omega)
  rw [pay1_apply, (sh_apply _ r j).1, (sh_apply _ r j).2.1, (sh_apply _ r j).2.2, a0, a1, a2, blk_hcb, blk_hcw, blk_hcw, blk_hcw]
  rfl

/-- The Hyena mixer's first part. -/
theorem x0_point (t : Fin cfg0.N) (r : Fin 512) (j : Fin 256) :
    ox (X m c t) (iblk m c 20 t) (iblk m c 21 t) (ix3 0 r j) = Mix.hconv (wts m c (bat t)) (row t r) ⟨0 + j.val, by omega⟩ := by
  rw [ox_apply, hconv_point]

/-- The product of its second and third parts. -/
theorem z_point (t : Fin cfg0.N) (r : Fin 512) (j : Fin 256) :
    oz (X m c t) (iblk m c 20 t) (iblk m c 21 t) (ix2 r j) = Mix.z (wts m c (bat t)) (row t r) j := by
  rw [oz_apply, hconv_point, hconv_point]
  rfl

/-- The latent row of keys and values, normed. -/
theorem kvn_point (t : Fin cfg0.N) (r : Fin 512) (k : Fin 256) :
    Mix.rms (Ideal.ofBits .f32 0x43800000#32) (fun k => iblk m c 8 t (ix2 0 k)) (fun k => skv (X m c t) (ix2 r k)) k
      = Mix.kvn (wts m c (bat t)) (row t r) k := by
  have h (k : Fin 256) : skv (X m c t) (ix2 r k) = Mix.proj (wts m c (bat t)) (row t r) ⟨384 + k.val, by omega⟩ :=
    (skv_apply _ r k).trans (X_proj m c t r _ _ (by dsimp only; omega))
  simp only [blk_gkv, h]
  rfl

/-- The latent row of the queries, normed. -/
theorem qn_point (t : Fin cfg0.N) (r : Fin 512) (k : Fin 384) :
    Mix.rms (Ideal.ofBits .f32 0x43C00000#32) (fun k => iblk m c 7 t (ix2 0 k)) (fun k => sq (X m c t) (ix2 r k)) k
      = Mix.qn (wts m c (bat t)) (row t r) k := by
  have h (k : Fin 384) : sq (X m c t) (ix2 r k) = Mix.proj (wts m c (bat t)) (row t r) ⟨0 + k.val, by omega⟩ :=
    (sq_apply _ r k).trans (X_proj m c t r _ _ (by dsimp only; omega))
  simp only [blk_gq, h]
  rfl

/-- The values. -/
theorem v_point (t : Fin cfg0.N) (r : Fin 512) (j : Fin 512) :
    ov (X m c t) (iblk m c 8 t) (iblk m c 12 t) (ix3 0 r j) = Mix.v (wts m c (bat t)) (row t r) j := by
  rw [ov_apply]
  simp only [kvn_point, blk_wv, packV_apply]
  rfl

/-- The matrix LSTM's gated channels. -/
theorem u_point (t : Fin cfg0.N) (r : Fin 512) (j : Fin 256) :
    k0_pay26 (k0_pay24 (iblk m c 15 t) (iblk m c 16 t) (su7 (X m c t)) (su8 (X m c t))) (k0_pay25 (iblk m c 15 t)) (su9 (X m c t)) (ix2 r j)
      = Mix.u (wts m c (bat t)) (row t r) j := by
  obtain ⟨a0, a1, a2⟩ := X_three m c t r ⟨768 + j.val, by omega⟩ ⟨672 + j.val, by omega⟩ (by dsimp only; omega)
  rw [pay26_apply, (su_apply _ r j).1, (su_apply _ r j).2.1, (su_apply _ r j).2.2, a0, a1, a2, blk_mcb, blk_mcw, blk_mcw, blk_mcw]
  rfl

/-- The matrix LSTM's keys. -/
theorem mk_point (t : Fin cfg0.N) (r : Fin 512) (j : Fin 256) :
    omk (X m c t) (iblk m c 15 t) (iblk m c 16 t) (iblk m c 18 t) (ix3 0 r j)
      = Mix.heads (wts m c (bat t)) (wts m c (bat t)).mwk (row t r) j * Ideal.ofBits .f32 0x3E000000#32 := by
  rw [omk_apply]
  simp only [u_point, blk_mwk]
  rw [sum_scale _ _ _ (by rw [word_eighth]; exact_mod_cast (by norm_num : (0 : ℝ) ≤ 1 / 8)) (by rw [word_eighth]; exact EReal.coe_ne_top _), sum_diag]
  rfl

/-- The matrix LSTM's queries, chunk by chunk, transposed. -/
theorem mq_point (t : Fin cfg0.N) (ch : Fin 4) (j : Fin 256) (r : Fin 128) :
    chunks (omq (X m c t) (iblk m c 15 t) (iblk m c 16 t) (iblk m c 17 t)) (ix4 0 ch j r)
      = Mix.heads (wts m c (bat t)) (wts m c (bat t)).mwq ⟨128 * (4 * (t.val % 8) + ch.val) + r.val, by omega⟩ j := by
  rw [chunks_apply, omq_apply]
  simp only [u_point, blk_mwq]
  rw [sum_diag]
  have e : row t ⟨128 * ch.val + r.val, by omega⟩ = ⟨128 * (4 * (t.val % 8) + ch.val) + r.val, by omega⟩ :=
    Fin.ext (show 512 * (t.val % 8) + (128 * ch.val + r.val) = 128 * (4 * (t.val % 8) + ch.val) + r.val by omega)
  rw [e]
  rfl

/-- The queries. -/
theorem q_point (t : Fin cfg0.N) (r : Fin 512) (j : Fin 1024) :
    oq (X m c t) (iblk m c 7 t) (iblk m c 9 t) (iblk m c 10 t) (iblk m c 13 t) (iblk m c 14 t) (ix3 0 r j)
      = Mix.q (wts m c (bat t)) (row t r) j := by
  rw [oq_apply, Mix.q, blk_cos, blk_sin, cosT_apply, sinT_apply]
  simp only [qn_point, blk_wq, blk_ws, packQ_apply, swapQ_apply]
  refine congrArg (· * Ideal.ofBits .f32 0x3E16C740#32) ?_
  by_cases h1 : j.val % 128 < 64
  · simp only [dif_pos h1, dif_pos (show j.val % 128 < 96 by omega), mul_one, mul_zero, add_zero]
    rfl
  by_cases h2 : j.val % 128 < 80
  · simp only [dif_neg h1, dif_pos h2, dif_pos (show j.val % 128 < 96 by omega), dif_pos (show 64 ≤ j.val % 128 ∧ j.val % 128 < 80 by omega),
      mul_neg, ← sub_eq_add_neg]
    rw [Mix.rope, dif_pos (show j.val % 128 - 64 < 16 by omega)]
    exact congrArg₂ (fun a b => Mix.qs (wts m c (bat t)) (row t r) a * (wts m c (bat t)).cos (row t r) ⟨j.val % 128 - 64, by omega⟩
        - Mix.qs (wts m c (bat t)) (row t r) b * (wts m c (bat t)).sin (row t r) ⟨j.val % 128 - 64, by omega⟩)
      (Fin.ext (show 96 * (j.val / 128) + j.val % 128 = 96 * (j.val / 128) + 64 + (j.val % 128 - 64) by omega))
      (Fin.ext (show 96 * (j.val / 128) + 16 + j.val % 128 = 96 * (j.val / 128) + 64 + (16 + (j.val % 128 - 64)) by omega))
  by_cases h3 : j.val % 128 < 96
  · simp only [dif_neg h1, dif_neg h2, dif_pos h3, dif_neg (show ¬ (64 ≤ j.val % 128 ∧ j.val % 128 < 80) by omega),
      dif_pos (show 80 ≤ j.val % 128 ∧ j.val % 128 < 96 by omega)]
    rw [Mix.rope, dif_neg (show ¬ j.val % 128 - 64 < 16 by omega)]
    refine (add_comm (_ : EReal) _).trans ?_
    have e1 : (⟨96 * (j.val / 128) + (j.val % 128 - 16), by omega⟩ : Fin 768) = ⟨96 * (j.val / 128) + 64 + (j.val % 128 - 64 - 16), by omega⟩ :=
      Fin.ext (show 96 * (j.val / 128) + (j.val % 128 - 16) = 96 * (j.val / 128) + 64 + (j.val % 128 - 64 - 16) by omega)
    have e2 : (⟨96 * (j.val / 128) + j.val % 128, by omega⟩ : Fin 768) = ⟨96 * (j.val / 128) + 64 + (j.val % 128 - 64), by omega⟩ :=
      Fin.ext (show 96 * (j.val / 128) + j.val % 128 = 96 * (j.val / 128) + 64 + (j.val % 128 - 64) by omega)
    have e3 : (⟨j.val % 128 - 80, by omega⟩ : Fin 16) = ⟨j.val % 128 - 64 - 16, by omega⟩ :=
      Fin.ext (show j.val % 128 - 80 = j.val % 128 - 64 - 16 by omega)
    rw [e1, e2, e3]
    rfl
  · simp only [dif_neg h1, dif_neg h2, dif_neg h3, mul_zero, add_zero]

/-- The common lanes of the keys, before they are turned. -/
theorem kr_point (t : Fin cfg0.N) (r : Fin 512) (l : Fin 128) :
    k0_pay18 (skr (X m c t)) (ix2 r l)
      = if h : 64 ≤ l.val ∧ l.val < 96 then Mix.proj (wts m c (bat t)) (row t r) ⟨640 + (l.val - 64), by omega⟩ else 0 := by
  rw [pay18_apply]
  by_cases h : 64 ≤ l.val ∧ l.val < 96
  · rw [dif_pos h, dif_pos h, skr_apply]
    exact X_proj m c t r _ _ (by dsimp only; omega)
  · rw [dif_neg h, dif_neg h]

/-- The keys. -/
theorem k_point (t : Fin cfg0.N) (r : Fin 512) (j : Fin 1024) :
    ok (X m c t) (iblk m c 8 t) (iblk m c 11 t) (iblk m c 13 t) (iblk m c 14 t) (ix3 0 r j) = Mix.k (wts m c (bat t)) (row t r) j := by
  rw [ok_apply, Mix.k, blk_cos, blk_sin, cosT_apply, sinT_apply]
  simp only [kvn_point, blk_wk, packK_apply, kr_point]
  by_cases h1 : j.val % 128 < 64
  · simp only [dif_pos h1, if_pos h1, dif_neg (show ¬ (64 ≤ j.val % 128 ∧ j.val % 128 < 96) by omega), mul_zero, zero_mul, add_zero]
    rfl
  by_cases h2 : j.val % 128 < 80
  · have e : (j.val % 128 + 16) % 128 = j.val % 128 + 16 := by omega
    simp only [dif_neg h1, if_neg h1, dif_pos h2, if_pos h2, dif_pos (show j.val % 128 < 96 by omega),
      dif_pos (show 64 ≤ j.val % 128 ∧ j.val % 128 < 96 by omega),
      dif_pos (show 64 ≤ (j.val % 128 + 16) % 128 ∧ (j.val % 128 + 16) % 128 < 96 by omega),
      mul_zero, Finset.sum_const_zero, zero_add, mul_neg, ← sub_eq_add_neg]
    rw [Mix.rope, dif_pos (show j.val % 128 - 64 < 16 by omega)]
    exact congrArg (fun b => Mix.proj (wts m c (bat t)) (row t r) ⟨640 + (j.val % 128 - 64), by omega⟩ * (wts m c (bat t)).cos (row t r) ⟨j.val % 128 - 64, by omega⟩
        - Mix.proj (wts m c (bat t)) (row t r) b * (wts m c (bat t)).sin (row t r) ⟨j.val % 128 - 64, by omega⟩)
      (Fin.ext (show 640 + ((j.val % 128 + 16) % 128 - 64) = 640 + (16 + (j.val % 128 - 64)) by omega))
  by_cases h3 : j.val % 128 < 96
  · simp only [dif_neg h1, if_neg h1, dif_neg h2, if_neg h2, dif_pos h3,
      dif_pos (show 64 ≤ j.val % 128 ∧ j.val % 128 < 96 by omega),
      dif_pos (show 64 ≤ (j.val % 128 + 112) % 128 ∧ (j.val % 128 + 112) % 128 < 96 by omega),
      mul_zero, Finset.sum_const_zero, zero_add]
    rw [Mix.rope, dif_neg (show ¬ j.val % 128 - 64 < 16 by omega), add_comm]
    exact congrArg₂ (fun (a : Fin 2224) (i : Fin 16) => Mix.proj (wts m c (bat t)) (row t r) a * (wts m c (bat t)).sin (row t r) i
        + Mix.proj (wts m c (bat t)) (row t r) ⟨640 + (j.val % 128 - 64), by omega⟩ * (wts m c (bat t)).cos (row t r) i)
      (Fin.ext (show 640 + ((j.val % 128 + 112) % 128 - 64) = 640 + (j.val % 128 - 64 - 16) by omega))
      (Fin.ext (show j.val % 128 - 80 = j.val % 128 - 64 - 16 by omega))
  · simp only [dif_neg h1, if_neg h1, dif_neg h2, dif_neg h3, mul_zero, Finset.sum_const_zero, add_zero]

end Cert.MixerInIdeal.Blocks

end
-- ==== Proof.Mix.Result.lean ====
module

public import proofs.«01_k».proof.Proof.Mix.MixerInIdealFrame
public import proofs.«01_k».proof.Proof.Mix.Body
public import proofs.«01_k».proof.Proof.Mix.Blocks
public import Idealize.ShloMosaic.Lib.Pipeline.ValueKit
public import Idealize.ShloMosaic.Lib.Claim

/-! # The result arrays of the projections into the mixers -/

@[expose] public section

set_option maxRecDepth 16384
set_option maxHeartbeats 1000000

noncomputable section

namespace Cert.MixerInIdeal.Result

open Cert.MixerInIdeal Cert.MixerInIdeal.Gen Cert.MixerInIdeal.Body Cert.MixerInIdeal.Blocks Idealize.ShloMosaic Idealize.ShloMosaic.TcCoe Idealize.SL.Sem
open Idealize.ShloMosaic.Pipeline (Dat)

/-! ## What a grid point leaves in its output blocks -/

section Out

variable {F : FTy → Type} [FloatOps F]
variable (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x2304 .bf16) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1024 .bf16) (harg11 : arg11.IsWhole) (arg12 : Memref sig .tc .vmem S384x1024 .bf16) (harg12 : arg12.IsWhole) (arg13 : Memref sig .tc .vmem S256x1024 .bf16) (harg13 : arg13.IsWhole) (arg14 : Memref sig .tc .vmem S256x512 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S3x256 .f32) (harg17 : arg17.IsWhole) (arg18 : Memref sig .tc .vmem S1x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S1x128 .f32) (harg21 : arg21.IsWhole) (arg22 : Memref sig .tc .vmem S3x768 .f32) (harg22 : arg22.IsWhole) (arg23 : Memref sig .tc .vmem S1x768 .f32) (harg23 : arg23.IsWhole) (arg24 : Memref sig .tc .vmem S1x512x1024 .bf16) (harg24 : arg24.IsWhole) (arg25 : Memref sig .tc .vmem S1x512x1024 .bf16) (harg25 : arg25.IsWhole) (arg26 : Memref sig .tc .vmem S1x512x512 .bf16) (harg26 : arg26.IsWhole) (arg27 : Memref sig .tc .vmem S1x512x256 .bf16) (harg27 : arg27.IsWhole) (arg28 : Memref sig .tc .vmem S1x4x256x128 .bf16) (harg28 : arg28.IsWhole) (arg29 : Memref sig .tc .vmem S1x4x256x128 .bf16) (harg29 : arg29.IsWhole) (arg30 : Memref sig .tc .vmem S1x512x128 .f32) (harg30 : arg30.IsWhole) (arg31 : Memref sig .tc .vmem S1x4x128x128 .f32) (harg31 : arg31.IsWhole) (arg32 : Memref sig .tc .vmem S1x512x256 .bf16) (harg32 : arg32.IsWhole) (arg33 : Memref sig .tc .vmem S1x512x256 .bf16) (harg33 : arg33.IsWhole) (arg34 : Memref sig .tc .vmem S512x256 .bf16) (harg34 : arg34.IsWhole) (arg35 : Memref sig .tc .vmem S528x2304 .f32) (harg35 : arg35.IsWhole)     (x0 : Vec F S1x8x1024 .f32) (x1 : Vec F S1x512x1024 .f32) (x2 : Vec F S1x8x1024 .f32) (x3 : Vec F S1x1024 .f32) (x4 : Vec F S1x1x1024 .f32) (x5 : Vec F S1x1x1024 .f32) (x6 : Vec F S1024x2304 .bf16) (x7 : Vec F S1x384 .f32) (x8 : Vec F S1x256 .f32) (x9 : Vec F S384x1024 .bf16) (x10 : Vec F S384x1024 .bf16) (x11 : Vec F S256x1024 .bf16) (x12 : Vec F S256x512 .bf16) (x13 : Vec F S512x128 .f32) (x14 : Vec F S512x128 .f32) (x15 : Vec F S3x256 .f32) (x16 : Vec F S1x256 .f32) (x17 : Vec F S256x256 .bf16) (x18 : Vec F S256x256 .bf16) (x19 : Vec F S1x128 .f32) (x20 : Vec F S3x768 .f32) (x21 : Vec F S1x768 .f32)

/-- The queries. -/
theorem out_22 : out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = oq (xi i x0 x1 x2 x3 x4 x5 x6) x7 x9 x10 x13 x14 := by
  unfold out0_A_22
  exact Eq.trans (View.read_writes_eq_canon _ _ _ fun _ => cover0_A_22 ..) (canon_22 ..)

/-- The keys. -/
theorem out_23 : out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = ok (xi i x0 x1 x2 x3 x4 x5 x6) x8 x11 x13 x14 := by
  unfold out0_A_23
  exact Eq.trans (View.read_writes_eq_canon _ _ _ fun _ => cover0_A_23 ..) (canon_23 ..)

/-- The values. -/
theorem out_24 : out0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = ov (xi i x0 x1 x2 x3 x4 x5 x6) x8 x12 := by
  unfold out0_A_24
  exact Eq.trans (View.read_writes_eq_canon _ _ _ fun _ => cover0_A_24 ..) (canon_24 ..)

/-- The matrix LSTM's keys. -/
theorem out_25 : out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = omk (xi i x0 x1 x2 x3 x4 x5 x6) x15 x16 x18 := by
  unfold out0_A_25
  exact Eq.trans (View.read_writes_eq_canon _ _ _ fun _ => cover0_A_25 ..) (canon_25 ..)

/-- The matrix LSTM's queries. -/
theorem out_26 : out0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = chunks (omq (xi i x0 x1 x2 x3 x4 x5 x6) x15 x16 x17) := by
  unfold out0_A_26
  exact Eq.trans (View.read_writes_eq_canon _ _ _ fun _ => cover0_A_26 ..) (canon_26 ..)

/-- The matrix LSTM's values. -/
theorem out_27 : out0_A_27 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = chunks (k0_pay29 (sv (xi i x0 x1 x2 x3 x4 x5 x6))) := by
  unfold out0_A_27
  exact Eq.trans (View.read_writes_eq_canon _ _ _ fun _ => cover0_A_27 ..) (canon_27 ..)

/-- The output gates. -/
theorem out_30 : out0_A_30 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = oo (xi i x0 x1 x2 x3 x4 x5 x6) := by
  unfold out0_A_30
  exact Eq.trans (View.read_writes_eq_canon _ _ _ fun _ => cover0_A_30 ..) (canon_30 ..)

/-- The Hyena mixer's first part. -/
theorem out_31 : out0_A_31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = ox (xi i x0 x1 x2 x3 x4 x5 x6) x20 x21 := by
  unfold out0_A_31
  exact Eq.trans (View.read_writes_eq_canon _ _ _ fun _ => cover0_A_31 ..) (canon_31 ..)

/-- The product of the Hyena mixer's other parts. -/
theorem out_32 : out0_A_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 x0 x1 x2 x3 x4 x5 x6 x7 x8 x9 x10 x11 x12 x13 x14 x15 x16 x17 x18 x19 x20 x21 = oz (xi i x0 x1 x2 x3 x4 x5 x6) x20 x21 := by
  unfold out0_A_32
  exact Eq.trans (View.read_writes_eq_canon _ _ _ fun _ => cover0_A_32 ..) (canon_32 ..)

end Out

variable (m : (ℓ : Loc nD τ sig) → Buf (Elt Ideal) ℓ) (c : Dev nD)

/-! ## The result arrays -/

/-- Where the queries of a grid point lie in their array. -/
theorem read_22 (X : FVec Ideal S8x4096x1024 .bf16) (t : Fin cfg0.N) (i : Fin 512) (e : Fin 1024) :
    ((cfg0.win 22).blk t).view.read (Elt Ideal) X (ix3 0 i e) = X (ix3 (bat t) (row t i) e) := by
  blk_ext [idx_out t, bat, row]

/-- The array of the queries. -/
theorem q_eq : (dats m 0 c).arrAt 22 cfg0.N = fun i : S8x4096x1024.Idx => Mix.q (wts m c (i 0)) (i 1) (i 2) := by
  generalize hX : (fun i : S8x4096x1024.Idx => Mix.q (wts m c (i 0)) (i 1) (i 2)) = X
  refine (dats m 0 c).arrAt_eq_of_covers 22 _ (by decide +kernel) fun t _ y => ?_
  blk_simp
  rw [after0_22]
  idx_vars y
  obtain rfl : y0 = 0 := Subsingleton.elim _ _
  unfold outsAt0
  dsimp only
  rw [out_22]
  refine (q_point m c t y1 y2).trans (Eq.trans ?_ (read_22 X t y1 y2).symm)
  rw [← hX]
  rfl

/-- Where the keys of a grid point lie in their array. -/
theorem read_23 (X : FVec Ideal S8x4096x1024 .bf16) (t : Fin cfg0.N) (i : Fin 512) (e : Fin 1024) :
    ((cfg0.win 23).blk t).view.read (Elt Ideal) X (ix3 0 i e) = X (ix3 (bat t) (row t i) e) := by
  blk_ext [idx_out t, bat, row]

/-- The array of the keys. -/
theorem k_eq : (dats m 0 c).arrAt 23 cfg0.N = fun i : S8x4096x1024.Idx => Mix.k (wts m c (i 0)) (i 1) (i 2) := by
  generalize hX : (fun i : S8x4096x1024.Idx => Mix.k (wts m c (i 0)) (i 1) (i 2)) = X
  refine (dats m 0 c).arrAt_eq_of_covers 23 _ (by decide +kernel) fun t _ y => ?_
  blk_simp
  rw [after0_23]
  idx_vars y
  obtain rfl : y0 = 0 := Subsingleton.elim _ _
  unfold outsAt0
  dsimp only
  rw [out_23]
  refine (k_point m c t y1 y2).trans (Eq.trans ?_ (read_23 X t y1 y2).symm)
  rw [← hX]
  rfl

/-- Where the values of a grid point lie in their array. -/
theorem read_24 (X : FVec Ideal S8x4096x512 .bf16) (t : Fin cfg0.N) (i : Fin 512) (e : Fin 512) :
    ((cfg0.win 24).blk t).view.read (Elt Ideal) X (ix3 0 i e) = X (ix3 (bat t) (row t i) e) := by
  blk_ext [idx_out t, bat, row]

/-- The array of the values. -/
theorem v_eq : (dats m 0 c).arrAt 24 cfg0.N = fun i : S8x4096x512.Idx => Mix.v (wts m c (i 0)) (i 1) (i 2) := by
  generalize hX : (fun i : S8x4096x512.Idx => Mix.v (wts m c (i 0)) (i 1) (i 2)) = X
  refine (dats m 0 c).arrAt_eq_of_covers 24 _ (by decide +kernel) fun t _ y => ?_
  blk_simp
  rw [after0_24]
  idx_vars y
  obtain rfl : y0 = 0 := Subsingleton.elim _ _
  unfold outsAt0
  dsimp only
  rw [out_24]
  refine (v_point m c t y1 y2).trans (Eq.trans ?_ (read_24 X t y1 y2).symm)
  rw [← hX]
  rfl

/-- Where the matrix LSTM's keys of a grid point lie in their array. -/
theorem read_25 (X : FVec Ideal S8x4096x256 .bf16) (t : Fin cfg0.N) (i : Fin 512) (e : Fin 256) :
    ((cfg0.win 25).blk t).view.read (Elt Ideal) X (ix3 0 i e) = X (ix3 (bat t) (row t i) e) := by
  blk_ext [idx_out t, bat, row]

/-- The array of the matrix LSTM's keys. -/
theorem mk_eq : (dats m 0 c).arrAt 25 cfg0.N = fun i : S8x4096x256.Idx => Mix.heads (wts m c (i 0)) (wts m c (i 0)).mwk (i 1) (i 2) * Ideal.ofBits .f32 0x3E000000#32 := by
  generalize hX : (fun i : S8x4096x256.Idx => Mix.heads (wts m c (i 0)) (wts m c (i 0)).mwk (i 1) (i 2) * Ideal.ofBits .f32 0x3E000000#32) = X
  refine (dats m 0 c).arrAt_eq_of_covers 25 _ (by decide +kernel) fun t _ y => ?_
  blk_simp
  rw [after0_25]
  idx_vars y
  obtain rfl : y0 = 0 := Subsingleton.elim _ _
  unfold outsAt0
  dsimp only
  rw [out_25]
  refine (mk_point m c t y1 y2).trans (Eq.trans ?_ (read_25 X t y1 y2).symm)
  rw [← hX]
  rfl

/-- Where the output gates of a grid point lie in their array. -/
theorem read_30 (X : FVec Ideal S8x4096x256 .bf16) (t : Fin cfg0.N) (i : Fin 512) (e : Fin 256) :
    ((cfg0.win 30).blk t).view.read (Elt Ideal) X (ix3 0 i e) = X (ix3 (bat t) (row t i) e) := by
  blk_ext [idx_out t, bat, row]

/-- The array of the output gates. -/
theorem og_eq : (dats m 0 c).arrAt 30 cfg0.N = fun i : S8x4096x256.Idx => Mix.proj (wts m c (i 0)) (i 1) ⟨1184 + (i 2).val, by have : (i 2).val < 256 := (i 2).isLt; omega⟩ := by
  generalize hX : (fun i : S8x4096x256.Idx => Mix.proj (wts m c (i 0)) (i 1) ⟨1184 + (i 2).val, by have : (i 2).val < 256 := (i 2).isLt; omega⟩) = X
  refine (dats m 0 c).arrAt_eq_of_covers 30 _ (by decide +kernel) fun t _ y => ?_
  blk_simp
  rw [after0_30]
  idx_vars y
  obtain rfl : y0 = 0 := Subsingleton.elim _ _
  unfold outsAt0
  dsimp only
  rw [out_30]
  refine (og_point m c t y1 y2).trans (Eq.trans ?_ (read_30 X t y1 y2).symm)
  rw [← hX]
  rfl

/-- Where the Hyena mixer's first parts of a grid point lie in their array. -/
theorem read_31 (X : FVec Ideal S8x4096x256 .bf16) (t : Fin cfg0.N) (i : Fin 512) (e : Fin 256) :
    ((cfg0.win 31).blk t).view.read (Elt Ideal) X (ix3 0 i e) = X (ix3 (bat t) (row t i) e) := by
  blk_ext [idx_out t, bat, row]

/-- The array of the Hyena mixer's first parts. -/
theorem x0_eq : (dats m 0 c).arrAt 31 cfg0.N = fun i : S8x4096x256.Idx => Mix.hconv (wts m c (i 0)) (i 1) ⟨0 + (i 2).val, by have : (i 2).val < 256 := (i 2).isLt; omega⟩ := by
  generalize hX : (fun i : S8x4096x256.Idx => Mix.hconv (wts m c (i 0)) (i 1) ⟨0 + (i 2).val, by have : (i 2).val < 256 := (i 2).isLt; omega⟩) = X
  refine (dats m 0 c).arrAt_eq_of_covers 31 _ (by decide +kernel) fun t _ y => ?_
  blk_simp
  rw [after0_31]
  idx_vars y
  obtain rfl : y0 = 0 := Subsingleton.elim _ _
  unfold outsAt0
  dsimp only
  rw [out_31]
  refine (x0_point m c t y1 y2).trans (Eq.trans ?_ (read_31 X t y1 y2).symm)
  rw [← hX]
  rfl

/-- Where the matrix LSTM's queries of a grid point lie in their array. -/
theorem read_26 (X : FVec Ideal S8x32x256x128 .bf16) (t : Fin cfg0.N) (ch : Fin 4) (j : Fin 256) (r : Fin 128) :
    ((cfg0.win 26).blk t).view.read (Elt Ideal) X (ix4 0 ch j r) = X (ix4 (bat t) (⟨4 * (t.val % 8) + ch.val, by omega⟩ : Fin 32) j r) := by
  blk_ext [idx_out t, bat]

/-- The array of the matrix LSTM's queries. -/
theorem mq_eq : (dats m 0 c).arrAt 26 cfg0.N = fun i : S8x32x256x128.Idx => Mix.heads (wts m c (i 0)) (wts m c (i 0)).mwq ⟨128 * (i 1).val + (i 3).val, by have : (i 1).val < 32 := (i 1).isLt; have : (i 3).val < 128 := (i 3).isLt; omega⟩ (i 2) := by
  generalize hX : (fun i : S8x32x256x128.Idx => Mix.heads (wts m c (i 0)) (wts m c (i 0)).mwq ⟨128 * (i 1).val + (i 3).val, by have : (i 1).val < 32 := (i 1).isLt; have : (i 3).val < 128 := (i 3).isLt; omega⟩ (i 2)) = X
  refine (dats m 0 c).arrAt_eq_of_covers 26 _ (by decide +kernel) fun t _ y => ?_
  blk_simp
  rw [after0_26]
  idx_vars y
  obtain rfl : y0 = 0 := Subsingleton.elim _ _
  unfold outsAt0
  dsimp only
  rw [out_26]
  refine (mq_point m c t y1 y2 y3).trans (Eq.trans ?_ (read_26 X t y1 y2 y3).symm)
  rw [← hX]
  rfl

/-- Where the matrix LSTM's values of a grid point lie in their array. -/
theorem read_27 (X : FVec Ideal S8x32x256x128 .bf16) (t : Fin cfg0.N) (ch : Fin 4) (j : Fin 256) (r : Fin 128) :
    ((cfg0.win 27).blk t).view.read (Elt Ideal) X (ix4 0 ch j r) = X (ix4 (bat t) (⟨4 * (t.val % 8) + ch.val, by omega⟩ : Fin 32) j r) := by
  blk_ext [idx_out t, bat]

/-- The array of the matrix LSTM's values. -/
theorem mvt_eq : (dats m 0 c).arrAt 27 cfg0.N = fun i : S8x32x256x128.Idx => Mix.proj (wts m c (i 0)) ⟨128 * (i 1).val + (i 3).val, by have : (i 1).val < 32 := (i 1).isLt; have : (i 3).val < 128 := (i 3).isLt; omega⟩ ⟨928 + (i 2).val, by have : (i 2).val < 256 := (i 2).isLt; omega⟩ := by
  generalize hX : (fun i : S8x32x256x128.Idx => Mix.proj (wts m c (i 0)) ⟨128 * (i 1).val + (i 3).val, by have : (i 1).val < 32 := (i 1).isLt; have : (i 3).val < 128 := (i 3).isLt; omega⟩ ⟨928 + (i 2).val, by have : (i 2).val < 256 := (i 2).isLt; omega⟩) = X
  refine (dats m 0 c).arrAt_eq_of_covers 27 _ (by decide +kernel) fun t _ y => ?_
  blk_simp
  rw [after0_27]
  idx_vars y
  obtain rfl : y0 = 0 := Subsingleton.elim _ _
  unfold outsAt0
  dsimp only
  rw [out_27]
  refine (mvt_point m c t y1 y2 y3).trans (Eq.trans ?_ (read_27 X t y1 y2 y3).symm)
  rw [← hX]
  rfl

/-- Where the products of a grid point lie in their array. -/
theorem read_32 (X : FVec Ideal S4096x2048 .bf16) (t : Fin cfg0.N) (i : Fin 512) (e : Fin 256) :
    ((cfg0.win 32).blk t).view.read (Elt Ideal) X (ix2 i e) = X (ix2 (row t i) (⟨256 * (bat t).val + e.val, by omega⟩ : Fin 2048)) := by
  blk_ext [idx_out t, bat, row]

/-- The array of the products of the Hyena mixer's second and third parts. -/
theorem z_eq : (dats m 0 c).arrAt 32 cfg0.N = fun i : S4096x2048.Idx => Mix.z (wts m c ⟨(i 1).val / 256, by have : (i 1).val < 2048 := (i 1).isLt; omega⟩) (i 0) ⟨(i 1).val % 256, Nat.mod_lt _ (by decide)⟩ := by
  generalize hX : (fun i : S4096x2048.Idx => Mix.z (wts m c ⟨(i 1).val / 256, by have : (i 1).val < 2048 := (i 1).isLt; omega⟩) (i 0) ⟨(i 1).val % 256, Nat.mod_lt _ (by decide)⟩) = X
  refine (dats m 0 c).arrAt_eq_of_covers 32 _ (by decide +kernel) fun t _ y => ?_
  blk_simp
  rw [after0_32]
  idx_vars y
  unfold outsAt0
  dsimp only
  rw [out_32]
  refine (z_point m c t y0 y1).trans (Eq.trans ?_ (read_32 X t y0 y1).symm)
  rw [← hX]
  have eb : bat t = ⟨(256 * (bat t).val + y1.val) / 256, by omega⟩ := Fin.ext (show (bat t).val = (256 * (bat t).val + y1.val) / 256 by omega)
  have ej : y1 = ⟨(256 * (bat t).val + y1.val) % 256, by omega⟩ := Fin.ext (show y1.val = (256 * (bat t).val + y1.val) % 256 by omega)
  exact congrArg₂ (fun b j => Mix.z (wts m c b) (row t y0) j) eb ej

end Cert.MixerInIdeal.Result

end
-- ==== Proof.Mix.Ref.lean ====
module

public import proofs.«01_k».proof.Proof.Gen.MixerInReferenceIdeal.Read
public import proofs.«01_k».proof.Proof.Mix.Spec

/-! # The reference's projections into the mixers -/

@[expose] public section

set_option maxRecDepth 16384

noncomputable section

namespace Cert.MixerInReferenceIdeal.Mix

open Cert.MixerInReferenceIdeal Cert.MixerInReferenceIdeal.Gen Cert.MixerInReferenceIdeal.Read Idealize.ShloMosaic Idealize.ShloMosaic.TcCoe Idealize.SL.Sem

/-- The word of zero, of an integer, is zero. -/
theorem int_zero : (((0#32 : BitVec 32).toInt : ℝ) : EReal) = 0 := by simp

variable (x0 : FVec Ideal S8x4096x1024 .f32) (x1 : FVec Ideal S1024 .f32) (x2 x3 : FVec Ideal S8x1x1024 .f32)
  (x4 : FVec Ideal S1024x2224 .f32) (x5 : FVec Ideal S384 .f32) (x6 : FVec Ideal S256 .f32) (x7 : FVec Ideal S384x768 .f32)
  (x8 : FVec Ideal S256x1024 .f32) (x9 x10 : FVec Ideal S4096x16 .f32) (x11 : FVec Ideal S3x256 .f32) (x12 : FVec Ideal S256 .f32)
  (x13 x14 : FVec Ideal S4x64x64 .f32) (x16 : FVec Ideal S3x768 .f32) (x17 : FVec Ideal S768 .f32)

/-- A batch's rows, modulation and weights. -/
abbrev A (b : Fin 8) : Cert.Mix.Args := Cert.Mix.args x0 x1 x2 x3 x4 x5 x6 x7 x8 x9 x10 x11 x12 x13 x14 x16 x17 b

/-- A row normed and modulated. -/
theorem v18_apply (b : Fin 8) (n : Fin 4096) (e : Fin 1024) :
    val_main_v18 (F := Ideal) x0 x1 x2 x3 (ix3 b n e)
      = Cert.Mix.row (A x0 x1 x2 x3 x4 x5 x6 x7 x8 x9 x10 x11 x12 x13 x14 x16 x17 b) (fun e => x0 (ix3 b n e)) e := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rw [Cert.Mix.row, ← Cert.Ffn.word_one]
  rfl

/-- A row projected. -/
theorem v19_apply (b : Fin 8) (n : Fin 4096) (j : Fin 2224) :
    val_main_v19 (F := Ideal) x0 x1 x2 x3 x4 (ix3 b n j)
      = Cert.Mix.proj (A x0 x1 x2 x3 x4 x5 x6 x7 x8 x9 x10 x11 x12 x13 x14 x16 x17 b) n j := by
  have h : val_main_v19 (F := Ideal) x0 x1 x2 x3 x4 (ix3 b n j)
      = ∑ e : Fin 1024, val_main_v18 (F := Ideal) x0 x1 x2 x3 (ix3 b n e) * x4 (ix2 e j) := by
    pointwise [val_main_v19]
  rw [h]
  simp only [v18_apply x0 x1 x2 x3 x4 x5 x6 x7 x8 x9 x10 x11 x12 x13 x14 x16 x17]
  rfl

/-- The output gates. -/
theorem og_apply (b : Fin 8) (n : Fin 4096) (j : Fin 256) :
    val_main_v176 (F := Ideal) x0 x1 x2 x3 x4 (ix3 b n j)
      = Cert.Mix.proj (A x0 x1 x2 x3 x4 x5 x6 x7 x8 x9 x10 x11 x12 x13 x14 x16 x17 b) n ⟨1184 + j.val, by omega⟩ := by
  rw [← v19_apply]
  pointwise [val_main_v176, val_main_v21, val_main_v20]
  exact congrArg (fun i => val_main_v19 (F := Ideal) x0 x1 x2 x3 x4 (ix3 b n i))
    (Fin.ext (show 672 + (512 + j.val) = 1184 + j.val by omega))

/-- The values of the matrix LSTM, chunk by chunk, transposed. -/
theorem mvt_apply (b : Fin 8) (ch : Fin 32) (j : Fin 256) (r : Fin 128) :
    val_main_v177 (F := Ideal) x0 x1 x2 x3 x4 (ix4 b ch j r)
      = Cert.Mix.proj (A x0 x1 x2 x3 x4 x5 x6 x7 x8 x9 x10 x11 x12 x13 x14 x16 x17 b) ⟨128 * ch.val + r.val, by omega⟩ ⟨928 + j.val, by omega⟩ := by
  rw [← v19_apply]
  pointwise [val_main_v177, val_main_v24, val_main_v23, val_main_v22, val_main_v20]
  exact congrArg₂ (fun n i => val_main_v19 (F := Ideal) x0 x1 x2 x3 x4 (ix3 b n i))
    (Fin.ext (show ch.val * 128 + r.val = 128 * ch.val + r.val by omega))
    (Fin.ext (show 672 + (256 + j.val) = 928 + j.val by omega))

/-- The Hyena mixer's rows, with a row of zeros before and after. -/
theorem v26_apply (b : Fin 8) (p : Fin 4098) (j : Fin 768) :
    val_main_v26 (F := Ideal) x0 x1 x2 x3 x4 (ix3 b p j)
      = Cert.Mix.lift (A x0 x1 x2 x3 x4 x5 x6 x7 x8 x9 x10 x11 x12 x13 x14 x16 x17 b) p.val ⟨1456 + j.val, by omega⟩ := by
  have e (n : Fin 4096) : val_main_v25 (F := Ideal) x0 x1 x2 x3 x4 (ix3 b n j)
      = Cert.Mix.proj (A x0 x1 x2 x3 x4 x5 x6 x7 x8 x9 x10 x11 x12 x13 x14 x16 x17 b) n ⟨1456 + j.val, by omega⟩ := by
    rw [← v19_apply]
    pointwise [val_main_v25]
  pointwise [val_main_v26, val_main_call0_v0, val_main_c]
  rw [Cert.Mix.lift]
  by_cases h : 1 ≤ p.val ∧ p.val ≤ 4096
  · rw [dif_pos h, dif_pos ⟨h.1, by omega⟩, e]
  · rw [dif_neg h, dif_neg (by omega)]
    exact int_zero

/-- The Hyena mixer's convolution. -/
theorem v49_apply (b : Fin 8) (n : Fin 4096) (j : Fin 768) :
    val_main_v49 (F := Ideal) x0 x1 x2 x3 x4 x16 x17 (ix3 b n j)
      = Cert.Mix.hconv (A x0 x1 x2 x3 x4 x5 x6 x7 x8 x9 x10 x11 x12 x13 x14 x16 x17 b) n j := by
  have h : val_main_v49 (F := Ideal) x0 x1 x2 x3 x4 x16 x17 (ix3 b n j)
      = x17 (ix1 j) + val_main_v26 (F := Ideal) x0 x1 x2 x3 x4 (ix3 b (⟨n.val, by omega⟩ : Fin 4098) j) * x16 (ix2 0 j)
        + val_main_v26 (F := Ideal) x0 x1 x2 x3 x4 (ix3 b (⟨1 + n.val, by omega⟩ : Fin 4098) j) * x16 (ix2 1 j)
        + val_main_v26 (F := Ideal) x0 x1 x2 x3 x4 (ix3 b (⟨2 + n.val, by omega⟩ : Fin 4098) j) * x16 (ix2 2 j) := by
    pointwise [val_main_v49, val_main_v48, val_main_v47, val_main_v46, val_main_v45, val_main_v44, val_main_v43, val_main_v42,
      val_main_v41, val_main_v40, val_main_v39, val_main_v38, val_main_v37, val_main_v36, val_main_v35, val_main_v34,
      val_main_v33, val_main_v32, val_main_v31, val_main_v30, val_main_v29, val_main_v28, val_main_v27]
  rw [h]
  simp only [v26_apply x0 x1 x2 x3 x4 x5 x6 x7 x8 x9 x10 x11 x12 x13 x14 x16 x17]
  rw [mul_comm _ (x16 (ix2 0 j)), mul_comm _ (x16 (ix2 1 j)), mul_comm _ (x16 (ix2 2 j)), Nat.add_comm 1 n.val, Nat.add_comm 2 n.val]
  rfl

/-- The Hyena mixer's first part. -/
theorem hy_apply (b : Fin 8) (n : Fin 4096) (j : Fin 256) :
    val_main_v178 (F := Ideal) x0 x1 x2 x3 x4 x16 x17 (ix3 b n j)
      = Cert.Mix.hconv (A x0 x1 x2 x3 x4 x5 x6 x7 x8 x9 x10 x11 x12 x13 x14 x16 x17 b) n ⟨0 + j.val, by omega⟩ := by
  rw [← v49_apply]
  pointwise [val_main_v178, val_main_v50]

/-- The product of its second and third parts, batches side by side. -/
theorem z_apply (n : Fin 4096) (j : Fin 2048) :
    val_main_v179 (F := Ideal) x0 x1 x2 x3 x4 x16 x17 (ix2 n j)
      = Cert.Mix.z (A x0 x1 x2 x3 x4 x5 x6 x7 x8 x9 x10 x11 x12 x13 x14 x16 x17 ⟨j.val / 256, by omega⟩) n ⟨j.val % 256, by omega⟩ := by
  rw [Cert.Mix.z, ← v49_apply, ← v49_apply]
  pointwise [val_main_v179, val_main_v55, val_main_v54, val_main_v53, val_main_v52, val_main_v51]

/-- Keys and values, head by head. -/
theorem v70_apply (b : Fin 8) (n : Fin 4096) (j : Fin 1024) :
    val_main_v70 (F := Ideal) x0 x1 x2 x3 x4 x6 x8 (ix3 b n j)
      = Cert.Mix.kv (A x0 x1 x2 x3 x4 x5 x6 x7 x8 x9 x10 x11 x12 x13 x14 x16 x17 b) n j := by
  have e (k : Fin 256) : val_main_v56 (F := Ideal) x0 x1 x2 x3 x4 (ix3 b n k)
      = Cert.Mix.proj (A x0 x1 x2 x3 x4 x5 x6 x7 x8 x9 x10 x11 x12 x13 x14 x16 x17 b) n ⟨384 + k.val, by omega⟩ := by
    rw [← v19_apply]
    pointwise [val_main_v56]
  pointwise [val_main_v70, val_main_v69, val_main_v68, val_main_v67, val_main_v66, val_main_v65, val_main_v64, val_main_v63,
    val_main_v62, val_main_v61, val_main_v60, val_main_v59, val_main_v58, val_main_v57, val_main_cst_3, val_main_cst_4, val_main_cst_5, e]
  rfl

/-- The values. -/
theorem v_apply (b : Fin 8) (n : Fin 4096) (j : Fin 512) :
    val_main_v180 (F := Ideal) x0 x1 x2 x3 x4 x6 x8 (ix3 b n j)
      = Cert.Mix.v (A x0 x1 x2 x3 x4 x5 x6 x7 x8 x9 x10 x11 x12 x13 x14 x16 x17 b) n j := by
  rw [Cert.Mix.v, ← v70_apply]
  pointwise [val_main_v180, val_main_v73, val_main_v72, val_main_v71]
  exact congrArg (fun i => val_main_v70 (F := Ideal) x0 x1 x2 x3 x4 x6 x8 (ix3 b n i))
    (Fin.ext (show j.val / 64 * 128 + (64 + j.val % 64) = 128 * (j.val / 64) + 64 + j.val % 64 by omega))

/-- The matrix LSTM's rows, with a row of zeros before and after. -/
theorem v75_apply (b : Fin 8) (p : Fin 4098) (j : Fin 256) :
    val_main_v75 (F := Ideal) x0 x1 x2 x3 x4 (ix3 b p j)
      = Cert.Mix.lift (A x0 x1 x2 x3 x4 x5 x6 x7 x8 x9 x10 x11 x12 x13 x14 x16 x17 b) p.val ⟨672 + j.val, by omega⟩ := by
  have e (n : Fin 4096) : val_main_v74 (F := Ideal) x0 x1 x2 x3 x4 (ix3 b n j)
      = Cert.Mix.proj (A x0 x1 x2 x3 x4 x5 x6 x7 x8 x9 x10 x11 x12 x13 x14 x16 x17 b) n ⟨672 + j.val, by omega⟩ := by
    rw [← v19_apply]
    pointwise [val_main_v74, val_main_v20]
  pointwise [val_main_v75, val_main_call1_v0, val_main_c_6]
  rw [Cert.Mix.lift]
  by_cases h : 1 ≤ p.val ∧ p.val ≤ 4096
  · rw [dif_pos h, dif_pos ⟨h.1, by omega⟩, e]
  · rw [dif_neg h, dif_neg (by omega)]
    exact int_zero

/-- The matrix LSTM's convolution. -/
theorem v98_apply (b : Fin 8) (n : Fin 4096) (j : Fin 256) :
    val_main_v98 (F := Ideal) x0 x1 x2 x3 x4 x11 x12 (ix3 b n j)
      = Cert.Mix.mconv (A x0 x1 x2 x3 x4 x5 x6 x7 x8 x9 x10 x11 x12 x13 x14 x16 x17 b) n j := by
  have h : val_main_v98 (F := Ideal) x0 x1 x2 x3 x4 x11 x12 (ix3 b n j)
      = x12 (ix1 j) + val_main_v75 (F := Ideal) x0 x1 x2 x3 x4 (ix3 b (⟨n.val, by omega⟩ : Fin 4098) j) * x11 (ix2 0 j)
        + val_main_v75 (F := Ideal) x0 x1 x2 x3 x4 (ix3 b (⟨1 + n.val, by omega⟩ : Fin 4098) j) * x11 (ix2 1 j)
        + val_main_v75 (F := Ideal) x0 x1 x2 x3 x4 (ix3 b (⟨2 + n.val, by omega⟩ : Fin 4098) j) * x11 (ix2 2 j) := by
    pointwise [val_main_v98, val_main_v97, val_main_v96, val_main_v95, val_main_v94, val_main_v93, val_main_v92, val_main_v91,
      val_main_v90, val_main_v89, val_main_v88, val_main_v87, val_main_v86, val_main_v85, val_main_v84, val_main_v83,
      val_main_v82, val_main_v81, val_main_v80, val_main_v79, val_main_v78, val_main_v77, val_main_v76]
  rw [h]
  simp only [v75_apply x0 x1 x2 x3 x4 x5 x6 x7 x8 x9 x10 x11 x12 x13 x14 x16 x17]
  rw [mul_comm _ (x11 (ix2 0 j)), mul_comm _ (x11 (ix2 1 j)), mul_comm _ (x11 (ix2 2 j)), Nat.add_comm 1 n.val, Nat.add_comm 2 n.val]
  rfl

/-- The same gated, head by head. -/
theorem v100_apply (b : Fin 8) (n : Fin 4096) (h : Fin 4) (d : Fin 64) :
    val_main_v100 (F := Ideal) x0 x1 x2 x3 x4 x11 x12 (ix4 b n h d)
      = Cert.Mix.u (A x0 x1 x2 x3 x4 x5 x6 x7 x8 x9 x10 x11 x12 x13 x14 x16 x17 b) n ⟨64 * h.val + d.val, by omega⟩ := by
  have e : (⟨64 * h.val + d.val, by omega⟩ : Fin 256) = ⟨h.val * 64 + d.val, by omega⟩ :=
    Fin.ext (show 64 * h.val + d.val = h.val * 64 + d.val by omega)
  rw [Cert.Mix.u, ← v98_apply, e]
  pointwise [val_main_v100, val_main_v99, val_main_call2_v5, val_main_call2_v4, val_main_call2_cst_0, val_main_call2_v3,
    val_main_call2_v2, val_main_call2_cst, val_main_call2_v1, val_main_call2_v0]
  rw [Ideal.logistic, ← Cert.Ffn.word_one]

/-- The matrix LSTM's keys. -/
theorem mk_apply (b : Fin 8) (n : Fin 4096) (j : Fin 256) :
    val_main_v181 (F := Ideal) x0 x1 x2 x3 x4 x11 x12 x14 (ix3 b n j)
      = Cert.Mix.heads (A x0 x1 x2 x3 x4 x5 x6 x7 x8 x9 x10 x11 x12 x13 x14 x16 x17 b) (fun h d e => x14 (ix3 h d e)) n j
        * Ideal.ofBits .f32 0x3E000000#32 := by
  pointwise [val_main_v181, val_main_v105, val_main_v104, val_main_v103, val_main_cst_7, val_main_v102, val_main_v101,
    v100_apply x0 x1 x2 x3 x4 x5 x6 x7 x8 x9 x10 x11 x12 x13 x14 x16 x17]
  rw [Cert.Mix.heads]
  exact congrArg (· * _) (Finset.sum_congr rfl fun d _ => mul_comm _ _)

/-- The matrix LSTM's queries, chunk by chunk, transposed. -/
theorem mq_apply (b : Fin 8) (ch : Fin 32) (j : Fin 256) (r : Fin 128) :
    val_main_v182 (F := Ideal) x0 x1 x2 x3 x4 x11 x12 x13 (ix4 b ch j r)
      = Cert.Mix.heads (A x0 x1 x2 x3 x4 x5 x6 x7 x8 x9 x10 x11 x12 x13 x14 x16 x17 b) (fun h d e => x13 (ix3 h d e))
          ⟨128 * ch.val + r.val, by omega⟩ j := by
  pointwise [val_main_v182, val_main_v110, val_main_v109, val_main_v108, val_main_v107, val_main_v106,
    v100_apply x0 x1 x2 x3 x4 x5 x6 x7 x8 x9 x10 x11 x12 x13 x14 x16 x17]
  have e : (⟨128 * ch.val + r.val, by omega⟩ : Fin 4096) = ⟨ch.val * 128 + r.val, by omega⟩ :=
    Fin.ext (show 128 * ch.val + r.val = ch.val * 128 + r.val by omega)
  rw [Cert.Mix.heads, e]
  exact Finset.sum_congr rfl fun d _ => mul_comm _ _

end Cert.MixerInReferenceIdeal.Mix

end
-- ==== Proof.Mix.RefTurn.lean ====
module

public import proofs.«01_k».proof.Proof.Mix.Ref

/-! # The reference's queries and keys -/

@[expose] public section

set_option maxRecDepth 16384

noncomputable section

namespace Cert.MixerInReferenceIdeal.Mix

open Cert.MixerInReferenceIdeal Cert.MixerInReferenceIdeal.Gen Cert.MixerInReferenceIdeal.Read Idealize.ShloMosaic Idealize.ShloMosaic.TcCoe Idealize.SL.Sem

variable (x0 : FVec Ideal S8x4096x1024 .f32) (x1 : FVec Ideal S1024 .f32) (x2 x3 : FVec Ideal S8x1x1024 .f32)
  (x4 : FVec Ideal S1024x2224 .f32) (x5 : FVec Ideal S384 .f32) (x6 : FVec Ideal S256 .f32) (x7 : FVec Ideal S384x768 .f32)
  (x8 : FVec Ideal S256x1024 .f32) (x9 x10 : FVec Ideal S4096x16 .f32) (x11 : FVec Ideal S3x256 .f32) (x12 : FVec Ideal S256 .f32)
  (x13 x14 : FVec Ideal S4x64x64 .f32) (x16 : FVec Ideal S3x768 .f32) (x17 : FVec Ideal S768 .f32)

/-- Three pieces of 64, 32 and 32 lanes side by side. -/
theorem lanes_apply (f : FVec Ideal S8x4096x8x64 .f32) (g z : FVec Ideal S8x4096x8x32 .f32) (b : Fin 8) (n : Fin 4096) (h : Fin 8) (l : Fin 128) :
    concatenate S8x4096x8x128 3 [⟨S8x4096x8x64, f⟩, ⟨S8x4096x8x32, g⟩, ⟨S8x4096x8x32, z⟩]
        concatenates_S8x4096x8x64_S8x4096x8x32_S8x4096x8x32_S8x4096x8x128_d3 (ix4 b n h l)
      = if hl : l.val < 64 then f (ix4 b n h (⟨l.val, hl⟩ : Fin 64))
        else if hl' : l.val < 96 then g (ix4 b n h (⟨l.val - 64, by omega⟩ : Fin 32)) else z (ix4 b n h (⟨l.val - 96, by omega⟩ : Fin 32)) := by
  by_cases hl : l.val < 64
  · rw [dif_pos hl]
    have h3 : 0 + l.val = l.val := by omega
    exact concatenate_apply_piece 3 [⟨S8x4096x8x64, f⟩, ⟨S8x4096x8x32, g⟩, ⟨S8x4096x8x32, z⟩]
      concatenates_S8x4096x8x64_S8x4096x8x32_S8x4096x8x32_S8x4096x8x128_d3 (ix4 b n h l) 0 (show 0 < 3 by omega) S8x4096x8x64 f rfl rfl 0 rfl
      (ix4 b n h (⟨l.val, hl⟩ : Fin 64))
      (fun a ha => match a with
        | ⟨0, _⟩ => rfl
        | ⟨1, _⟩ => rfl
        | ⟨2, _⟩ => rfl
        | ⟨3, _⟩ => absurd rfl ha) h3
  rw [dif_neg hl]
  by_cases hl' : l.val < 96
  · rw [dif_pos hl']
    have h2 : l.val - 64 < 32 := by omega
    have h3 : 64 + (l.val - 64) = l.val := by omega
    exact concatenate_apply_piece 3 [⟨S8x4096x8x64, f⟩, ⟨S8x4096x8x32, g⟩, ⟨S8x4096x8x32, z⟩]
      concatenates_S8x4096x8x64_S8x4096x8x32_S8x4096x8x32_S8x4096x8x128_d3 (ix4 b n h l) 1 (show 1 < 3 by omega) S8x4096x8x32 g rfl rfl 64 rfl
      (ix4 b n h (⟨l.val - 64, h2⟩ : Fin 32))
      (fun a ha => match a with
        | ⟨0, _⟩ => rfl
        | ⟨1, _⟩ => rfl
        | ⟨2, _⟩ => rfl
        | ⟨3, _⟩ => absurd rfl ha) h3
  · rw [dif_neg hl']
    have h2 : l.val - 96 < 32 := by omega
    have h3 : 96 + (l.val - 96) = l.val := by omega
    exact concatenate_apply_piece 3 [⟨S8x4096x8x64, f⟩, ⟨S8x4096x8x32, g⟩, ⟨S8x4096x8x32, z⟩]
      concatenates_S8x4096x8x64_S8x4096x8x32_S8x4096x8x32_S8x4096x8x128_d3 (ix4 b n h l) 2 (show 2 < 3 by omega) S8x4096x8x32 z rfl rfl 96 rfl
      (ix4 b n h (⟨l.val - 96, h2⟩ : Fin 32))
      (fun a ha => match a with
        | ⟨0, _⟩ => rfl
        | ⟨1, _⟩ => rfl
        | ⟨2, _⟩ => rfl
        | ⟨3, _⟩ => absurd rfl ha) h3

/-- A row's column as a head and a lane. -/
theorem idx_lanes (b : Fin 8) (n : Fin 4096) (j : Fin 1024) :
    idx_main_v134 (ix3 b n j) = ix4 b n (⟨j.val / 128, by omega⟩ : Fin 8) (⟨j.val % 128, by omega⟩ : Fin 128) :=
  funext fun a => match a with
    | ⟨0, _⟩ => Fin.ext (show ((b.val * 4096 + n.val) * 1024 + j.val) / 4194304 = b.val by omega)
    | ⟨1, _⟩ => Fin.ext (show ((b.val * 4096 + n.val) * 1024 + j.val) / 1024 % 4096 = n.val by omega)
    | ⟨2, _⟩ => Fin.ext (show ((b.val * 4096 + n.val) * 1024 + j.val) / 128 % 8 = j.val / 128 by omega)
    | ⟨3, _⟩ => Fin.ext (show ((b.val * 4096 + n.val) * 1024 + j.val) % 128 = j.val % 128 by omega)

/-- A head and a lane of keys and values as a row's column. -/
theorem idx_kv (b : Fin 8) (n : Fin 4096) (h : Fin 8) (l : Fin 128) :
    idx_main_v71 (ix4 b n h l) = ix3 b n (⟨128 * h.val + l.val, by omega⟩ : Fin 1024) :=
  funext fun a => match a with
    | ⟨0, _⟩ => Fin.ext (show (((b.val * 4096 + n.val) * 8 + h.val) * 128 + l.val) / 4194304 = b.val by omega)
    | ⟨1, _⟩ => Fin.ext (show (((b.val * 4096 + n.val) * 8 + h.val) * 128 + l.val) / 1024 % 4096 = n.val by omega)
    | ⟨2, _⟩ => Fin.ext (show (((b.val * 4096 + n.val) * 8 + h.val) * 128 + l.val) % 1024 = 128 * h.val + l.val by omega)

/-- A head and a lane of the queries as a row's column. -/
theorem idx_qs (b : Fin 8) (n : Fin 4096) (h : Fin 8) (l : Fin 96) :
    idx_main_v150 (ix4 b n h l) = ix3 b n (⟨96 * h.val + l.val, by omega⟩ : Fin 768) :=
  funext fun a => match a with
    | ⟨0, _⟩ => Fin.ext (show (((b.val * 4096 + n.val) * 8 + h.val) * 96 + l.val) / 3145728 = b.val by omega)
    | ⟨1, _⟩ => Fin.ext (show (((b.val * 4096 + n.val) * 8 + h.val) * 96 + l.val) / 768 % 4096 = n.val by omega)
    | ⟨2, _⟩ => Fin.ext (show (((b.val * 4096 + n.val) * 8 + h.val) * 96 + l.val) % 768 = 96 * h.val + l.val by omega)

/-- The keys' common lanes, turned. -/
theorem v129_apply (b : Fin 8) (n : Fin 4096) (r : Fin 32) :
    val_main_v129 (F := Ideal) x0 x1 x2 x3 x4 x9 x10 (ix3 b n r)
      = Cert.Mix.rope (A x0 x1 x2 x3 x4 x5 x6 x7 x8 x9 x10 x11 x12 x13 x14 x16 x17 b) n
        (fun r => Cert.Mix.proj (A x0 x1 x2 x3 x4 x5 x6 x7 x8 x9 x10 x11 x12 x13 x14 x16 x17 b) n ⟨640 + r.val, by omega⟩) r := by
  have e (k : Fin 32) : val_main_v112 (F := Ideal) x0 x1 x2 x3 x4 (ix3 b n k)
      = Cert.Mix.proj (A x0 x1 x2 x3 x4 x5 x6 x7 x8 x9 x10 x11 x12 x13 x14 x16 x17 b) n ⟨640 + k.val, by omega⟩ := by
    rw [← v19_apply]
    pointwise [val_main_v112]
  have h : val_main_v129 (F := Ideal) x0 x1 x2 x3 x4 x9 x10 (ix3 b n r)
      = if h : r.val < 16 then val_main_v121 (F := Ideal) x0 x1 x2 x3 x4 x9 x10 (ix3 b n (⟨r.val, h⟩ : Fin 16))
        else val_main_v128 (F := Ideal) x0 x1 x2 x3 x4 x9 x10 (ix3 b n (⟨r.val - 16, by omega⟩ : Fin 16)) := by
    pointwise [val_main_v129]
  rw [h, Cert.Mix.rope]
  by_cases hr : r.val < 16
  · rw [dif_pos hr, dif_pos hr]
    pointwise [val_main_v121, val_main_v120, val_main_v119, val_main_v118, val_main_v117, val_main_v116, val_main_v115,
      val_main_v114, val_main_v113, e]
    rfl
  · rw [dif_neg hr, dif_neg hr]
    pointwise [val_main_v128, val_main_v127, val_main_v126, val_main_v125, val_main_v124, val_main_v123, val_main_v122,
      val_main_v114, val_main_v113, e]
    exact congrArg (fun k => Cert.Mix.proj (A x0 x1 x2 x3 x4 x5 x6 x7 x8 x9 x10 x11 x12 x13 x14 x16 x17 b) n ⟨640 + (r.val - 16), by omega⟩ * x10 (ix2 n (⟨r.val - 16, by omega⟩ : Fin 16))
        + Cert.Mix.proj (A x0 x1 x2 x3 x4 x5 x6 x7 x8 x9 x10 x11 x12 x13 x14 x16 x17 b) n k * x9 (ix2 n (⟨r.val - 16, by omega⟩ : Fin 16)))
      (Fin.ext (show 640 + (16 + (r.val - 16)) = 640 + r.val by omega))

/-- The keys. -/
theorem k_apply (b : Fin 8) (n : Fin 4096) (j : Fin 1024) :
    val_main_v183 (F := Ideal) x0 x1 x2 x3 x4 x6 x8 x9 x10 (ix3 b n j)
      = Cert.Mix.k (A x0 x1 x2 x3 x4 x5 x6 x7 x8 x9 x10 x11 x12 x13 x14 x16 x17 b) n j := by
  rw [val_main_v183_apply, val_main_v134_apply, idx_lanes, val_main_v133, lanes_apply, Cert.Mix.k]
  by_cases hl : j.val % 128 < 64
  · rw [dif_pos hl, dif_pos hl, val_main_v132_apply, val_main_v71_apply]
    have e : idx_main_v71 (idx_main_v132 (ix4 b n (⟨j.val / 128, by omega⟩ : Fin 8) (⟨j.val % 128, hl⟩ : Fin 64))) = ix3 b n j :=
      (idx_kv b n ⟨j.val / 128, by omega⟩ ⟨j.val % 128, by omega⟩).trans
        (congrArg (fun l => ix3 b n l) (Fin.ext (show 128 * (j.val / 128) + j.val % 128 = j.val by omega)))
    rw [e]
    exact v70_apply x0 x1 x2 x3 x4 x5 x6 x7 x8 x9 x10 x11 x12 x13 x14 x16 x17 b n j
  rw [dif_neg hl, dif_neg hl]
  by_cases hl' : j.val % 128 < 96
  · rw [dif_pos hl', dif_pos hl', val_main_v131_apply, val_main_v130_apply]
    have e : idx_main_v130 (idx_main_v131 (ix4 b n (⟨j.val / 128, by omega⟩ : Fin 8) (⟨j.val % 128 - 64, by omega⟩ : Fin 32)))
        = ix3 b n (⟨j.val % 128 - 64, by omega⟩ : Fin 32) :=
      funext fun a => match a with
        | ⟨0, _⟩ => rfl
        | ⟨1, _⟩ => rfl
        | ⟨2, _⟩ => rfl
    rw [e]
    exact v129_apply x0 x1 x2 x3 x4 x5 x6 x7 x8 x9 x10 x11 x12 x13 x14 x16 x17 b n ⟨j.val % 128 - 64, by omega⟩
  · rw [dif_neg hl', dif_neg hl', val_main_v111_apply, val_main_cst_8_apply]
    exact Ideal.ofBits_zero .f32

/-- Queries of a row, head by head. -/
theorem v149_apply (b : Fin 8) (n : Fin 4096) (j : Fin 768) :
    val_main_v149 (F := Ideal) x0 x1 x2 x3 x4 x5 x7 (ix3 b n j)
      = Cert.Mix.qs (A x0 x1 x2 x3 x4 x5 x6 x7 x8 x9 x10 x11 x12 x13 x14 x16 x17 b) n j := by
  have e (k : Fin 384) : val_main_v135 (F := Ideal) x0 x1 x2 x3 x4 (ix3 b n k)
      = Cert.Mix.proj (A x0 x1 x2 x3 x4 x5 x6 x7 x8 x9 x10 x11 x12 x13 x14 x16 x17 b) n ⟨0 + k.val, by omega⟩ := by
    rw [← v19_apply]
    pointwise [val_main_v135]
  have h1 (k : Fin 384) : val_main_v148 (F := Ideal) x0 x1 x2 x3 x4 x5 (ix3 b n k)
      = Cert.Mix.rms (Ideal.ofBits .f32 0x43C00000#32) (fun k => x5 (ix1 k)) (fun k => val_main_v135 (F := Ideal) x0 x1 x2 x3 x4 (ix3 b n k)) k := by
    unfold val_main_v148 val_main_v147 val_main_v146 val_main_v145 val_main_v144 val_main_v143 val_main_v142
      val_main_v141 val_main_v140 val_main_v139 val_main_v138 val_main_v137 val_main_v136
    generalize val_main_v135 (F := Ideal) x0 x1 x2 x3 x4 = f
    pointwise [val_main_cst_9, val_main_cst_10, val_main_cst_11]
    rfl
  have h2 : val_main_v149 (F := Ideal) x0 x1 x2 x3 x4 x5 x7 (ix3 b n j)
      = ∑ k : Fin 384, val_main_v148 (F := Ideal) x0 x1 x2 x3 x4 x5 (ix3 b n k) * x7 (ix2 k j) := by
    unfold val_main_v149
    generalize val_main_v148 (F := Ideal) x0 x1 x2 x3 x4 x5 = f
    pointwise
  rw [h2]
  simp only [h1, e]
  rfl

/-- The queries' turned lanes. -/
theorem v170_apply (b : Fin 8) (n : Fin 4096) (h : Fin 8) (r : Fin 32) :
    val_main_v170 (F := Ideal) x0 x1 x2 x3 x4 x5 x7 x9 x10 (ix4 b n h r)
      = Cert.Mix.rope (A x0 x1 x2 x3 x4 x5 x6 x7 x8 x9 x10 x11 x12 x13 x14 x16 x17 b) n
        (fun r => Cert.Mix.qs (A x0 x1 x2 x3 x4 x5 x6 x7 x8 x9 x10 x11 x12 x13 x14 x16 x17 b) n ⟨96 * h.val + 64 + r.val, by omega⟩) r := by
  have e (k : Fin 32) : val_main_v151 (F := Ideal) x0 x1 x2 x3 x4 x5 x7 (ix4 b n h k)
      = Cert.Mix.qs (A x0 x1 x2 x3 x4 x5 x6 x7 x8 x9 x10 x11 x12 x13 x14 x16 x17 b) n ⟨96 * h.val + 64 + k.val, by omega⟩ := by
    rw [← v149_apply]
    rw [val_main_v151_apply, val_main_v150_apply]
    exact congrArg (val_main_v149 (F := Ideal) x0 x1 x2 x3 x4 x5 x7)
      ((idx_qs b n h ⟨64 + k.val, by omega⟩).trans
        (congrArg (fun l => ix3 b n l) (Fin.ext (show 96 * h.val + (64 + k.val) = 96 * h.val + 64 + k.val by omega))))
  have hh : val_main_v170 (F := Ideal) x0 x1 x2 x3 x4 x5 x7 x9 x10 (ix4 b n h r)
      = if h' : r.val < 16 then val_main_v162 (F := Ideal) x0 x1 x2 x3 x4 x5 x7 x9 x10 (ix4 b n h (⟨r.val, h'⟩ : Fin 16))
        else val_main_v169 (F := Ideal) x0 x1 x2 x3 x4 x5 x7 x9 x10 (ix4 b n h (⟨r.val - 16, by omega⟩ : Fin 16)) := by
    pointwise [val_main_v170]
  rw [hh, Cert.Mix.rope]
  by_cases hr : r.val < 16
  · rw [dif_pos hr, dif_pos hr]
    pointwise [val_main_v162, val_main_v161, val_main_v160, val_main_v159, val_main_v158, val_main_v157, val_main_v156,
      val_main_v155, val_main_v154, val_main_v153, val_main_v152, e]
    rfl
  · rw [dif_neg hr, dif_neg hr]
    pointwise [val_main_v169, val_main_v168, val_main_v167, val_main_v166, val_main_v165, val_main_v164, val_main_v163,
      val_main_v155, val_main_v154, val_main_v153, val_main_v152, e]
    have er : (⟨96 * h.val + 64 + (16 + (r.val - 16)), by omega⟩ : Fin 768) = ⟨96 * h.val + 64 + r.val, by omega⟩ :=
      Fin.ext (show 96 * h.val + 64 + (16 + (r.val - 16)) = 96 * h.val + 64 + r.val by omega)
    rw [er]
    rfl

/-- A row's column of the queries as a head and a lane. -/
theorem idx_lanes' (b : Fin 8) (n : Fin 4096) (j : Fin 1024) :
    idx_main_v173 (ix3 b n j) = ix4 b n (⟨j.val / 128, by omega⟩ : Fin 8) (⟨j.val % 128, by omega⟩ : Fin 128) :=
  funext fun a => match a with
    | ⟨0, _⟩ => Fin.ext (show ((b.val * 4096 + n.val) * 1024 + j.val) / 4194304 = b.val by omega)
    | ⟨1, _⟩ => Fin.ext (show ((b.val * 4096 + n.val) * 1024 + j.val) / 1024 % 4096 = n.val by omega)
    | ⟨2, _⟩ => Fin.ext (show ((b.val * 4096 + n.val) * 1024 + j.val) / 128 % 8 = j.val / 128 by omega)
    | ⟨3, _⟩ => Fin.ext (show ((b.val * 4096 + n.val) * 1024 + j.val) % 128 = j.val % 128 by omega)

/-- The queries before their scaling. -/
theorem v173_apply (b : Fin 8) (n : Fin 4096) (j : Fin 1024) :
    val_main_v173 (F := Ideal) x0 x1 x2 x3 x4 x5 x7 x9 x10 (ix3 b n j)
      = if h : j.val % 128 < 64 then Cert.Mix.qs (A x0 x1 x2 x3 x4 x5 x6 x7 x8 x9 x10 x11 x12 x13 x14 x16 x17 b) n ⟨96 * (j.val / 128) + j.val % 128, by omega⟩
        else if h' : j.val % 128 < 96 then Cert.Mix.rope (A x0 x1 x2 x3 x4 x5 x6 x7 x8 x9 x10 x11 x12 x13 x14 x16 x17 b) n
          (fun r => Cert.Mix.qs (A x0 x1 x2 x3 x4 x5 x6 x7 x8 x9 x10 x11 x12 x13 x14 x16 x17 b) n ⟨96 * (j.val / 128) + 64 + r.val, by omega⟩) ⟨j.val % 128 - 64, by omega⟩ else 0 := by
  rw [val_main_v173_apply, idx_lanes', val_main_v172, lanes_apply]
  by_cases hl : j.val % 128 < 64
  · rw [dif_pos hl, dif_pos hl, val_main_v171_apply, val_main_v150_apply]
    have e : idx_main_v150 (idx_main_v171 (ix4 b n (⟨j.val / 128, by omega⟩ : Fin 8) (⟨j.val % 128, hl⟩ : Fin 64)))
        = ix3 b n (⟨96 * (j.val / 128) + j.val % 128, by omega⟩ : Fin 768) :=
      idx_qs b n ⟨j.val / 128, by omega⟩ ⟨j.val % 128, by omega⟩
    rw [e]
    exact v149_apply x0 x1 x2 x3 x4 x5 x6 x7 x8 x9 x10 x11 x12 x13 x14 x16 x17 b n _
  rw [dif_neg hl, dif_neg hl]
  by_cases hl' : j.val % 128 < 96
  · rw [dif_pos hl', dif_pos hl']
    exact v170_apply x0 x1 x2 x3 x4 x5 x6 x7 x8 x9 x10 x11 x12 x13 x14 x16 x17 b n ⟨j.val / 128, by omega⟩ ⟨j.val % 128 - 64, by omega⟩
  · rw [dif_neg hl', dif_neg hl', val_main_v111_apply, val_main_cst_8_apply]
    exact Ideal.ofBits_zero .f32

/-- The queries. -/
theorem q_apply (b : Fin 8) (n : Fin 4096) (j : Fin 1024) :
    val_main_v184 (F := Ideal) x0 x1 x2 x3 x4 x5 x7 x9 x10 (ix3 b n j)
      = Cert.Mix.q (A x0 x1 x2 x3 x4 x5 x6 x7 x8 x9 x10 x11 x12 x13 x14 x16 x17 b) n j := by
  rw [val_main_v184_apply, val_main_v175_apply, val_main_v174_apply, val_main_cst_12_apply, Cert.Mix.q]
  exact congrArg (fun y : EReal => y * Ideal.ofBits .f32 0x3E16C740#32) (v173_apply x0 x1 x2 x3 x4 x5 x6 x7 x8 x9 x10 x11 x12 x13 x14 x16 x17 b n j)

end Cert.MixerInReferenceIdeal.Mix

end
-- ==== Proof.Mix.Same.lean ====
module

public import proofs.«01_k».proof.Defs
public import proofs.«01_k».proof.Proof.Mix.Result
public import proofs.«01_k».proof.Proof.Mix.MixerInFrame
public import proofs.«01_k».proof.Proof.Mix.RefTurn
public import proofs.«01_k».proof.Proof.Gen.MixerInReferenceIdeal.Run
public import Idealize.ShloMosaic.Lib.Claim
public import Idealize.ShloMosaic.Adequacy

/-! # The projections into the mixers: the two programs' results are the same arrays -/

@[expose] public section

set_option maxRecDepth 16384
set_option maxHeartbeats 2000000

noncomputable section

namespace Cert.Mix.Same

open Idealize.ShloMosaic Idealize.ShloMosaic.TcCoe Idealize.SL.Sem Cert.MixerInIdeal Cert.MixerInIdeal.Gen
open Cert.MixerInIdeal.Blocks (wts)
open Cert.MixerInReferenceIdeal.Mix (A)

variable (m : (ℓ : Loc nD τ sig) → Buf (Elt Ideal) ℓ) (c : Dev nD)
variable (x0 : FVec Ideal S8x4096x1024 .f32) (x1 : FVec Ideal S1024 .f32) (x2 x3 : FVec Ideal S8x1x1024 .f32)
  (x4 : FVec Ideal S1024x2224 .f32) (x5 : FVec Ideal S384 .f32) (x6 : FVec Ideal S256 .f32) (x7 : FVec Ideal S384x768 .f32)
  (x8 : FVec Ideal S256x1024 .f32) (x9 x10 : FVec Ideal S4096x16 .f32) (x11 : FVec Ideal S3x256 .f32) (x12 : FVec Ideal S256 .f32)
  (x13 x14 : FVec Ideal S4x64x64 .f32) (x16 : FVec Ideal S3x768 .f32) (x17 : FVec Ideal S768 .f32)

/-- Of equal arguments both sides speak of the same rows and weights. -/
theorem weights (e0 : x0 = m (c, main_arg0))
    (e1 : x1 = m (c, main_arg1))
    (e2 : x2 = m (c, main_arg2))
    (e3 : x3 = m (c, main_arg3))
    (e4 : x4 = m (c, main_arg4))
    (e5 : x5 = m (c, main_arg5))
    (e6 : x6 = m (c, main_arg6))
    (e7 : x7 = m (c, main_arg7))
    (e8 : x8 = m (c, main_arg8))
    (e9 : x9 = m (c, main_arg9))
    (e10 : x10 = m (c, main_arg10))
    (e11 : x11 = m (c, main_arg11))
    (e12 : x12 = m (c, main_arg12))
    (e13 : x13 = m (c, main_arg13))
    (e14 : x14 = m (c, main_arg14))
    (e16 : x16 = m (c, main_arg16))
    (e17 : x17 = m (c, main_arg17)) :
    wts m c = A x0 x1 x2 x3 x4 x5 x6 x7 x8 x9 x10 x11 x12 x13 x14 x16 x17 := by
  subst e0 e1 e2 e3 e4 e5 e6 e7 e8 e9 e10 e11 e12 e13 e14 e16 e17
  rfl

/-- The output gates: the two programs' arrays are the same. -/
theorem og (h : wts m c = A x0 x1 x2 x3 x4 x5 x6 x7 x8 x9 x10 x11 x12 x13 x14 x16 x17) :
    Cert.MixerInReferenceIdeal.Read.val_main_v176 (F := Ideal) x0 x1 x2 x3 x4 = (dats m 0 c).arrAt 30 cfg0.N := by
  rw [Cert.MixerInIdeal.Result.og_eq m c, h]
  funext i
  idx_vars i
  exact Cert.MixerInReferenceIdeal.Mix.og_apply x0 x1 x2 x3 x4 x5 x6 x7 x8 x9 x10 x11 x12 x13 x14 x16 x17 i0 i1 i2

/-- The matrix LSTM's values: the two programs' arrays are the same. -/
theorem mvt (h : wts m c = A x0 x1 x2 x3 x4 x5 x6 x7 x8 x9 x10 x11 x12 x13 x14 x16 x17) :
    Cert.MixerInReferenceIdeal.Read.val_main_v177 (F := Ideal) x0 x1 x2 x3 x4 = (dats m 0 c).arrAt 27 cfg0.N := by
  rw [Cert.MixerInIdeal.Result.mvt_eq m c, h]
  funext i
  idx_vars i
  exact Cert.MixerInReferenceIdeal.Mix.mvt_apply x0 x1 x2 x3 x4 x5 x6 x7 x8 x9 x10 x11 x12 x13 x14 x16 x17 i0 i1 i2 i3

/-- The Hyena mixer's first parts: the two programs' arrays are the same. -/
theorem hx0 (h : wts m c = A x0 x1 x2 x3 x4 x5 x6 x7 x8 x9 x10 x11 x12 x13 x14 x16 x17) :
    Cert.MixerInReferenceIdeal.Read.val_main_v178 (F := Ideal) x0 x1 x2 x3 x4 x16 x17 = (dats m 0 c).arrAt 31 cfg0.N := by
  rw [Cert.MixerInIdeal.Result.x0_eq m c, h]
  funext i
  idx_vars i
  exact Cert.MixerInReferenceIdeal.Mix.hy_apply x0 x1 x2 x3 x4 x5 x6 x7 x8 x9 x10 x11 x12 x13 x14 x16 x17 i0 i1 i2

/-- The products of the Hyena mixer's other parts: the two programs' arrays are the same. -/
theorem z (h : wts m c = A x0 x1 x2 x3 x4 x5 x6 x7 x8 x9 x10 x11 x12 x13 x14 x16 x17) :
    Cert.MixerInReferenceIdeal.Read.val_main_v179 (F := Ideal) x0 x1 x2 x3 x4 x16 x17 = (dats m 0 c).arrAt 32 cfg0.N := by
  rw [Cert.MixerInIdeal.Result.z_eq m c, h]
  funext i
  idx_vars i
  exact Cert.MixerInReferenceIdeal.Mix.z_apply x0 x1 x2 x3 x4 x5 x6 x7 x8 x9 x10 x11 x12 x13 x14 x16 x17 i0 i1

/-- The attention's values: the two programs' arrays are the same. -/
theorem v (h : wts m c = A x0 x1 x2 x3 x4 x5 x6 x7 x8 x9 x10 x11 x12 x13 x14 x16 x17) :
    Cert.MixerInReferenceIdeal.Read.val_main_v180 (F := Ideal) x0 x1 x2 x3 x4 x6 x8 = (dats m 0 c).arrAt 24 cfg0.N := by
  rw [Cert.MixerInIdeal.Result.v_eq m c, h]
  funext i
  idx_vars i
  exact Cert.MixerInReferenceIdeal.Mix.v_apply x0 x1 x2 x3 x4 x5 x6 x7 x8 x9 x10 x11 x12 x13 x14 x16 x17 i0 i1 i2

/-- The matrix LSTM's keys: the two programs' arrays are the same. -/
theorem mk (h : wts m c = A x0 x1 x2 x3 x4 x5 x6 x7 x8 x9 x10 x11 x12 x13 x14 x16 x17) :
    Cert.MixerInReferenceIdeal.Read.val_main_v181 (F := Ideal) x0 x1 x2 x3 x4 x11 x12 x14 = (dats m 0 c).arrAt 25 cfg0.N := by
  rw [Cert.MixerInIdeal.Result.mk_eq m c, h]
  funext i
  idx_vars i
  exact Cert.MixerInReferenceIdeal.Mix.mk_apply x0 x1 x2 x3 x4 x5 x6 x7 x8 x9 x10 x11 x12 x13 x14 x16 x17 i0 i1 i2

/-- The matrix LSTM's queries: the two programs' arrays are the same. -/
theorem mq (h : wts m c = A x0 x1 x2 x3 x4 x5 x6 x7 x8 x9 x10 x11 x12 x13 x14 x16 x17) :
    Cert.MixerInReferenceIdeal.Read.val_main_v182 (F := Ideal) x0 x1 x2 x3 x4 x11 x12 x13 = (dats m 0 c).arrAt 26 cfg0.N := by
  rw [Cert.MixerInIdeal.Result.mq_eq m c, h]
  funext i
  idx_vars i
  exact Cert.MixerInReferenceIdeal.Mix.mq_apply x0 x1 x2 x3 x4 x5 x6 x7 x8 x9 x10 x11 x12 x13 x14 x16 x17 i0 i1 i2 i3

/-- The attention's keys: the two programs' arrays are the same. -/
theorem k (h : wts m c = A x0 x1 x2 x3 x4 x5 x6 x7 x8 x9 x10 x11 x12 x13 x14 x16 x17) :
    Cert.MixerInReferenceIdeal.Read.val_main_v183 (F := Ideal) x0 x1 x2 x3 x4 x6 x8 x9 x10 = (dats m 0 c).arrAt 23 cfg0.N := by
  rw [Cert.MixerInIdeal.Result.k_eq m c, h]
  funext i
  idx_vars i
  exact Cert.MixerInReferenceIdeal.Mix.k_apply x0 x1 x2 x3 x4 x5 x6 x7 x8 x9 x10 x11 x12 x13 x14 x16 x17 i0 i1 i2

/-- The attention's queries: the two programs' arrays are the same. -/
theorem q (h : wts m c = A x0 x1 x2 x3 x4 x5 x6 x7 x8 x9 x10 x11 x12 x13 x14 x16 x17) :
    Cert.MixerInReferenceIdeal.Read.val_main_v184 (F := Ideal) x0 x1 x2 x3 x4 x5 x7 x9 x10 = (dats m 0 c).arrAt 22 cfg0.N := by
  rw [Cert.MixerInIdeal.Result.q_eq m c, h]
  funext i
  idx_vars i
  exact Cert.MixerInReferenceIdeal.Mix.q_apply x0 x1 x2 x3 x4 x5 x6 x7 x8 x9 x10 x11 x12 x13 x14 x16 x17 i0 i1 i2

/-- The projections' reference ends with its arguments unchanged and every counter at zero: it has no counters. -/
theorem reference : quiescent_MixerInReferenceIdeal := fun m g _ =>
  (θ_run Cert.MixerInReferenceIdeal.defs _ _).mono (fun r h => ⟨fun c => (h c).2.2.2.2.2.2.2.2.2, sem_eq_zero_of_no_sems rfl r.2⟩)
    (Cert.MixerInReferenceIdeal.Value.run m g)

/-- Both programs end with the same nine arrays. -/
theorem algebraic : algebraic_MixerInIdeal_MixerInReferenceIdeal := by
  intro m g m' g' hp he
  refine ⟨fun c => (dats m 0 c).arrAt 30 cfg0.N,
    fun c => (dats m 0 c).arrAt 27 cfg0.N,
    fun c => (dats m 0 c).arrAt 31 cfg0.N,
    fun c => (dats m 0 c).arrAt 32 cfg0.N,
    fun c => (dats m 0 c).arrAt 24 cfg0.N,
    fun c => (dats m 0 c).arrAt 25 cfg0.N,
    fun c => (dats m 0 c).arrAt 26 cfg0.N,
    fun c => (dats m 0 c).arrAt 23 cfg0.N,
    fun c => (dats m 0 c).arrAt 22 cfg0.N, ?_, ?_⟩
  · exact (θ_run defs _ _).mono (fun r h c => ⟨(h.2 c).1 30, (h.2 c).1 27, (h.2 c).1 31, (h.2 c).1 32, (h.2 c).1 24, (h.2 c).1 25, (h.2 c).1 26, (h.2 c).1 23, (h.2 c).1 22, h.1.1 c⟩)
      (θ_run_and (frame m g) (run_main m g))
  · refine (θ_run Cert.MixerInReferenceIdeal.defs _ _).mono (fun r h c => ?_) (Cert.MixerInReferenceIdeal.Value.run m' g')
    obtain ⟨e0, e1, e2, e3, e4, e5, e6, e7, e8, e9, e10, e11, e12, e13, e14, e15, e16, e17⟩ := he c
    obtain ⟨r0, r1, r2, r3, r4, r5, r6, r7, r8, rest⟩ := h c
    have hw := weights m c _ _ _ _ _ _ _ _ _ _ _ _ _ _ _ _ _ e0 e1 e2 e3 e4 e5 e6 e7 e8 e9 e10 e11 e12 e13 e14 e16 e17
    have s0 := og m c _ _ _ _ _ _ _ _ _ _ _ _ _ _ _ _ _ hw
    have s1 := mvt m c _ _ _ _ _ _ _ _ _ _ _ _ _ _ _ _ _ hw
    have s2 := hx0 m c _ _ _ _ _ _ _ _ _ _ _ _ _ _ _ _ _ hw
    have s3 := z m c _ _ _ _ _ _ _ _ _ _ _ _ _ _ _ _ _ hw
    have s4 := v m c _ _ _ _ _ _ _ _ _ _ _ _ _ _ _ _ _ hw
    have s5 := mk m c _ _ _ _ _ _ _ _ _ _ _ _ _ _ _ _ _ hw
    have s6 := mq m c _ _ _ _ _ _ _ _ _ _ _ _ _ _ _ _ _ hw
    have s7 := k m c _ _ _ _ _ _ _ _ _ _ _ _ _ _ _ _ _ hw
    have s8 := q m c _ _ _ _ _ _ _ _ _ _ _ _ _ _ _ _ _ hw
    exact ⟨(r0.trans (Cert.MixerInReferenceIdeal.Read.val_main_v176_eq (F := Ideal) _)).trans s0,
      (r1.trans (Cert.MixerInReferenceIdeal.Read.val_main_v177_eq (F := Ideal) _)).trans s1,
      (r2.trans (Cert.MixerInReferenceIdeal.Read.val_main_v178_eq (F := Ideal) _)).trans s2,
      (r3.trans (Cert.MixerInReferenceIdeal.Read.val_main_v179_eq (F := Ideal) _)).trans s3,
      (r4.trans (Cert.MixerInReferenceIdeal.Read.val_main_v180_eq (F := Ideal) _)).trans s4,
      (r5.trans (Cert.MixerInReferenceIdeal.Read.val_main_v181_eq (F := Ideal) _)).trans s5,
      (r6.trans (Cert.MixerInReferenceIdeal.Read.val_main_v182_eq (F := Ideal) _)).trans s6,
      (r7.trans (Cert.MixerInReferenceIdeal.Read.val_main_v183_eq (F := Ideal) _)).trans s7,
      (r8.trans (Cert.MixerInReferenceIdeal.Read.val_main_v184_eq (F := Ideal) _)).trans s8, rest⟩

end Cert.Mix.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.OutFfn
public import proofs.«01_k».proof.Proof.Gen.OutFfn.Skeleton
public import proofs.«01_k».proof.Proof.Gen.OutFfn.Launch
public import proofs.«01_k».proof.Proof.Gen.OutFfn.Points
public import proofs.«01_k».proof.Proof.Gen.OutFfn.Frame
public import proofs.«01_k».proof.Proof.Gen.OutFfnIdeal
public import proofs.«01_k».proof.Proof.Gen.OutFfnIdeal.Skeleton
public import proofs.«01_k».proof.Proof.Gen.OutFfnIdeal.Launch
public import proofs.«01_k».proof.Proof.Gen.OutFfnIdeal.Points
public import proofs.«01_k».proof.Proof.Gen.OutFfnIdeal.Frame
public import proofs.«01_k».proof.Proof.Gen.OutFfnIdeal.Value
public import proofs.«01_k».proof.Proof.Gen.OutFfnReferenceIdeal
public import proofs.«01_k».proof.Proof.Gen.OutFfnReferenceIdeal.Run
public import proofs.«01_k».proof.Proof.Gen.OutFfnReferenceIdeal.Read
public import proofs.«01_k».proof.Proof.Gen.MixerIn
public import proofs.«01_k».proof.Proof.Gen.MixerIn.Skeleton
public import proofs.«01_k».proof.Proof.Gen.MixerIn.Launch
public import proofs.«01_k».proof.Proof.Gen.MixerIn.Points
public import proofs.«01_k».proof.Proof.Mix.MixerInFrame
public import proofs.«01_k».proof.Proof.Gen.MixerInIdeal
public import proofs.«01_k».proof.Proof.Gen.MixerInIdeal.Skeleton
public import proofs.«01_k».proof.Proof.Gen.MixerInIdeal.Launch
public import proofs.«01_k».proof.Proof.Gen.MixerInIdeal.Points
public import proofs.«01_k».proof.Proof.Mix.MixerInIdealFrame
public import proofs.«01_k».proof.Proof.Gen.MixerInReferenceIdeal
public import proofs.«01_k».proof.Proof.Gen.MixerInReferenceIdeal.Run
public import proofs.«01_k».proof.Proof.Gen.MixerInReferenceIdeal.Read
public import proofs.«01_k».proof.Proof.Blocks
public import proofs.«01_k».proof.Proof.Ref
public import proofs.«01_k».proof.Proof.Finite
public import proofs.«01_k».proof.Proof.Ffn.Blocks
public import proofs.«01_k».proof.Proof.Ffn.Ref
public import proofs.«01_k».proof.Proof.Mix.Same
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two programs' results are one array, where no query and no key is infinite. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v23 m' c
      = (Cert.KernelIdeal.Gen.dats m 0 c).arrAt 5 Cert.KernelIdeal.cfg0.N := by
  obtain ⟨p0, p1, p2, p3, p5, p6⟩ := hp c
  have h0 := Finite.real _ _ p0
  have h1 := Finite.real _ _ p1
  have h2 := Finite.real _ _ p2
  have h3 := Finite.real _ _ p3
  have h5 := Finite.real _ _ p5
  have h6 := Finite.real _ _ p6
  rw [Cert.KernelIdeal.Blocks.result_eq m c _ _ _ _ _ _ h0 h1 h2 h3 h5 h6, Cert.ReferenceIdeal.Read.val_main_v23_eq,
    e0, e1, e2, e3, e4, e5, e6, e7]
  funext i
  idx_vars i
  exact Cert.ReferenceIdeal.Attn.result_apply _ _ _ _ _ _ _ _ _ _ _ _ _ _ h0 h1 h2 h3 h5 h6 i0 i1 i2

/-- The reference ends with its arguments unchanged and every counter at zero: it has no counters. -/
theorem reference : quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The two feed-forward programs' results are one array. -/
theorem ffn (m : (ℓ : Loc Cert.OutFfnIdeal.nD Cert.OutFfnIdeal.τ Cert.OutFfnIdeal.sig) → Buf (Elt Ideal) ℓ)
    (m' : (ℓ : Loc Cert.OutFfnReferenceIdeal.nD Cert.OutFfnReferenceIdeal.τ Cert.OutFfnReferenceIdeal.sig) → Buf (Elt Ideal) ℓ)
    (c : Dev Cert.OutFfnIdeal.nD)
    (e0 : m' ((c.tc : Thread Cert.OutFfnReferenceIdeal.nD Cert.OutFfnReferenceIdeal.τ).loc Cert.OutFfnReferenceIdeal.main_arg0) = m ((c.tc : Thread Cert.OutFfnIdeal.nD Cert.OutFfnIdeal.τ).loc Cert.OutFfnIdeal.main_arg0))
    (e1 : m' ((c.tc : Thread Cert.OutFfnReferenceIdeal.nD Cert.OutFfnReferenceIdeal.τ).loc Cert.OutFfnReferenceIdeal.main_arg1) = m ((c.tc : Thread Cert.OutFfnIdeal.nD Cert.OutFfnIdeal.τ).loc Cert.OutFfnIdeal.main_arg1))
    (e2 : m' ((c.tc : Thread Cert.OutFfnReferenceIdeal.nD Cert.OutFfnReferenceIdeal.τ).loc Cert.OutFfnReferenceIdeal.main_arg2) = m ((c.tc : Thread Cert.OutFfnIdeal.nD Cert.OutFfnIdeal.τ).loc Cert.OutFfnIdeal.main_arg2))
    (e3 : m' ((c.tc : Thread Cert.OutFfnReferenceIdeal.nD Cert.OutFfnReferenceIdeal.τ).loc Cert.OutFfnReferenceIdeal.main_arg3) = m ((c.tc : Thread Cert.OutFfnIdeal.nD Cert.OutFfnIdeal.τ).loc Cert.OutFfnIdeal.main_arg3))
    (e4 : m' ((c.tc : Thread Cert.OutFfnReferenceIdeal.nD Cert.OutFfnReferenceIdeal.τ).loc Cert.OutFfnReferenceIdeal.main_arg4) = m ((c.tc : Thread Cert.OutFfnIdeal.nD Cert.OutFfnIdeal.τ).loc Cert.OutFfnIdeal.main_arg4))
    (e5 : m' ((c.tc : Thread Cert.OutFfnReferenceIdeal.nD Cert.OutFfnReferenceIdeal.τ).loc Cert.OutFfnReferenceIdeal.main_arg5) = m ((c.tc : Thread Cert.OutFfnIdeal.nD Cert.OutFfnIdeal.τ).loc Cert.OutFfnIdeal.main_arg5))
    (e6 : m' ((c.tc : Thread Cert.OutFfnReferenceIdeal.nD Cert.OutFfnReferenceIdeal.τ).loc Cert.OutFfnReferenceIdeal.main_arg6) = m ((c.tc : Thread Cert.OutFfnIdeal.nD Cert.OutFfnIdeal.τ).loc Cert.OutFfnIdeal.main_arg6))
    (e7 : m' ((c.tc : Thread Cert.OutFfnReferenceIdeal.nD Cert.OutFfnReferenceIdeal.τ).loc Cert.OutFfnReferenceIdeal.main_arg7) = m ((c.tc : Thread Cert.OutFfnIdeal.nD Cert.OutFfnIdeal.τ).loc Cert.OutFfnIdeal.main_arg7))
    (e8 : m' ((c.tc : Thread Cert.OutFfnReferenceIdeal.nD Cert.OutFfnReferenceIdeal.τ).loc Cert.OutFfnReferenceIdeal.main_arg8) = m ((c.tc : Thread Cert.OutFfnIdeal.nD Cert.OutFfnIdeal.τ).loc Cert.OutFfnIdeal.main_arg8))
    (e9 : m' ((c.tc : Thread Cert.OutFfnReferenceIdeal.nD Cert.OutFfnReferenceIdeal.τ).loc Cert.OutFfnReferenceIdeal.main_arg9) = m ((c.tc : Thread Cert.OutFfnIdeal.nD Cert.OutFfnIdeal.τ).loc Cert.OutFfnIdeal.main_arg9))
    (e10 : m' ((c.tc : Thread Cert.OutFfnReferenceIdeal.nD Cert.OutFfnReferenceIdeal.τ).loc Cert.OutFfnReferenceIdeal.main_arg10) = m ((c.tc : Thread Cert.OutFfnIdeal.nD Cert.OutFfnIdeal.τ).loc Cert.OutFfnIdeal.main_arg10))
    (e11 : m' ((c.tc : Thread Cert.OutFfnReferenceIdeal.nD Cert.OutFfnReferenceIdeal.τ).loc Cert.OutFfnReferenceIdeal.main_arg11) = m ((c.tc : Thread Cert.OutFfnIdeal.nD Cert.OutFfnIdeal.τ).loc Cert.OutFfnIdeal.main_arg11))
    (e12 : m' ((c.tc : Thread Cert.OutFfnReferenceIdeal.nD Cert.OutFfnReferenceIdeal.τ).loc Cert.OutFfnReferenceIdeal.main_arg12) = m ((c.tc : Thread Cert.OutFfnIdeal.nD Cert.OutFfnIdeal.τ).loc Cert.OutFfnIdeal.main_arg12))
    (e13 : m' ((c.tc : Thread Cert.OutFfnReferenceIdeal.nD Cert.OutFfnReferenceIdeal.τ).loc Cert.OutFfnReferenceIdeal.main_arg13) = m ((c.tc : Thread Cert.OutFfnIdeal.nD Cert.OutFfnIdeal.τ).loc Cert.OutFfnIdeal.main_arg13))
    (e14 : m' ((c.tc : Thread Cert.OutFfnReferenceIdeal.nD Cert.OutFfnReferenceIdeal.τ).loc Cert.OutFfnReferenceIdeal.main_arg14) = m ((c.tc : Thread Cert.OutFfnIdeal.nD Cert.OutFfnIdeal.τ).loc Cert.OutFfnIdeal.main_arg14)) :
    Cert.OutFfnReferenceIdeal.Read.val_main_v69 (F := Ideal)
      (m' ((c.tc : Thread Cert.OutFfnReferenceIdeal.nD Cert.OutFfnReferenceIdeal.τ).loc Cert.OutFfnReferenceIdeal.main_arg0))
      (m' ((c.tc : Thread Cert.OutFfnReferenceIdeal.nD Cert.OutFfnReferenceIdeal.τ).loc Cert.OutFfnReferenceIdeal.main_arg1))
      (m' ((c.tc : Thread Cert.OutFfnReferenceIdeal.nD Cert.OutFfnReferenceIdeal.τ).loc Cert.OutFfnReferenceIdeal.main_arg2))
      (m' ((c.tc : Thread Cert.OutFfnReferenceIdeal.nD Cert.OutFfnReferenceIdeal.τ).loc Cert.OutFfnReferenceIdeal.main_arg3))
      (m' ((c.tc : Thread Cert.OutFfnReferenceIdeal.nD Cert.OutFfnReferenceIdeal.τ).loc Cert.OutFfnReferenceIdeal.main_arg4))
      (m' ((c.tc : Thread Cert.OutFfnReferenceIdeal.nD Cert.OutFfnReferenceIdeal.τ).loc Cert.OutFfnReferenceIdeal.main_arg5))
      (m' ((c.tc : Thread Cert.OutFfnReferenceIdeal.nD Cert.OutFfnReferenceIdeal.τ).loc Cert.OutFfnReferenceIdeal.main_arg6))
      (m' ((c.tc : Thread Cert.OutFfnReferenceIdeal.nD Cert.OutFfnReferenceIdeal.τ).loc Cert.OutFfnReferenceIdeal.main_arg7))
      (m' ((c.tc : Thread Cert.OutFfnReferenceIdeal.nD Cert.OutFfnReferenceIdeal.τ).loc Cert.OutFfnReferenceIdeal.main_arg8))
      (m' ((c.tc : Thread Cert.OutFfnReferenceIdeal.nD Cert.OutFfnReferenceIdeal.τ).loc Cert.OutFfnReferenceIdeal.main_arg9))
      (m' ((c.tc : Thread Cert.OutFfnReferenceIdeal.nD Cert.OutFfnReferenceIdeal.τ).loc Cert.OutFfnReferenceIdeal.main_arg10))
      (m' ((c.tc : Thread Cert.OutFfnReferenceIdeal.nD Cert.OutFfnReferenceIdeal.τ).loc Cert.OutFfnReferenceIdeal.main_arg11))
      (m' ((c.tc : Thread Cert.OutFfnReferenceIdeal.nD Cert.OutFfnReferenceIdeal.τ).loc Cert.OutFfnReferenceIdeal.main_arg12))
      (m' ((c.tc : Thread Cert.OutFfnReferenceIdeal.nD Cert.OutFfnReferenceIdeal.τ).loc Cert.OutFfnReferenceIdeal.main_arg13))
      (m' ((c.tc : Thread Cert.OutFfnReferenceIdeal.nD Cert.OutFfnReferenceIdeal.τ).loc Cert.OutFfnReferenceIdeal.main_arg14))
      = (Cert.OutFfnIdeal.Gen.dats m 0 c).arrAt 23 Cert.OutFfnIdeal.cfg0.N := by
  rw [Cert.OutFfnIdeal.Blocks.result_eq m c, e0, e1, e2, e3, e4, e5, e6, e7, e8, e9, e10, e11, e12, e13, e14]
  funext i
  idx_vars i
  exact Cert.OutFfnReferenceIdeal.Ffn.result_apply _ _ _ _ _ _ _ _ _ _ _ _ _ _ _ i0 i1 i2

/-- The feed-forward's reference ends with its arguments unchanged and every counter at zero: it has no counters. -/
theorem ffnReference : quiescent_OutFfnReferenceIdeal := fun m g _ =>
  (θ_run Cert.OutFfnReferenceIdeal.defs _ _).mono (fun r h => ⟨fun c => (h c).2, sem_eq_zero_of_no_sems rfl r.2⟩)
    (Cert.OutFfnReferenceIdeal.Value.run m g)

/-- Everything claimed. -/
theorem claim : Cert.Claim := ⟨Cert.Kernel.Gen.facts, Cert.KernelIdeal.Gen.facts, Cert.ReferenceIdeal.Gen.facts,
  Cert.OutFfn.Gen.facts, Cert.OutFfnIdeal.Gen.facts, Cert.OutFfnReferenceIdeal.Gen.facts,
  Cert.MixerIn.Gen.facts, Cert.MixerInIdeal.Gen.facts, Cert.MixerInReferenceIdeal.Gen.facts, Cert.Pre_finite.Gen.facts,
  fun m g _ => Cert.Kernel.Gen.frame m g, fun m g _ => Cert.KernelIdeal.Gen.frame m g,
  fun m g _ => Cert.KernelIdeal.Gen.frame m g, reference, fun m g _ => reference m g .intro,
  fun m g _ => Cert.OutFfn.Gen.frame m g, fun m g _ => Cert.OutFfnIdeal.Gen.frame m g, ffnReference,
  fun m g _ => Cert.MixerIn.Gen.frame m g, fun m g _ => Cert.MixerInIdeal.Gen.frame m g, Cert.Mix.Same.reference, trivial, by
  intro m g m' g' hp he
  refine ⟨fun c => (Cert.KernelIdeal.Gen.dats m 0 c).arrAt 5 Cert.KernelIdeal.cfg0.N, ?_, ?_⟩
  · run_from Cert.KernelIdeal.Value.run_blocks m g
  · run_from Cert.ReferenceIdeal.Value.run m' g'
    obtain ⟨e0, e1, e2, e3, e4, e5, e6, e7⟩ := he c
    exact value m m' hp c e0 e1 e2 e3 e4 e5 e6 e7, trivial, by
  intro m g m' g' hp he
  refine ⟨fun c => (Cert.OutFfnIdeal.Gen.dats m 0 c).arrAt 23 Cert.OutFfnIdeal.cfg0.N, ?_, ?_⟩
  · run_from Cert.OutFfnIdeal.Value.run_blocks m g
  · run_from Cert.OutFfnReferenceIdeal.Value.run m' g'
    obtain ⟨e0, e1, e2, e3, e4, e5, e6, e7, e8, e9, e10, e11, e12, e13, e14⟩ := he c
    exact (Cert.OutFfnReferenceIdeal.Read.val_main_v69_eq (F := Ideal) _).trans <| ffn m m' c e0 e1 e2 e3 e4 e5 e6 e7 e8 e9 e10 e11 e12 e13 e14,
  trivial, Cert.Mix.Same.algebraic⟩

end Cert.Proof

end
